-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNsa (m : (ℓ : Loc Cert.KernelNsa.nD Cert.KernelNsa.τ Cert.KernelNsa.sig) → Buf (Elt Bits) ℓ) : Prop :=
  True

def Pre_KernelNsaIdeal (m : (ℓ : Loc Cert.KernelNsaIdeal.nD Cert.KernelNsaIdeal.τ Cert.KernelNsaIdeal.sig) → Buf (Elt Ideal) ℓ) : Prop :=
  True

def Pre_KernelNsaIdeal_finite [hPre_finite : Cert.Pre_finite.Facts] (m : (ℓ : Loc Cert.KernelNsaIdeal.nD Cert.KernelNsaIdeal.τ Cert.KernelNsaIdeal.sig) → Buf (Elt Ideal) ℓ) : Prop :=
  ∀ c : Dev Cert.KernelNsaIdeal.nD,
    (Cert.Pre_finite.fn (F := Ideal) (m ((c.tc : Thread Cert.KernelNsaIdeal.nD Cert.KernelNsaIdeal.τ).loc Cert.KernelNsaIdeal.main_arg0)) (m ((c.tc : Thread Cert.KernelNsaIdeal.nD Cert.KernelNsaIdeal.τ).loc Cert.KernelNsaIdeal.main_arg1)) (m ((c.tc : Thread Cert.KernelNsaIdeal.nD Cert.KernelNsaIdeal.τ).loc Cert.KernelNsaIdeal.main_arg2)) (m ((c.tc : Thread Cert.KernelNsaIdeal.nD Cert.KernelNsaIdeal.τ).loc Cert.KernelNsaIdeal.main_arg3)) (m ((c.tc : Thread Cert.KernelNsaIdeal.nD Cert.KernelNsaIdeal.τ).loc Cert.KernelNsaIdeal.main_arg4)) (m ((c.tc : Thread Cert.KernelNsaIdeal.nD Cert.KernelNsaIdeal.τ).loc Cert.KernelNsaIdeal.main_arg5)) (m ((c.tc : Thread Cert.KernelNsaIdeal.nD Cert.KernelNsaIdeal.τ).loc Cert.KernelNsaIdeal.main_arg6)) (m ((c.tc : Thread Cert.KernelNsaIdeal.nD Cert.KernelNsaIdeal.τ).loc Cert.KernelNsaIdeal.main_arg7))).1 = (fun _ => 1#1)
    ∧ (Cert.Pre_finite.fn (F := Ideal) (m ((c.tc : Thread Cert.KernelNsaIdeal.nD Cert.KernelNsaIdeal.τ).loc Cert.KernelNsaIdeal.main_arg0)) (m ((c.tc : Thread Cert.KernelNsaIdeal.nD Cert.KernelNsaIdeal.τ).loc Cert.KernelNsaIdeal.main_arg1)) (m ((c.tc : Thread Cert.KernelNsaIdeal.nD Cert.KernelNsaIdeal.τ).loc Cert.KernelNsaIdeal.main_arg2)) (m ((c.tc : Thread Cert.KernelNsaIdeal.nD Cert.KernelNsaIdeal.τ).loc Cert.KernelNsaIdeal.main_arg3)) (m ((c.tc : Thread Cert.KernelNsaIdeal.nD Cert.KernelNsaIdeal.τ).loc Cert.KernelNsaIdeal.main_arg4)) (m ((c.tc : Thread Cert.KernelNsaIdeal.nD Cert.KernelNsaIdeal.τ).loc Cert.KernelNsaIdeal.main_arg5)) (m ((c.tc : Thread Cert.KernelNsaIdeal.nD Cert.KernelNsaIdeal.τ).loc Cert.KernelNsaIdeal.main_arg6)) (m ((c.tc : Thread Cert.KernelNsaIdeal.nD Cert.KernelNsaIdeal.τ).loc Cert.KernelNsaIdeal.main_arg7))).2.1 = (fun _ => 1#1)
    ∧ (Cert.Pre_finite.fn (F := Ideal) (m ((c.tc : Thread Cert.KernelNsaIdeal.nD Cert.KernelNsaIdeal.τ).loc Cert.KernelNsaIdeal.main_arg0)) (m ((c.tc : Thread Cert.KernelNsaIdeal.nD Cert.KernelNsaIdeal.τ).loc Cert.KernelNsaIdeal.main_arg1)) (m ((c.tc : Thread Cert.KernelNsaIdeal.nD Cert.KernelNsaIdeal.τ).loc Cert.KernelNsaIdeal.main_arg2)) (m ((c.tc : Thread Cert.KernelNsaIdeal.nD Cert.KernelNsaIdeal.τ).loc Cert.KernelNsaIdeal.main_arg3)) (m ((c.tc : Thread Cert.KernelNsaIdeal.nD Cert.KernelNsaIdeal.τ).loc Cert.KernelNsaIdeal.main_arg4)) (m ((c.tc : Thread Cert.KernelNsaIdeal.nD Cert.KernelNsaIdeal.τ).loc Cert.KernelNsaIdeal.main_arg5)) (m ((c.tc : Thread Cert.KernelNsaIdeal.nD Cert.KernelNsaIdeal.τ).loc Cert.KernelNsaIdeal.main_arg6)) (m ((c.tc : Thread Cert.KernelNsaIdeal.nD Cert.KernelNsaIdeal.τ).loc Cert.KernelNsaIdeal.main_arg7))).2.2 = (fun _ => 1#1)

def Pre_ReferenceNsaIdeal (m : (ℓ : Loc Cert.ReferenceNsaIdeal.nD Cert.ReferenceNsaIdeal.τ Cert.ReferenceNsaIdeal.sig) → Buf (Elt Ideal) ℓ) : Prop :=
  True

def Pre_ReferenceNsaIdeal_finite [hPre_finite : Cert.Pre_finite.Facts] (m : (ℓ : Loc Cert.ReferenceNsaIdeal.nD Cert.ReferenceNsaIdeal.τ Cert.ReferenceNsaIdeal.sig) → Buf (Elt Ideal) ℓ) : Prop :=
  ∀ c : Dev Cert.ReferenceNsaIdeal.nD,
    (Cert.Pre_finite.fn (F := Ideal) (m ((c.tc : Thread Cert.ReferenceNsaIdeal.nD Cert.ReferenceNsaIdeal.τ).loc Cert.ReferenceNsaIdeal.main_arg0)) (m ((c.tc : Thread Cert.ReferenceNsaIdeal.nD Cert.ReferenceNsaIdeal.τ).loc Cert.ReferenceNsaIdeal.main_arg1)) (m ((c.tc : Thread Cert.ReferenceNsaIdeal.nD Cert.ReferenceNsaIdeal.τ).loc Cert.ReferenceNsaIdeal.main_arg2)) (m ((c.tc : Thread Cert.ReferenceNsaIdeal.nD Cert.ReferenceNsaIdeal.τ).loc Cert.ReferenceNsaIdeal.main_arg3)) (m ((c.tc : Thread Cert.ReferenceNsaIdeal.nD Cert.ReferenceNsaIdeal.τ).loc Cert.ReferenceNsaIdeal.main_arg4)) (m ((c.tc : Thread Cert.ReferenceNsaIdeal.nD Cert.ReferenceNsaIdeal.τ).loc Cert.ReferenceNsaIdeal.main_arg5)) (m ((c.tc : Thread Cert.ReferenceNsaIdeal.nD Cert.ReferenceNsaIdeal.τ).loc Cert.ReferenceNsaIdeal.main_arg6)) (m ((c.tc : Thread Cert.ReferenceNsaIdeal.nD Cert.ReferenceNsaIdeal.τ).loc Cert.ReferenceNsaIdeal.main_arg7))).1 = (fun _ => 1#1)
    ∧ (Cert.Pre_finite.fn (F := Ideal) (m ((c.tc : Thread Cert.ReferenceNsaIdeal.nD Cert.ReferenceNsaIdeal.τ).loc Cert.ReferenceNsaIdeal.main_arg0)) (m ((c.tc : Thread Cert.ReferenceNsaIdeal.nD Cert.ReferenceNsaIdeal.τ).loc Cert.ReferenceNsaIdeal.main_arg1)) (m ((c.tc : Thread Cert.ReferenceNsaIdeal.nD Cert.ReferenceNsaIdeal.τ).loc Cert.ReferenceNsaIdeal.main_arg2)) (m ((c.tc : Thread Cert.ReferenceNsaIdeal.nD Cert.ReferenceNsaIdeal.τ).loc Cert.ReferenceNsaIdeal.main_arg3)) (m ((c.tc : Thread Cert.ReferenceNsaIdeal.nD Cert.ReferenceNsaIdeal.τ).loc Cert.ReferenceNsaIdeal.main_arg4)) (m ((c.tc : Thread Cert.ReferenceNsaIdeal.nD Cert.ReferenceNsaIdeal.τ).loc Cert.ReferenceNsaIdeal.main_arg5)) (m ((c.tc : Thread Cert.ReferenceNsaIdeal.nD Cert.ReferenceNsaIdeal.τ).loc Cert.ReferenceNsaIdeal.main_arg6)) (m ((c.tc : Thread Cert.ReferenceNsaIdeal.nD Cert.ReferenceNsaIdeal.τ).loc Cert.ReferenceNsaIdeal.main_arg7))).2.1 = (fun _ => 1#1)
    ∧ (Cert.Pre_finite.fn (F := Ideal) (m ((c.tc : Thread Cert.ReferenceNsaIdeal.nD Cert.ReferenceNsaIdeal.τ).loc Cert.ReferenceNsaIdeal.main_arg0)) (m ((c.tc : Thread Cert.ReferenceNsaIdeal.nD Cert.ReferenceNsaIdeal.τ).loc Cert.ReferenceNsaIdeal.main_arg1)) (m ((c.tc : Thread Cert.ReferenceNsaIdeal.nD Cert.ReferenceNsaIdeal.τ).loc Cert.ReferenceNsaIdeal.main_arg2)) (m ((c.tc : Thread Cert.ReferenceNsaIdeal.nD Cert.ReferenceNsaIdeal.τ).loc Cert.ReferenceNsaIdeal.main_arg3)) (m ((c.tc : Thread Cert.ReferenceNsaIdeal.nD Cert.ReferenceNsaIdeal.τ).loc Cert.ReferenceNsaIdeal.main_arg4)) (m ((c.tc : Thread Cert.ReferenceNsaIdeal.nD Cert.ReferenceNsaIdeal.τ).loc Cert.ReferenceNsaIdeal.main_arg5)) (m ((c.tc : Thread Cert.ReferenceNsaIdeal.nD Cert.ReferenceNsaIdeal.τ).loc Cert.ReferenceNsaIdeal.main_arg6)) (m ((c.tc : Thread Cert.ReferenceNsaIdeal.nD Cert.ReferenceNsaIdeal.τ).loc Cert.ReferenceNsaIdeal.main_arg7))).2.2 = (fun _ => 1#1)

def Pre_KernelGdn (m : (ℓ : Loc Cert.KernelGdn.nD Cert.KernelGdn.τ Cert.KernelGdn.sig) → Buf (Elt Bits) ℓ) : Prop :=
  True

def Pre_KernelGdnIdeal (m : (ℓ : Loc Cert.KernelGdnIdeal.nD Cert.KernelGdnIdeal.τ Cert.KernelGdnIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9)
      ∧ r.2.mem ((c.tc : Thread Cert.KernelOut.nD Cert.KernelOut.τ).loc Cert.KernelOut.main_arg10) = m ((c.tc : Thread Cert.KernelOut.nD Cert.KernelOut.τ).loc Cert.KernelOut.main_arg10))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
      ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9)
      ∧ r.2.mem ((c.tc : Thread Cert.ReferenceOutIdeal.nD Cert.ReferenceOutIdeal.τ).loc Cert.ReferenceOutIdeal.main_arg10) = m ((c.tc : Thread Cert.ReferenceOutIdeal.nD Cert.ReferenceOutIdeal.τ).loc Cert.ReferenceOutIdeal.main_arg10))
      ∧ r.2.sem = fun _ => 0)

def quiescent_KernelNsa [hKernelNsa : Cert.KernelNsa.Facts] : Prop :=
  ∀ (m : (ℓ : Loc Cert.KernelNsa.nD Cert.KernelNsa.τ Cert.KernelNsa.sig) → Buf (Elt Bits) ℓ) (g : Dev Cert.KernelNsa.nD → PrngReg), Pre_KernelNsa m →
    θ_run (Cert.KernelNsa.defs (F := Bits)) (onTc (τ := Cert.KernelNsa.τ) (Cert.KernelNsa.main (F := Bits))) ⟨m, fun _ => 0, g⟩ (fun r => (∀ c : Dev Cert.KernelNsa.nD,
      r.2.mem ((c.tc : Thread Cert.KernelNsa.nD Cert.KernelNsa.τ).loc Cert.KernelNsa.main_arg0) = m ((c.tc : Thread Cert.KernelNsa.nD Cert.KernelNsa.τ).loc Cert.KernelNsa.main_arg0)
      ∧ r.2.mem ((c.tc : Thread Cert.KernelNsa.nD Cert.KernelNsa.τ).loc Cert.KernelNsa.main_arg1) = m ((c.tc : Thread Cert.KernelNsa.nD Cert.KernelNsa.τ).loc Cert.KernelNsa.main_arg1)
      ∧ r.2.mem ((c.tc : Thread Cert.KernelNsa.nD Cert.KernelNsa.τ).loc Cert.KernelNsa.main_arg2) = m ((c.tc : Thread Cert.KernelNsa.nD Cert.KernelNsa.τ).loc Cert.KernelNsa.main_arg2)
      ∧ r.2.mem ((c.tc : Thread Cert.KernelNsa.nD Cert.KernelNsa.τ).loc Cert.KernelNsa.main_arg3) = m ((c.tc : Thread Cert.KernelNsa.nD Cert.KernelNsa.τ).loc Cert.KernelNsa.main_arg3)
      ∧ r.2.mem ((c.tc : Thread Cert.KernelNsa.nD Cert.KernelNsa.τ).loc Cert.KernelNsa.main_arg4) = m ((c.tc : Thread Cert.KernelNsa.nD Cert.KernelNsa.τ).loc Cert.KernelNsa.main_arg4)
      ∧ r.2.mem ((c.tc : Thread Cert.KernelNsa.nD Cert.KernelNsa.τ).loc Cert.KernelNsa.main_arg5) = m ((c.tc : Thread Cert.KernelNsa.nD Cert.KernelNsa.τ).loc Cert.KernelNsa.main_arg5)
      ∧ r.2.mem ((c.tc : Thread Cert.KernelNsa.nD Cert.KernelNsa.τ).loc Cert.KernelNsa.main_arg6) = m ((c.tc : Thread Cert.KernelNsa.nD Cert.KernelNsa.τ).loc Cert.KernelNsa.main_arg6)
      ∧ r.2.mem ((c.tc : Thread Cert.KernelNsa.nD Cert.KernelNsa.τ).loc Cert.KernelNsa.main_arg7) = m ((c.tc : Thread Cert.KernelNsa.nD Cert.KernelNsa.τ).loc Cert.KernelNsa.main_arg7))
      ∧ r.2.sem = fun _ => 0)

def quiescent_KernelNsaIdeal [hKernelNsaIdeal : Cert.KernelNsaIdeal.Facts] : Prop :=
  ∀ (m : (ℓ : Loc Cert.KernelNsaIdeal.nD Cert.KernelNsaIdeal.τ Cert.KernelNsaIdeal.sig) → Buf (Elt Ideal) ℓ) (g : Dev Cert.KernelNsaIdeal.nD → PrngReg), Pre_KernelNsaIdeal m →
    θ_run (Cert.KernelNsaIdeal.defs (F := Ideal)) (onTc (τ := Cert.KernelNsaIdeal.τ) (Cert.KernelNsaIdeal.main (F := Ideal))) ⟨m, fun _ => 0, g⟩ (fun r => (∀ c : Dev Cert.KernelNsaIdeal.nD,
      r.2.mem ((c.tc : Thread Cert.KernelNsaIdeal.nD Cert.KernelNsaIdeal.τ).loc Cert.KernelNsaIdeal.main_arg0) = m ((c.tc : Thread Cert.KernelNsaIdeal.nD Cert.KernelNsaIdeal.τ).loc Cert.KernelNsaIdeal.main_arg0)
      ∧ r.2.mem ((c.tc : Thread Cert.KernelNsaIdeal.nD Cert.KernelNsaIdeal.τ).loc Cert.KernelNsaIdeal.main_arg1) = m ((c.tc : Thread Cert.KernelNsaIdeal.nD Cert.KernelNsaIdeal.τ).loc Cert.KernelNsaIdeal.main_arg1)
      ∧ r.2.mem ((c.tc : Thread Cert.KernelNsaIdeal.nD Cert.KernelNsaIdeal.τ).loc Cert.KernelNsaIdeal.main_arg2) = m ((c.tc : Thread Cert.KernelNsaIdeal.nD Cert.KernelNsaIdeal.τ).loc Cert.KernelNsaIdeal.main_arg2)
      ∧ r.2.mem ((c.tc : Thread Cert.KernelNsaIdeal.nD Cert.KernelNsaIdeal.τ).loc Cert.KernelNsaIdeal.main_arg3) = m ((c.tc : Thread Cert.KernelNsaIdeal.nD Cert.KernelNsaIdeal.τ).loc Cert.KernelNsaIdeal.main_arg3)
      ∧ r.2.mem ((c.tc : Thread Cert.KernelNsaIdeal.nD Cert.KernelNsaIdeal.τ).loc Cert.KernelNsaIdeal.main_arg4) = m ((c.tc : Thread Cert.KernelNsaIdeal.nD Cert.KernelNsaIdeal.τ).loc Cert.KernelNsaIdeal.main_arg4)
      ∧ r.2.mem ((c.tc : Thread Cert.KernelNsaIdeal.nD Cert.KernelNsaIdeal.τ).loc Cert.KernelNsaIdeal.main_arg5) = m ((c.tc : Thread Cert.KernelNsaIdeal.nD Cert.KernelNsaIdeal.τ).loc Cert.KernelNsaIdeal.main_arg5)
      ∧ r.2.mem ((c.tc : Thread Cert.KernelNsaIdeal.nD Cert.KernelNsaIdeal.τ).loc Cert.KernelNsaIdeal.main_arg6) = m ((c.tc : Thread Cert.KernelNsaIdeal.nD Cert.KernelNsaIdeal.τ).loc Cert.KernelNsaIdeal.main_arg6)
      ∧ r.2.mem ((c.tc : Thread Cert.KernelNsaIdeal.nD Cert.KernelNsaIdeal.τ).loc Cert.KernelNsaIdeal.main_arg7) = m ((c.tc : Thread Cert.KernelNsaIdeal.nD Cert.KernelNsaIdeal.τ).loc Cert.KernelNsaIdeal.main_arg7))
      ∧ r.2.sem = fun _ => 0)

def quiescent_KernelNsaIdeal_pre_finite [hKernelNsaIdeal : Cert.KernelNsaIdeal.Facts] [hPre_finite : Cert.Pre_finite.Facts] : Prop :=
  ∀ (m : (ℓ : Loc Cert.KernelNsaIdeal.nD Cert.KernelNsaIdeal.τ Cert.KernelNsaIdeal.sig) → Buf (Elt Ideal) ℓ) (g : Dev Cert.KernelNsaIdeal.nD → PrngReg), Pre_KernelNsaIdeal_finite m →
    θ_run (Cert.KernelNsaIdeal.defs (F := Ideal)) (onTc (τ := Cert.KernelNsaIdeal.τ) (Cert.KernelNsaIdeal.main (F := Ideal))) ⟨m, fun _ => 0, g⟩ (fun r => (∀ c : Dev Cert.KernelNsaIdeal.nD,
      r.2.mem ((c.tc : Thread Cert.KernelNsaIdeal.nD Cert.KernelNsaIdeal.τ).loc Cert.KernelNsaIdeal.main_arg0) = m ((c.tc : Thread Cert.KernelNsaIdeal.nD Cert.KernelNsaIdeal.τ).loc Cert.KernelNsaIdeal.main_arg0)
      ∧ r.2.mem ((c.tc : Thread Cert.KernelNsaIdeal.nD Cert.KernelNsaIdeal.τ).loc Cert.KernelNsaIdeal.main_arg1) = m ((c.tc : Thread Cert.KernelNsaIdeal.nD Cert.KernelNsaIdeal.τ).loc Cert.KernelNsaIdeal.main_arg1)
      ∧ r.2.mem ((c.tc : Thread Cert.KernelNsaIdeal.nD Cert.KernelNsaIdeal.τ).loc Cert.KernelNsaIdeal.main_arg2) = m ((c.tc : Thread Cert.KernelNsaIdeal.nD Cert.KernelNsaIdeal.τ).loc Cert.KernelNsaIdeal.main_arg2)
      ∧ r.2.mem ((c.tc : Thread Cert.KernelNsaIdeal.nD Cert.KernelNsaIdeal.τ).loc Cert.KernelNsaIdeal.main_arg3) = m ((c.tc : Thread Cert.KernelNsaIdeal.nD Cert.KernelNsaIdeal.τ).loc Cert.KernelNsaIdeal.main_arg3)
      ∧ r.2.mem ((c.tc : Thread Cert.KernelNsaIdeal.nD Cert.KernelNsaIdeal.τ).loc Cert.KernelNsaIdeal.main_arg4) = m ((c.tc : Thread Cert.KernelNsaIdeal.nD Cert.KernelNsaIdeal.τ).loc Cert.KernelNsaIdeal.main_arg4)
      ∧ r.2.mem ((c.tc : Thread Cert.KernelNsaIdeal.nD Cert.KernelNsaIdeal.τ).loc Cert.KernelNsaIdeal.main_arg5) = m ((c.tc : Thread Cert.KernelNsaIdeal.nD Cert.KernelNsaIdeal.τ).loc Cert.KernelNsaIdeal.main_arg5)
      ∧ r.2.mem ((c.tc : Thread Cert.KernelNsaIdeal.nD Cert.KernelNsaIdeal.τ).loc Cert.KernelNsaIdeal.main_arg6) = m ((c.tc : Thread Cert.KernelNsaIdeal.nD Cert.KernelNsaIdeal.τ).loc Cert.KernelNsaIdeal.main_arg6)
      ∧ r.2.mem ((c.tc : Thread Cert.KernelNsaIdeal.nD Cert.KernelNsaIdeal.τ).loc Cert.KernelNsaIdeal.main_arg7) = m ((c.tc : Thread Cert.KernelNsaIdeal.nD Cert.KernelNsaIdeal.τ).loc Cert.KernelNsaIdeal.main_arg7))
      ∧ r.2.sem = fun _ => 0)

def quiescent_ReferenceNsaIdeal [hReferenceNsaIdeal : Cert.ReferenceNsaIdeal.Facts] : Prop :=
  ∀ (m : (ℓ : Loc Cert.ReferenceNsaIdeal.nD Cert.ReferenceNsaIdeal.τ Cert.ReferenceNsaIdeal.sig) → Buf (Elt Ideal) ℓ) (g : Dev Cert.ReferenceNsaIdeal.nD → PrngReg), Pre_ReferenceNsaIdeal m →
    θ_run (Cert.ReferenceNsaIdeal.defs (F := Ideal)) (onTc (τ := Cert.ReferenceNsaIdeal.τ) (Cert.ReferenceNsaIdeal.main (F := Ideal))) ⟨m, fun _ => 0, g⟩ (fun r => (∀ c : Dev Cert.ReferenceNsaIdeal.nD,
      r.2.mem ((c.tc : Thread Cert.ReferenceNsaIdeal.nD Cert.ReferenceNsaIdeal.τ).loc Cert.ReferenceNsaIdeal.main_arg0) = m ((c.tc : Thread Cert.ReferenceNsaIdeal.nD Cert.ReferenceNsaIdeal.τ).loc Cert.ReferenceNsaIdeal.main_arg0)
      ∧ r.2.mem ((c.tc : Thread Cert.ReferenceNsaIdeal.nD Cert.ReferenceNsaIdeal.τ).loc Cert.ReferenceNsaIdeal.main_arg1) = m ((c.tc : Thread Cert.ReferenceNsaIdeal.nD Cert.ReferenceNsaIdeal.τ).loc Cert.ReferenceNsaIdeal.main_arg1)
      ∧ r.2.mem ((c.tc : Thread Cert.ReferenceNsaIdeal.nD Cert.ReferenceNsaIdeal.τ).loc Cert.ReferenceNsaIdeal.main_arg2) = m ((c.tc : Thread Cert.ReferenceNsaIdeal.nD Cert.ReferenceNsaIdeal.τ).loc Cert.ReferenceNsaIdeal.main_arg2)
      ∧ r.2.mem ((c.tc : Thread Cert.ReferenceNsaIdeal.nD Cert.ReferenceNsaIdeal.τ).loc Cert.ReferenceNsaIdeal.main_arg3) = m ((c.tc : Thread Cert.ReferenceNsaIdeal.nD Cert.ReferenceNsaIdeal.τ).loc Cert.ReferenceNsaIdeal.main_arg3)
      ∧ r.2.mem ((c.tc : Thread Cert.ReferenceNsaIdeal.nD Cert.ReferenceNsaIdeal.τ).loc Cert.ReferenceNsaIdeal.main_arg4) = m ((c.tc : Thread Cert.ReferenceNsaIdeal.nD Cert.ReferenceNsaIdeal.τ).loc Cert.ReferenceNsaIdeal.main_arg4)
      ∧ r.2.mem ((c.tc : Thread Cert.ReferenceNsaIdeal.nD Cert.ReferenceNsaIdeal.τ).loc Cert.ReferenceNsaIdeal.main_arg5) = m ((c.tc : Thread Cert.ReferenceNsaIdeal.nD Cert.ReferenceNsaIdeal.τ).loc Cert.ReferenceNsaIdeal.main_arg5)
      ∧ r.2.mem ((c.tc : Thread Cert.ReferenceNsaIdeal.nD Cert.ReferenceNsaIdeal.τ).loc Cert.ReferenceNsaIdeal.main_arg6) = m ((c.tc : Thread Cert.ReferenceNsaIdeal.nD Cert.ReferenceNsaIdeal.τ).loc Cert.ReferenceNsaIdeal.main_arg6)
      ∧ r.2.mem ((c.tc : Thread Cert.ReferenceNsaIdeal.nD Cert.ReferenceNsaIdeal.τ).loc Cert.ReferenceNsaIdeal.main_arg7) = m ((c.tc : Thread Cert.ReferenceNsaIdeal.nD Cert.ReferenceNsaIdeal.τ).loc Cert.ReferenceNsaIdeal.main_arg7))
      ∧ r.2.sem = fun _ => 0)

def quiescent_ReferenceNsaIdeal_pre_finite [hReferenceNsaIdeal : Cert.ReferenceNsaIdeal.Facts] [hPre_finite : Cert.Pre_finite.Facts] : Prop :=
  ∀ (m : (ℓ : Loc Cert.ReferenceNsaIdeal.nD Cert.ReferenceNsaIdeal.τ Cert.ReferenceNsaIdeal.sig) → Buf (Elt Ideal) ℓ) (g : Dev Cert.ReferenceNsaIdeal.nD → PrngReg), Pre_ReferenceNsaIdeal_finite m →
    θ_run (Cert.ReferenceNsaIdeal.defs (F := Ideal)) (onTc (τ := Cert.ReferenceNsaIdeal.τ) (Cert.ReferenceNsaIdeal.main (F := Ideal))) ⟨m, fun _ => 0, g⟩ (fun r => (∀ c : Dev Cert.ReferenceNsaIdeal.nD,
      r.2.mem ((c.tc : Thread Cert.ReferenceNsaIdeal.nD Cert.ReferenceNsaIdeal.τ).loc Cert.ReferenceNsaIdeal.main_arg0) = m ((c.tc : Thread Cert.ReferenceNsaIdeal.nD Cert.ReferenceNsaIdeal.τ).loc Cert.ReferenceNsaIdeal.main_arg0)
      ∧ r.2.mem ((c.tc : Thread Cert.ReferenceNsaIdeal.nD Cert.ReferenceNsaIdeal.τ).loc Cert.ReferenceNsaIdeal.main_arg1) = m ((c.tc : Thread Cert.ReferenceNsaIdeal.nD Cert.ReferenceNsaIdeal.τ).loc Cert.ReferenceNsaIdeal.main_arg1)
      ∧ r.2.mem ((c.tc : Thread Cert.ReferenceNsaIdeal.nD Cert.ReferenceNsaIdeal.τ).loc Cert.ReferenceNsaIdeal.main_arg2) = m ((c.tc : Thread Cert.ReferenceNsaIdeal.nD Cert.ReferenceNsaIdeal.τ).loc Cert.ReferenceNsaIdeal.main_arg2)
      ∧ r.2.mem ((c.tc : Thread Cert.ReferenceNsaIdeal.nD Cert.ReferenceNsaIdeal.τ).loc Cert.ReferenceNsaIdeal.main_arg3) = m ((c.tc : Thread Cert.ReferenceNsaIdeal.nD Cert.ReferenceNsaIdeal.τ).loc Cert.ReferenceNsaIdeal.main_arg3)
      ∧ r.2.mem ((c.tc : Thread Cert.ReferenceNsaIdeal.nD Cert.ReferenceNsaIdeal.τ).loc Cert.ReferenceNsaIdeal.main_arg4) = m ((c.tc : Thread Cert.ReferenceNsaIdeal.nD Cert.ReferenceNsaIdeal.τ).loc Cert.ReferenceNsaIdeal.main_arg4)
      ∧ r.2.mem ((c.tc : Thread Cert.ReferenceNsaIdeal.nD Cert.ReferenceNsaIdeal.τ).loc Cert.ReferenceNsaIdeal.main_arg5) = m ((c.tc : Thread Cert.ReferenceNsaIdeal.nD Cert.ReferenceNsaIdeal.τ).loc Cert.ReferenceNsaIdeal.main_arg5)
      ∧ r.2.mem ((c.tc : Thread Cert.ReferenceNsaIdeal.nD Cert.ReferenceNsaIdeal.τ).loc Cert.ReferenceNsaIdeal.main_arg6) = m ((c.tc : Thread Cert.ReferenceNsaIdeal.nD Cert.ReferenceNsaIdeal.τ).loc Cert.ReferenceNsaIdeal.main_arg6)
      ∧ r.2.mem ((c.tc : Thread Cert.ReferenceNsaIdeal.nD Cert.ReferenceNsaIdeal.τ).loc Cert.ReferenceNsaIdeal.main_arg7) = m ((c.tc : Thread Cert.ReferenceNsaIdeal.nD Cert.ReferenceNsaIdeal.τ).loc Cert.ReferenceNsaIdeal.main_arg7))
      ∧ r.2.sem = fun _ => 0)

def quiescent_KernelGdn [hKernelGdn : Cert.KernelGdn.Facts] : Prop :=
  ∀ (m : (ℓ : Loc Cert.KernelGdn.nD Cert.KernelGdn.τ Cert.KernelGdn.sig) → Buf (Elt Bits) ℓ) (g : Dev Cert.KernelGdn.nD → PrngReg), Pre_KernelGdn m →
    θ_run (Cert.KernelGdn.defs (F := Bits)) (onTc (τ := Cert.KernelGdn.τ) (Cert.KernelGdn.main (F := Bits))) ⟨m, fun _ => 0, g⟩ (fun r => (∀ c : Dev Cert.KernelGdn.nD,
      r.2.mem ((c.tc : Thread Cert.KernelGdn.nD Cert.KernelGdn.τ).loc Cert.KernelGdn.main_arg0) = m ((c.tc : Thread Cert.KernelGdn.nD Cert.KernelGdn.τ).loc Cert.KernelGdn.main_arg0)
      ∧ r.2.mem ((c.tc : Thread Cert.KernelGdn.nD Cert.KernelGdn.τ).loc Cert.KernelGdn.main_arg1) = m ((c.tc : Thread Cert.KernelGdn.nD Cert.KernelGdn.τ).loc Cert.KernelGdn.main_arg1)
      ∧ r.2.mem ((c.tc : Thread Cert.KernelGdn.nD Cert.KernelGdn.τ).loc Cert.KernelGdn.main_arg2) = m ((c.tc : Thread Cert.KernelGdn.nD Cert.KernelGdn.τ).loc Cert.KernelGdn.main_arg2)
      ∧ r.2.mem ((c.tc : Thread Cert.KernelGdn.nD Cert.KernelGdn.τ).loc Cert.KernelGdn.main_arg3) = m ((c.tc : Thread Cert.KernelGdn.nD Cert.KernelGdn.τ).loc Cert.KernelGdn.main_arg3)
      ∧ r.2.mem ((c.tc : Thread Cert.KernelGdn.nD Cert.KernelGdn.τ).loc Cert.KernelGdn.main_arg4) = m ((c.tc : Thread Cert.KernelGdn.nD Cert.KernelGdn.τ).loc Cert.KernelGdn.main_arg4))
      ∧ r.2.sem = fun _ => 0)

def quiescent_KernelGdnIdeal [hKernelGdnIdeal : Cert.KernelGdnIdeal.Facts] : Prop :=
  ∀ (m : (ℓ : Loc Cert.KernelGdnIdeal.nD Cert.KernelGdnIdeal.τ Cert.KernelGdnIdeal.sig) → Buf (Elt Ideal) ℓ) (g : Dev Cert.KernelGdnIdeal.nD → PrngReg), Pre_KernelGdnIdeal m →
    θ_run (Cert.KernelGdnIdeal.defs (F := Ideal)) (onTc (τ := Cert.KernelGdnIdeal.τ) (Cert.KernelGdnIdeal.main (F := Ideal))) ⟨m, fun _ => 0, g⟩ (fun r => (∀ c : Dev Cert.KernelGdnIdeal.nD,
      r.2.mem ((c.tc : Thread Cert.KernelGdnIdeal.nD Cert.KernelGdnIdeal.τ).loc Cert.KernelGdnIdeal.main_arg0) = m ((c.tc : Thread Cert.KernelGdnIdeal.nD Cert.KernelGdnIdeal.τ).loc Cert.KernelGdnIdeal.main_arg0)
      ∧ r.2.mem ((c.tc : Thread Cert.KernelGdnIdeal.nD Cert.KernelGdnIdeal.τ).loc Cert.KernelGdnIdeal.main_arg1) = m ((c.tc : Thread Cert.KernelGdnIdeal.nD Cert.KernelGdnIdeal.τ).loc Cert.KernelGdnIdeal.main_arg1)
      ∧ r.2.mem ((c.tc : Thread Cert.KernelGdnIdeal.nD Cert.KernelGdnIdeal.τ).loc Cert.KernelGdnIdeal.main_arg2) = m ((c.tc : Thread Cert.KernelGdnIdeal.nD Cert.KernelGdnIdeal.τ).loc Cert.KernelGdnIdeal.main_arg2)
      ∧ r.2.mem ((c.tc : Thread Cert.KernelGdnIdeal.nD Cert.KernelGdnIdeal.τ).loc Cert.KernelGdnIdeal.main_arg3) = m ((c.tc : Thread Cert.KernelGdnIdeal.nD Cert.KernelGdnIdeal.τ).loc Cert.KernelGdnIdeal.main_arg3)
      ∧ r.2.mem ((c.tc : Thread Cert.KernelGdnIdeal.nD Cert.KernelGdnIdeal.τ).loc Cert.KernelGdnIdeal.main_arg4) = m ((c.tc : Thread Cert.KernelGdnIdeal.nD Cert.KernelGdnIdeal.τ).loc Cert.KernelGdnIdeal.main_arg4))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)
      ∧ m' ((c.tc : Thread Cert.ReferenceOutIdeal.nD Cert.ReferenceOutIdeal.τ).loc Cert.ReferenceOutIdeal.main_arg10) = m ((c.tc : Thread Cert.KernelOutIdeal.nD Cert.KernelOutIdeal.τ).loc Cert.KernelOutIdeal.main_arg10)) →
    ∃ (v0 : (c : Dev Cert.KernelOutIdeal.nD) → Buf (Elt Ideal) ((c.tc : Thread Cert.KernelOutIdeal.nD Cert.KernelOutIdeal.τ).loc Cert.KernelOutIdeal.main_v9_0)) (v1 : (c : Dev Cert.KernelOutIdeal.nD) → Buf (Elt Ideal) ((c.tc : Thread Cert.KernelOutIdeal.nD Cert.KernelOutIdeal.τ).loc Cert.KernelOutIdeal.main_v9_1)) (v2 : (c : Dev Cert.KernelOutIdeal.nD) → Buf (Elt Ideal) ((c.tc : Thread Cert.KernelOutIdeal.nD Cert.KernelOutIdeal.τ).loc Cert.KernelOutIdeal.main_v9_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v9_0) = v0 c
          ∧ r.2.mem ((c.tc : Thread Cert.KernelOutIdeal.nD Cert.KernelOutIdeal.τ).loc Cert.KernelOutIdeal.main_v9_1) = v1 c
          ∧ r.2.mem ((c.tc : Thread Cert.KernelOutIdeal.nD Cert.KernelOutIdeal.τ).loc Cert.KernelOutIdeal.main_v9_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
          ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v15) = v0 c
          ∧ r.2.mem ((c.tc : Thread Cert.ReferenceOutIdeal.nD Cert.ReferenceOutIdeal.τ).loc Cert.ReferenceOutIdeal.main_v28) = v1 c
          ∧ r.2.mem ((c.tc : Thread Cert.ReferenceOutIdeal.nD Cert.ReferenceOutIdeal.τ).loc Cert.ReferenceOutIdeal.main_v38) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9)
          ∧ r.2.mem ((c.tc : Thread Cert.ReferenceOutIdeal.nD Cert.ReferenceOutIdeal.τ).loc Cert.ReferenceOutIdeal.main_arg10) = m' ((c.tc : Thread Cert.ReferenceOutIdeal.nD Cert.ReferenceOutIdeal.τ).loc Cert.ReferenceOutIdeal.main_arg10))

def preserves_KernelNsa_KernelNsaIdeal : Prop :=
  IdealRules.named_const.Statement Cert.KernelNsaIdeal.κ "mask" .f32 0xF149F2CA#32 ⊥

def algebraic_KernelNsaIdeal_ReferenceNsaIdeal_pre_finite [hKernelNsaIdeal : Cert.KernelNsaIdeal.Facts] [hReferenceNsaIdeal : Cert.ReferenceNsaIdeal.Facts] [hPre_finite : Cert.Pre_finite.Facts] : Prop :=
  ∀ (m : (ℓ : Loc Cert.KernelNsaIdeal.nD Cert.KernelNsaIdeal.τ Cert.KernelNsaIdeal.sig) → Buf (Elt Ideal) ℓ) (g : Dev Cert.KernelNsaIdeal.nD → PrngReg)
    (m' : (ℓ : Loc Cert.ReferenceNsaIdeal.nD Cert.ReferenceNsaIdeal.τ Cert.ReferenceNsaIdeal.sig) → Buf (Elt Ideal) ℓ) (g' : Dev Cert.ReferenceNsaIdeal.nD → PrngReg), Pre_KernelNsaIdeal_finite m →
    (∀ c : Dev Cert.KernelNsaIdeal.nD,
      m' ((c.tc : Thread Cert.ReferenceNsaIdeal.nD Cert.ReferenceNsaIdeal.τ).loc Cert.ReferenceNsaIdeal.main_arg0) = m ((c.tc : Thread Cert.KernelNsaIdeal.nD Cert.KernelNsaIdeal.τ).loc Cert.KernelNsaIdeal.main_arg0)
      ∧ m' ((c.tc : Thread Cert.ReferenceNsaIdeal.nD Cert.ReferenceNsaIdeal.τ).loc Cert.ReferenceNsaIdeal.main_arg1) = m ((c.tc : Thread Cert.KernelNsaIdeal.nD Cert.KernelNsaIdeal.τ).loc Cert.KernelNsaIdeal.main_arg1)
      ∧ m' ((c.tc : Thread Cert.ReferenceNsaIdeal.nD Cert.ReferenceNsaIdeal.τ).loc Cert.ReferenceNsaIdeal.main_arg2) = m ((c.tc : Thread Cert.KernelNsaIdeal.nD Cert.KernelNsaIdeal.τ).loc Cert.KernelNsaIdeal.main_arg2)
      ∧ m' ((c.tc : Thread Cert.ReferenceNsaIdeal.nD Cert.ReferenceNsaIdeal.τ).loc Cert.ReferenceNsaIdeal.main_arg3) = m ((c.tc : Thread Cert.KernelNsaIdeal.nD Cert.KernelNsaIdeal.τ).loc Cert.KernelNsaIdeal.main_arg3)
      ∧ m' ((c.tc : Thread Cert.ReferenceNsaIdeal.nD Cert.ReferenceNsaIdeal.τ).loc Cert.ReferenceNsaIdeal.main_arg4) = m ((c.tc : Thread Cert.KernelNsaIdeal.nD Cert.KernelNsaIdeal.τ).loc Cert.KernelNsaIdeal.main_arg4)
      ∧ m' ((c.tc : Thread Cert.ReferenceNsaIdeal.nD Cert.ReferenceNsaIdeal.τ).loc Cert.ReferenceNsaIdeal.main_arg5) = m ((c.tc : Thread Cert.KernelNsaIdeal.nD Cert.KernelNsaIdeal.τ).loc Cert.KernelNsaIdeal.main_arg5)
      ∧ m' ((c.tc : Thread Cert.ReferenceNsaIdeal.nD Cert.ReferenceNsaIdeal.τ).loc Cert.ReferenceNsaIdeal.main_arg6) = m ((c.tc : Thread Cert.KernelNsaIdeal.nD Cert.KernelNsaIdeal.τ).loc Cert.KernelNsaIdeal.main_arg6)
      ∧ m' ((c.tc : Thread Cert.ReferenceNsaIdeal.nD Cert.ReferenceNsaIdeal.τ).loc Cert.ReferenceNsaIdeal.main_arg7) = m ((c.tc : Thread Cert.KernelNsaIdeal.nD Cert.KernelNsaIdeal.τ).loc Cert.KernelNsaIdeal.main_arg7)) →
    ∃ (v0 : (c : Dev Cert.KernelNsaIdeal.nD) → Buf (Elt Ideal) ((c.tc : Thread Cert.KernelNsaIdeal.nD Cert.KernelNsaIdeal.τ).loc Cert.KernelNsaIdeal.main_v63)),
      θ_run (Cert.KernelNsaIdeal.defs (F := Ideal)) (onTc (τ := Cert.KernelNsaIdeal.τ) (Cert.KernelNsaIdeal.main (F := Ideal))) ⟨m, fun _ => 0, g⟩ (fun r => ∀ c : Dev Cert.KernelNsaIdeal.nD,
          r.2.mem ((c.tc : Thread Cert.KernelNsaIdeal.nD Cert.KernelNsaIdeal.τ).loc Cert.KernelNsaIdeal.main_v63) = v0 c
          ∧ r.2.mem ((c.tc : Thread Cert.KernelNsaIdeal.nD Cert.KernelNsaIdeal.τ).loc Cert.KernelNsaIdeal.main_arg0) = m ((c.tc : Thread Cert.KernelNsaIdeal.nD Cert.KernelNsaIdeal.τ).loc Cert.KernelNsaIdeal.main_arg0)
          ∧ r.2.mem ((c.tc : Thread Cert.KernelNsaIdeal.nD Cert.KernelNsaIdeal.τ).loc Cert.KernelNsaIdeal.main_arg1) = m ((c.tc : Thread Cert.KernelNsaIdeal.nD Cert.KernelNsaIdeal.τ).loc Cert.KernelNsaIdeal.main_arg1)
          ∧ r.2.mem ((c.tc : Thread Cert.KernelNsaIdeal.nD Cert.KernelNsaIdeal.τ).loc Cert.KernelNsaIdeal.main_arg2) = m ((c.tc : Thread Cert.KernelNsaIdeal.nD Cert.KernelNsaIdeal.τ).loc Cert.KernelNsaIdeal.main_arg2)
          ∧ r.2.mem ((c.tc : Thread Cert.KernelNsaIdeal.nD Cert.KernelNsaIdeal.τ).loc Cert.KernelNsaIdeal.main_arg3) = m ((c.tc : Thread Cert.KernelNsaIdeal.nD Cert.KernelNsaIdeal.τ).loc Cert.KernelNsaIdeal.main_arg3)
          ∧ r.2.mem ((c.tc : Thread Cert.KernelNsaIdeal.nD Cert.KernelNsaIdeal.τ).loc Cert.KernelNsaIdeal.main_arg4) = m ((c.tc : Thread Cert.KernelNsaIdeal.nD Cert.KernelNsaIdeal.τ).loc Cert.KernelNsaIdeal.main_arg4)
          ∧ r.2.mem ((c.tc : Thread Cert.KernelNsaIdeal.nD Cert.KernelNsaIdeal.τ).loc Cert.KernelNsaIdeal.main_arg5) = m ((c.tc : Thread Cert.KernelNsaIdeal.nD Cert.KernelNsaIdeal.τ).loc Cert.KernelNsaIdeal.main_arg5)
          ∧ r.2.mem ((c.tc : Thread Cert.KernelNsaIdeal.nD Cert.KernelNsaIdeal.τ).loc Cert.KernelNsaIdeal.main_arg6) = m ((c.tc : Thread Cert.KernelNsaIdeal.nD Cert.KernelNsaIdeal.τ).loc Cert.KernelNsaIdeal.main_arg6)
          ∧ r.2.mem ((c.tc : Thread Cert.KernelNsaIdeal.nD Cert.KernelNsaIdeal.τ).loc Cert.KernelNsaIdeal.main_arg7) = m ((c.tc : Thread Cert.KernelNsaIdeal.nD Cert.KernelNsaIdeal.τ).loc Cert.KernelNsaIdeal.main_arg7))
      ∧ θ_run (Cert.ReferenceNsaIdeal.defs (F := Ideal)) (onTc (τ := Cert.ReferenceNsaIdeal.τ) (Cert.ReferenceNsaIdeal.main (F := Ideal))) ⟨m', fun _ => 0, g'⟩ (fun r => ∀ c : Dev Cert.ReferenceNsaIdeal.nD,
          r.2.mem ((c.tc : Thread Cert.ReferenceNsaIdeal.nD Cert.ReferenceNsaIdeal.τ).loc Cert.ReferenceNsaIdeal.main_v232) = v0 c
          ∧ r.2.mem ((c.tc : Thread Cert.ReferenceNsaIdeal.nD Cert.ReferenceNsaIdeal.τ).loc Cert.ReferenceNsaIdeal.main_arg0) = m' ((c.tc : Thread Cert.ReferenceNsaIdeal.nD Cert.ReferenceNsaIdeal.τ).loc Cert.ReferenceNsaIdeal.main_arg0)
          ∧ r.2.mem ((c.tc : Thread Cert.ReferenceNsaIdeal.nD Cert.ReferenceNsaIdeal.τ).loc Cert.ReferenceNsaIdeal.main_arg1) = m' ((c.tc : Thread Cert.ReferenceNsaIdeal.nD Cert.ReferenceNsaIdeal.τ).loc Cert.ReferenceNsaIdeal.main_arg1)
          ∧ r.2.mem ((c.tc : Thread Cert.ReferenceNsaIdeal.nD Cert.ReferenceNsaIdeal.τ).loc Cert.ReferenceNsaIdeal.main_arg2) = m' ((c.tc : Thread Cert.ReferenceNsaIdeal.nD Cert.ReferenceNsaIdeal.τ).loc Cert.ReferenceNsaIdeal.main_arg2)
          ∧ r.2.mem ((c.tc : Thread Cert.ReferenceNsaIdeal.nD Cert.ReferenceNsaIdeal.τ).loc Cert.ReferenceNsaIdeal.main_arg3) = m' ((c.tc : Thread Cert.ReferenceNsaIdeal.nD Cert.ReferenceNsaIdeal.τ).loc Cert.ReferenceNsaIdeal.main_arg3)
          ∧ r.2.mem ((c.tc : Thread Cert.ReferenceNsaIdeal.nD Cert.ReferenceNsaIdeal.τ).loc Cert.ReferenceNsaIdeal.main_arg4) = m' ((c.tc : Thread Cert.ReferenceNsaIdeal.nD Cert.ReferenceNsaIdeal.τ).loc Cert.ReferenceNsaIdeal.main_arg4)
          ∧ r.2.mem ((c.tc : Thread Cert.ReferenceNsaIdeal.nD Cert.ReferenceNsaIdeal.τ).loc Cert.ReferenceNsaIdeal.main_arg5) = m' ((c.tc : Thread Cert.ReferenceNsaIdeal.nD Cert.ReferenceNsaIdeal.τ).loc Cert.ReferenceNsaIdeal.main_arg5)
          ∧ r.2.mem ((c.tc : Thread Cert.ReferenceNsaIdeal.nD Cert.ReferenceNsaIdeal.τ).loc Cert.ReferenceNsaIdeal.main_arg6) = m' ((c.tc : Thread Cert.ReferenceNsaIdeal.nD Cert.ReferenceNsaIdeal.τ).loc Cert.ReferenceNsaIdeal.main_arg6)
          ∧ r.2.mem ((c.tc : Thread Cert.ReferenceNsaIdeal.nD Cert.ReferenceNsaIdeal.τ).loc Cert.ReferenceNsaIdeal.main_arg7) = m' ((c.tc : Thread Cert.ReferenceNsaIdeal.nD Cert.ReferenceNsaIdeal.τ).loc Cert.ReferenceNsaIdeal.main_arg7))

def preserves_KernelGdn_KernelGdnIdeal : Prop :=
  True

def Claim : Prop :=
  ∃ (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelNsa : Cert.KernelNsa.Facts) (hKernelNsaIdeal : Cert.KernelNsaIdeal.Facts) (hReferenceNsaIdeal : Cert.ReferenceNsaIdeal.Facts) (hKernelGdn : Cert.KernelGdn.Facts) (hKernelGdnIdeal : Cert.KernelGdnIdeal.Facts) (hPre_finite : Cert.Pre_finite.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNsa (hKernelNsa := hKernelNsa)
    ∧ quiescent_KernelNsaIdeal (hKernelNsaIdeal := hKernelNsaIdeal)
    ∧ quiescent_KernelNsaIdeal_pre_finite (hKernelNsaIdeal := hKernelNsaIdeal) (hPre_finite := hPre_finite)
    ∧ quiescent_ReferenceNsaIdeal (hReferenceNsaIdeal := hReferenceNsaIdeal)
    ∧ quiescent_ReferenceNsaIdeal_pre_finite (hReferenceNsaIdeal := hReferenceNsaIdeal) (hPre_finite := hPre_finite)
    ∧ quiescent_KernelGdn (hKernelGdn := hKernelGdn)
    ∧ quiescent_KernelGdnIdeal (hKernelGdnIdeal := hKernelGdnIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelNsa_KernelNsaIdeal
    ∧ algebraic_KernelNsaIdeal_ReferenceNsaIdeal_pre_finite (hKernelNsaIdeal := hKernelNsaIdeal) (hReferenceNsaIdeal := hReferenceNsaIdeal) (hPre_finite := hPre_finite)
    ∧ preserves_KernelGdn_KernelGdnIdeal
-- ==== Pre_finite.lean ====
abbrev S4x4096x16x64 : Shape := ⟨4, ![4, 4096, 16, 64]⟩
abbrev S4x255x4x64 : Shape := ⟨4, ![4, 255, 4, 64]⟩
abbrev S4x4096x4x64 : Shape := ⟨4, ![4, 4096, 4, 64]⟩
abbrev S4x4096x48 : Shape := ⟨3, ![4, 4096, 48]⟩
abbrev S_ : Shape := ⟨0, ![]⟩

class Facts : Prop where
  bcast_S_S4x4096x16x64 : S_.BroadcastsInDim S4x4096x16x64 (![] : Fin 0 → Fin S4x4096x16x64.rank)
  bcast_S_S4x4096x4x64 : S_.BroadcastsInDim S4x4096x4x64 (![] : Fin 0 → Fin S4x4096x4x64.rank)

variable [Facts]

def fn {F : FTy → Type} [FloatOps F] (main_arg0 : FVec F S4x4096x16x64 .f32) (main_arg1 : FVec F S4x255x4x64 .f32) (main_arg2 : FVec F S4x255x4x64 .f32) (main_arg3 : FVec F S4x4096x4x64 .f32) (main_arg4 : FVec F S4x4096x4x64 .f32) (main_arg5 : FVec F S4x4096x4x64 .f32) (main_arg6 : FVec F S4x4096x4x64 .f32) (main_arg7 : FVec F S4x4096x48 .f32) : IVec S4x4096x16x64 1 × IVec S4x4096x4x64 1 × IVec S4x4096x4x64 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_v3 : FVec F S4x4096x4x64 .f32 := Host.absf main_arg3
  let main_cst_0 : FVec F S_ .f32 := constant S_ .f32 0x7F800000#32
  let main_v4 : FVec F S4x4096x4x64 .f32 := broadcastInDim S4x4096x4x64 ![] bcast_S_S4x4096x4x64 main_cst_0
  let main_v5 : IVec S4x4096x4x64 1 := cmpf .olt main_v3 main_v4
  let main_v6 : FVec F S4x4096x4x64 .f32 := Host.absf main_arg5
  let main_cst_1 : FVec F S_ .f32 := constant S_ .f32 0x7F800000#32
  let main_v7 : FVec F S4x4096x4x64 .f32 := broadcastInDim S4x4096x4x64 ![] bcast_S_S4x4096x4x64 main_cst_1
  let main_v8 : IVec S4x4096x4x64 1 := cmpf .olt main_v6 main_v7
  (main_v2, main_v5, main_v8)
-- ==== KernelIn.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S1x2048, .f32⟩
  | .hbm, ⟨4, _⟩ => ⟨S16384x5632, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x5632, .f32⟩
  | .hbm, ⟨20, _⟩ => ⟨S16384x5632, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelOut.lean ====
abbrev S16384x2048 : Shape := ⟨2, ![16384, 2048]⟩
abbrev S16384x512 : Shape := ⟨2, ![16384, 512]⟩
abbrev S16384x1024 : Shape := ⟨2, ![16384, 1024]⟩
abbrev S1024 : Shape := ⟨1, ![1024]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S36 : Shape := ⟨1, ![36]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x1024 : Shape := ⟨2, ![1, 1024]⟩
abbrev S1x2048 : Shape := ⟨2, ![1, 2048]⟩
abbrev S16384x128 : Shape := ⟨2, ![16384, 128]⟩
abbrev S256x2048 : Shape := ⟨2, ![256, 2048]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S512x2048 : Shape := ⟨2, ![512, 2048]⟩
abbrev S1024x2048 : Shape := ⟨2, ![1024, 2048]⟩

abbrev nBuf : Space → Nat
  | .hbm => 27
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x4, .f32⟩
  | .hbm, ⟨8, _⟩ => ⟨S4, .f32⟩
  | .hbm, ⟨9, _⟩ => ⟨S2048x32, .f32⟩
  | .hbm, ⟨10, _⟩ => ⟨S32, .f32⟩
  | .hbm, ⟨11, _⟩ => ⟨S2048x36, .f32⟩
  | .hbm, ⟨12, _⟩ => ⟨S36, .f32⟩
  | .hbm, ⟨13, _⟩ => ⟨S2048x36, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x1024, .f32⟩
  | .hbm, ⟨22, _⟩ => ⟨S2048x2048, .bf16⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2048x2048, .bf16⟩
  | .local _ .vmem, ⟨10, _⟩ => ⟨S1x2048, .f32⟩
  | .local _ .vmem, ⟨11, _⟩ => ⟨S2048x128, .bf16⟩
  | .local _ .vmem, ⟨12, _⟩ => ⟨S1x128, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x128, .f32⟩
  | .local _ .vmem, ⟨18, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOutIdeal.lean ====
abbrev S16384x2048 : Shape := ⟨2, ![16384, 2048]⟩
abbrev S16384x512 : Shape := ⟨2, ![16384, 512]⟩
abbrev S16384x1024 : Shape := ⟨2, ![16384, 1024]⟩
abbrev S1024 : Shape := ⟨1, ![1024]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x36 : Shape := ⟨2, ![16384, 36]⟩
abbrev S16384x128 : Shape := ⟨2, ![16384, 128]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x4, .f32⟩
  | .hbm, ⟨8, _⟩ => ⟨S4, .f32⟩
  | .hbm, ⟨9, _⟩ => ⟨S2048x32, .f32⟩
  | .hbm, ⟨10, _⟩ => ⟨S32, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x4, .f32⟩
  | .hbm, ⟨47, _⟩ => ⟨S1x4, .f32⟩
  | .hbm, ⟨48, _⟩ => ⟨S16384x4, .f32⟩
  | .hbm, ⟨49, _⟩ => ⟨S16384x4, .f32⟩
  | .hbm, ⟨50, _⟩ => ⟨S16384x32, .f32⟩
  | .hbm, ⟨51, _⟩ => ⟨S1x32, .f32⟩
  | .hbm, ⟨52, _⟩ => ⟨S16384x32, .f32⟩
  | .hbm, ⟨53, _⟩ => ⟨S16384x32, .f32⟩
  | .hbm, ⟨54, _⟩ => ⟨S16384x36, .f32⟩
  | .hbm, ⟨55, _⟩ => ⟨S_, .i32⟩
  | .hbm, ⟨56, _⟩ => ⟨S_, .f32⟩
  | .hbm, ⟨57, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_call0_v0 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== KernelNsa.lean ====
abbrev S4x4096x16x64 : Shape := ⟨4, ![4, 4096, 16, 64]⟩
abbrev S4x255x4x64 : Shape := ⟨4, ![4, 255, 4, 64]⟩
abbrev S4x4096x4x64 : Shape := ⟨4, ![4, 4096, 4, 64]⟩
abbrev S4x4096x48 : Shape := ⟨3, ![4, 4096, 48]⟩
abbrev S255 : Shape := ⟨1, ![255]⟩
abbrev S_ : Shape := ⟨0, ![]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x4096x4x12 : Shape := ⟨4, ![4, 4096, 4, 12]⟩
abbrev S4x4x12x4096 : Shape := ⟨4, ![4, 4, 12, 4096]⟩
abbrev S4x4096x1024 : Shape := ⟨3, ![4, 4096, 1024]⟩
abbrev S64x255 : Shape := ⟨2, ![64, 255]⟩
abbrev S64x256 : Shape := ⟨2, ![64, 256]⟩
abbrev S4096 : Shape := ⟨1, ![4096]⟩
abbrev S4096x1 : Shape := ⟨2, ![4096, 1]⟩
abbrev S4096x64 : Shape := ⟨2, ![4096, 64]⟩
abbrev S4x256x4x64 : Shape := ⟨4, ![4, 256, 4, 64]⟩
abbrev S4x4x256x64 : Shape := ⟨4, ![4, 4, 256, 64]⟩
abbrev S4x4x64x256 : Shape := ⟨4, ![4, 4, 64, 256]⟩
abbrev S4x4x4096x64 : Shape := ⟨4, ![4, 4, 4096, 64]⟩
abbrev S4x4x64x4096 : Shape := ⟨4, ![4, 4, 64, 4096]⟩
abbrev S1x128x256 : Shape := ⟨3, ![1, 128, 256]⟩
abbrev S1x1x256x64 : Shape := ⟨4, ![1, 1, 256, 64]⟩
abbrev S1x1x64x256 : Shape := ⟨4, ![1, 1, 64, 256]⟩
abbrev S1x1x4096x64 : Shape := ⟨4, ![1, 1, 4096, 64]⟩
abbrev S1x1x64x4096 : Shape := ⟨4, ![1, 1, 64, 4096]⟩
abbrev S1x1x12x128 : Shape := ⟨4, ![1, 1, 12, 128]⟩
abbrev S128x256 : Shape := ⟨2, ![128, 256]⟩
abbrev S128x64 : Shape := ⟨2, ![128, 64]⟩
abbrev S512x64 : Shape := ⟨2, ![512, 64]⟩
abbrev S1x1x640x64 : Shape := ⟨4, ![1, 1, 640, 64]⟩
abbrev S640x64 : Shape := ⟨2, ![640, 64]⟩
abbrev S640x512 : Shape := ⟨2, ![640, 512]⟩
abbrev S640x128 : Shape := ⟨2, ![640, 128]⟩
abbrev S512 : Shape := ⟨1, ![512]⟩
abbrev S1x512 : Shape := ⟨2, ![1, 512]⟩
abbrev S1x1x64x640 : Shape := ⟨4, ![1, 1, 64, 640]⟩
abbrev S64x640 : Shape := ⟨2, ![64, 640]⟩
abbrev S64x512 : Shape := ⟨2, ![64, 512]⟩
abbrev S256x64 : Shape := ⟨2, ![256, 64]⟩
abbrev S256x512 : Shape := ⟨2, ![256, 512]⟩
abbrev S256x128 : Shape := ⟨2, ![256, 128]⟩
abbrev S64x128 : Shape := ⟨2, ![64, 128]⟩
abbrev S1x128 : Shape := ⟨2, ![1, 128]⟩
abbrev S1024x128 : Shape := ⟨2, ![1024, 128]⟩
abbrev S1x1x1024x64 : Shape := ⟨4, ![1, 1, 1024, 64]⟩
abbrev S1024x64 : Shape := ⟨2, ![1024, 64]⟩
abbrev S1024x512 : Shape := ⟨2, ![1024, 512]⟩
abbrev S1x1x64x1024 : Shape := ⟨4, ![1, 1, 64, 1024]⟩
abbrev S64x1024 : Shape := ⟨2, ![64, 1024]⟩
abbrev S12x128 : Shape := ⟨2, ![12, 128]⟩

abbrev nBuf : Space → Nat
  | .hbm => 106
  | .vmem => 20
  | .smem => 0
  | _ => 0

abbrev bufTy : (tb : Table) → Fin (tcTables nBuf tb) → BufTy
  | .hbm, ⟨0, _⟩ => ⟨S4x4096x16x64, .f32⟩
  | .hbm, ⟨1, _⟩ => ⟨S4x255x4x64, .f32⟩
  | .hbm, ⟨2, _⟩ => ⟨S4x255x4x64, .f32⟩
  | .hbm, ⟨3, _⟩ => ⟨S4x4096x4x64, .f32⟩
  | .hbm, ⟨4, _⟩ => ⟨S4x4096x4x64, .f32⟩
  | .hbm, ⟨5, _⟩ => ⟨S4x4096x4x64, .f32⟩
  | .hbm, ⟨6, _⟩ => ⟨S4x4096x4x64, .f32⟩
  | .hbm, ⟨7, _⟩ => ⟨S4x4096x48, .f32⟩
  | .hbm, ⟨8, _⟩ => ⟨S255, .i32⟩
  | .hbm, ⟨9, _⟩ => ⟨S_, .i32⟩
  | .hbm, ⟨10, _⟩ => ⟨S255, .i32⟩
  | .hbm, ⟨11, _⟩ => ⟨S255, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S255x1, .i32⟩
  | .hbm, ⟨17, _⟩ => ⟨S_, .i32⟩
  | .hbm, ⟨18, _⟩ => ⟨S255x1, .i32⟩
  | .hbm, ⟨19, _⟩ => ⟨S255x1, .i32⟩
  | .hbm, ⟨20, _⟩ => ⟨S1x64, .i32⟩
  | .hbm, ⟨21, _⟩ => ⟨S_, .i32⟩
  | .hbm, ⟨22, _⟩ => ⟨S1x64, .i32⟩
  | .hbm, ⟨23, _⟩ => ⟨S1x64, .i32⟩
  | .hbm, ⟨24, _⟩ => ⟨S255x64, .i32⟩
  | .hbm, ⟨25, _⟩ => ⟨S255x64, .i32⟩
  | .hbm, ⟨26, _⟩ => ⟨S255x64, .i32⟩
  | .hbm, ⟨27, _⟩ => ⟨S255x1, .i32⟩
  | .hbm, ⟨28, _⟩ => ⟨S1x64, .i32⟩
  | .hbm, ⟨29, _⟩ => ⟨S255x64, .i32⟩
  | .hbm, ⟨30, _⟩ => ⟨S255x64, .i32⟩
  | .hbm, ⟨31, _⟩ => ⟨S255x64, .i32⟩
  | .hbm, ⟨32, _⟩ => ⟨S255x64, .i32⟩
  | .hbm, ⟨33, _⟩ => ⟨S_, .i32⟩
  | .hbm, ⟨34, _⟩ => ⟨S_, .i32⟩
  | .hbm, ⟨35, _⟩ => ⟨S255x64, .i32⟩
  | .hbm, ⟨36, _⟩ => ⟨S255x64, .i32⟩
  | .hbm, ⟨37, _⟩ => ⟨S255x64, .f32⟩
  | .hbm, ⟨38, _⟩ => ⟨S_, .f32⟩
  | .hbm, ⟨39, _⟩ => ⟨S255x64, .f32⟩
  | .hbm, ⟨40, _⟩ => ⟨S255x64, .f32⟩
  | .hbm, ⟨41, _⟩ => ⟨S4x4096x48, .f32⟩
  | .hbm, ⟨42, _⟩ => ⟨S4x4096x48, .f32⟩
  | .hbm, ⟨43, _⟩ => ⟨S_, .f32⟩
  | .hbm, ⟨44, _⟩ => ⟨S4x4096x48, .f32⟩
  | .hbm, ⟨45, _⟩ => ⟨S4x4096x48, .f32⟩
  | .hbm, ⟨46, _⟩ => ⟨S_, .f32⟩
  | .hbm, ⟨47, _⟩ => ⟨S4x4096x48, .f32⟩
  | .hbm, ⟨48, _⟩ => ⟨S4x4096x48, .f32⟩
  | .hbm, ⟨49, _⟩ => ⟨S4x4096x4x12, .f32⟩
  | .hbm, ⟨50, _⟩ => ⟨S4x4x12x4096, .f32⟩
  | .hbm, ⟨51, _⟩ => ⟨S_, .f32⟩
  | .hbm, ⟨52, _⟩ => ⟨S4x4096x16x64, .f32⟩
  | .hbm, ⟨53, _⟩ => ⟨S4x4096x16x64, .f32⟩
  | .hbm, ⟨54, _⟩ => ⟨S4x4096x16x64, .bf16⟩
  | .hbm, ⟨55, _⟩ => ⟨S4x4096x1024, .bf16⟩
  | .hbm, ⟨56, _⟩ => ⟨S64x255, .f32⟩
  | .hbm, ⟨57, _⟩ => ⟨S_, .i32⟩
  | .hbm, ⟨58, _⟩ => ⟨S_, .f32⟩
  | .hbm, ⟨59, _⟩ => ⟨S64x256, .f32⟩
  | .hbm, ⟨60, _⟩ => ⟨S64x256, .bf16⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S4096, .i32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S64, .i32⟩
  | .hbm, ⟨82, _⟩ => ⟨S1x64, .i32⟩
  | .hbm, ⟨83, _⟩ => ⟨S4096x64, .i32⟩
  | .hbm, ⟨84, _⟩ => ⟨S4096x64, .i32⟩
  | .hbm, ⟨85, _⟩ => ⟨S4096x64, .i1⟩
  | .hbm, ⟨86, _⟩ => ⟨S4096x64, .bf16⟩
  | .hbm, ⟨87, _⟩ => ⟨S4x255x4x64, .bf16⟩
  | .hbm, ⟨88, _⟩ => ⟨S_, .i32⟩
  | .hbm, ⟨89, _⟩ => ⟨S_, .bf16⟩
  | .hbm, ⟨90, _⟩ => ⟨S4x256x4x64, .bf16⟩
  | .hbm, ⟨91, _⟩ => ⟨S4x4x256x64, .bf16⟩
  | .hbm, ⟨92, _⟩ => ⟨S4x255x4x64, .bf16⟩
  | .hbm, ⟨93, _⟩ => ⟨S_, .i32⟩
  | .hbm, ⟨94, _⟩ => ⟨S_, .bf16⟩
  | .hbm, ⟨95, _⟩ => ⟨S4x256x4x64, .bf16⟩
  | .hbm, ⟨96, _⟩ => ⟨S4x4x64x256, .bf16⟩
  | .hbm, ⟨97, _⟩ => ⟨S4x4096x4x64, .bf16⟩
  | .hbm, ⟨98, _⟩ => ⟨S4x4x4096x64, .bf16⟩
  | .hbm, ⟨99, _⟩ => ⟨S4x4096x4x64, .bf16⟩
  | .hbm, ⟨100, _⟩ => ⟨S4x4x64x4096, .bf16⟩
  | .hbm, ⟨101, _⟩ => ⟨S4x4096x4x64, .bf16⟩
  | .hbm, ⟨102, _⟩ => ⟨S4x4x4096x64, .bf16⟩
  | .hbm, ⟨103, _⟩ => ⟨S4x4096x4x64, .bf16⟩
  | .hbm, ⟨104, _⟩ => ⟨S4x4x64x4096, .bf16⟩
  | .hbm, ⟨105, _⟩ => ⟨S4x4096x1024, .f32⟩
  | .local _ .vmem, ⟨0, _⟩ => ⟨S1x128x256, .bf16⟩
  | .local _ .vmem, ⟨1, _⟩ => ⟨S1x128x256, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x64x4096, .bf16⟩
  | .local _ .vmem, ⟨9, _⟩ => ⟨S1x1x64x4096, .bf16⟩
  | .local _ .vmem, ⟨10, _⟩ => ⟨S1x1x4096x64, .bf16⟩
  | .local _ .vmem, ⟨11, _⟩ => ⟨S1x1x4096x64, .bf16⟩
  | .local _ .vmem, ⟨12, _⟩ => ⟨S1x1x64x4096, .bf16⟩
  | .local _ .vmem, ⟨13, _⟩ => ⟨S1x1x64x4096, .bf16⟩
  | .local _ .vmem, ⟨14, _⟩ => ⟨S1x1x12x128, .f32⟩
  | .local _ .vmem, ⟨15, _⟩ => ⟨S1x1x12x128, .f32⟩
  | .local _ .vmem, ⟨16, _⟩ => ⟨S64x256, .bf16⟩
  | .local _ .vmem, ⟨17, _⟩ => ⟨S4096x64, .bf16⟩
  | .local _ .vmem, ⟨18, _⟩ => ⟨S1x128x256, .f32⟩
  | .local _ .vmem, ⟨19, _⟩ => ⟨S1x128x256, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_call3_v0 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_10 : Ref sig .tc := ⟨.hbm, 93, rfl⟩
abbrev main_call4_v0 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c128_i32_2 : BitVec 32 := 128#32
  let v8 : BitVec 32 := Scalar.addi v0 c128_i32_2
  let c640_i32 : BitVec 32 := 640#32
  let v9 : BitVec 32 := Scalar.subi v8 c640_i32
  let c0_i32 : BitVec 32 := 0#32
  let v10 : BitVec 32 := Scalar.maxsi v9 c0_i32
  v10
def k0_off1 (i : grid0.Coords) : Fin 4 → Nat :=
  let c0_3 : Index := 0#32
  let c0_4 : Index := 0#32
  let arg2 : BitVec 32 := BitVec.ofNat 32 (i 2).val
  let c128_i32 : BitVec 32 := 128#32
  let v0 : BitVec 32 := Scalar.muli arg2 c128_i32
  let c128_i32_2 : BitVec 32 := 128#32
  let v8 : BitVec 32 := Scalar.addi v0 c128_i32_2
  let c640_i32 : BitVec 32 := 640#32
  let v9 : BitVec 32 := Scalar.subi v8 c640_i32
  let c0_i32 : BitVec 32 := 0#32
  let v10 : BitVec 32 := Scalar.maxsi v9 c0_i32
  let v11 : BitVec 32 := v10
  let v12 : Index := Scalar.indexCast v11
  let c0_5 : Index := 0#32
  ![0, 0, v12.toNat, 0]
def k0_off2 (i : grid0.Coords) : Fin 4 → Nat :=
  let c0_10 : Index := 0#32
  let c0_11 : Index := 0#32
  let c0_12 : Index := 0#32
  let arg2 : BitVec 32 := BitVec.ofNat 32 (i 2).val
  let c128_i32 : BitVec 32 := 128#32
  let v0 : BitVec 32 := Scalar.muli arg2 c128_i32
  let c128_i32_2 : BitVec 32 := 128#32
  let v8 : BitVec 32 := Scalar.addi v0 c128_i32_2
  let c640_i32 : BitVec 32 := 640#32
  let v9 : BitVec 32 := Scalar.subi v8 c640_i32
  let c0_i32 : BitVec 32 := 0#32
  let v10 : BitVec 32 := Scalar.maxsi v9 c0_i32
  let v11 : BitVec 32 := v10
  let v37 : Index := Scalar.indexCast v11
  ![0, 0, 0, v37.toNat]
@[reducible] def k0_t1_loop (i : grid0.Coords) : Scf.Loop 32 :=
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let c1_i32_196 : BitVec 32 := 1#32
  ⟨c0_i32_194, v1003, c1_i32_196⟩
def k0_mult2 (i : grid0.Coords) (k0_t1 : Fin (k0_t1_loop i).trips) : BitVec 32 :=
  let c0_i32_194 : BitVec 32 := 0#32
  let c1_i32_196 : BitVec 32 := 1#32
  let arg14 : BitVec 32 := Scf.iv c0_i32_194 c1_i32_196 k0_t1
  let c1024_i32_205 : BitVec 32 := 1024#32
  let v1045 : BitVec 32 := Scalar.muli arg14 c1024_i32_205
  v1045
def k0_off3 (i : grid0.Coords) (k0_t1 : Fin (k0_t1_loop i).trips) : Fin 4 → Nat :=
  let c0_206 : Index := 0#32
  let c0_207 : Index := 0#32
  let c0_i32_194 : BitVec 32 := 0#32
  let c1_i32_196 : BitVec 32 := 1#32
  let arg14 : BitVec 32 := Scf.iv c0_i32_194 c1_i32_196 k0_t1
  let c1024_i32_205 : BitVec 32 := 1024#32
  let v1045 : BitVec 32 := Scalar.muli arg14 c1024_i32_205
  let v1046 : BitVec 32 := v1045
  let v1047 : Index := Scalar.indexCast v1046
  let c0_208 : Index := 0#32
  ![0, 0, v1047.toNat, 0]
def k0_off4 (i : grid0.Coords) (k0_t1 : Fin (k0_t1_loop i).trips) : Fin 2 → Nat :=
  let c0_i32_194 : BitVec 32 := 0#32
  let c1_i32_196 : BitVec 32 := 1#32
  let arg14 : BitVec 32 := Scf.iv c0_i32_194 c1_i32_196 k0_t1
  let c1024_i32_205 : BitVec 32 := 1024#32
  let v1045 : BitVec 32 := Scalar.muli arg14 c1024_i32_205
  let v1046 : BitVec 32 := v1045
  let v1051 : Index := Scalar.indexCast v1046
  let c0_210 : Index := 0#32
  ![v1051.toNat, 0]
def k0_off5 (i : grid0.Coords) (k0_t1 : Fin (k0_t1_loop i).trips) : Fin 4 → Nat :=
  let c0_217 : Index := 0#32
  let c0_218 : Index := 0#32
  let c0_219 : Index := 0#32
  let c0_i32_194 : BitVec 32 := 0#32
  let c1_i32_196 : BitVec 32 := 1#32
  let arg14 : BitVec 32 := Scf.iv c0_i32_194 c1_i32_196 k0_t1
  let c1024_i32_205 : BitVec 32 := 1024#32
  let v1045 : BitVec 32 := Scalar.muli arg14 c1024_i32_205
  let v1046 : BitVec 32 := v1045
  let v1080 : Index := Scalar.indexCast v1046
  ![0, 0, 0, v1080.toNat]
@[reducible] def k0_t2_loop (i : grid0.Coords) : Scf.Loop 32 :=
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let v1000 : BitVec 32 := Scalar.addi c0_i32_194 v999
  let c1_i32_197 : BitVec 32 := 1#32
  ⟨v1003, v1000, c1_i32_197⟩
def k0_mult3 (i : grid0.Coords) (k0_t2 : Fin (k0_t2_loop i).trips) : BitVec 32 :=
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let c1_i32_197 : BitVec 32 := 1#32
  let arg14 : BitVec 32 := Scf.iv v1003 c1_i32_197 k0_t2
  let c1024_i32_205 : BitVec 32 := 1024#32
  let v1045 : BitVec 32 := Scalar.muli arg14 c1024_i32_205
  v1045
def k0_off6 (i : grid0.Coords) (k0_t2 : Fin (k0_t2_loop i).trips) : Fin 4 → Nat :=
  let c0_206 : Index := 0#32
  let c0_207 : Index := 0#32
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let c1_i32_197 : BitVec 32 := 1#32
  let arg14 : BitVec 32 := Scf.iv v1003 c1_i32_197 k0_t2
  let c1024_i32_205 : BitVec 32 := 1024#32
  let v1045 : BitVec 32 := Scalar.muli arg14 c1024_i32_205
  let v1046 : BitVec 32 := v1045
  let v1047 : Index := Scalar.indexCast v1046
  let c0_208 : Index := 0#32
  ![0, 0, v1047.toNat, 0]
def k0_off7 (i : grid0.Coords) (k0_t2 : Fin (k0_t2_loop i).trips) : Fin 2 → Nat :=
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let c1_i32_197 : BitVec 32 := 1#32
  let arg14 : BitVec 32 := Scf.iv v1003 c1_i32_197 k0_t2
  let c1024_i32_205 : BitVec 32 := 1024#32
  let v1045 : BitVec 32 := Scalar.muli arg14 c1024_i32_205
  let v1046 : BitVec 32 := v1045
  let v1051 : Index := Scalar.indexCast v1046
  let c0_210 : Index := 0#32
  ![v1051.toNat, 0]
def k0_off8 (i : grid0.Coords) (k0_t2 : Fin (k0_t2_loop i).trips) : Fin 4 → Nat :=
  let c0_217 : Index := 0#32
  let c0_218 : Index := 0#32
  let c0_219 : Index := 0#32
  let c0_i32_194 : BitVec 32 := 0#32
  let arg2 : BitVec 32 := BitVec.ofNat 32 (i 2).val
  let c128_i32 : BitVec 32 := 128#32
  let v0 : BitVec 32 := Scalar.muli arg2 c128_i32
  let c128_i32_182 : BitVec 32 := 128#32
  let v976 : BitVec 32 := Scalar.addi v0 c128_i32_182
  let c1_i32_183 : BitVec 32 := 1#32
  let v977 : BitVec 32 := Scalar.subi v976 c1_i32_183
  let c0_i32_184 : BitVec 32 := 0#32
  let v979 : BitVec 1 := Scalar.cmpi .sgt v977 c0_i32_184
  let v980 : BitVec 32 := Scalar.extui v979
  let c0_i32_185 : BitVec 32 := 0#32
  let v981 : BitVec 1 := Scalar.cmpi .slt v977 c0_i32_185
  let v982 : BitVec 32 := Scalar.extui v981
  let v983 : BitVec 32 := Scalar.subi v980 v982
  let c1024_i32 : BitVec 32 := 1024#32
  let c0_i32_186 : BitVec 32 := 0#32
  let v984 : BitVec 1 := Scalar.cmpi .sgt c1024_i32 c0_i32_186
  let v985 : BitVec 32 := Scalar.extui v984
  let c0_i32_187 : BitVec 32 := 0#32
  let v986 : BitVec 1 := Scalar.cmpi .slt c1024_i32 c0_i32_187
  let v987 : BitVec 32 := Scalar.extui v986
  let v988 : BitVec 32 := Scalar.subi v985 v987
  let v989 : BitVec 1 := Scalar.cmpi .ne v983 v988
  let v990 : BitVec 32 := Scalar.remsi v977 c1024_i32
  let c0_i32_188 : BitVec 32 := 0#32
  let v991 : BitVec 1 := Scalar.cmpi .ne v990 c0_i32_188
  let v992 : BitVec 1 := Scalar.andi v989 v991
  let v978 : BitVec 32 := Scalar.divsi v977 c1024_i32
  let c1_i32_189 : BitVec 32 := 1#32
  let v993 : BitVec 32 := Scalar.subi v978 c1_i32_189
  let v994 : BitVec 32 := Scalar.select v992 v993 v978
  let c1_i32_190 : BitVec 32 := 1#32
  let v995 : BitVec 32 := Scalar.addi v994 c1_i32_190
  let v999 : BitVec 32 := Scalar.subi v995 c0_i32_194
  let c1_i32_195 : BitVec 32 := 1#32
  let v1001 : BitVec 32 := Scalar.divsi v999 c1_i32_195
  let v1002 : BitVec 32 := Scalar.muli v1001 c1_i32_195
  let v1003 : BitVec 32 := Scalar.addi c0_i32_194 v1002
  let c1_i32_197 : BitVec 32 := 1#32
  let arg14 : BitVec 32 := Scf.iv v1003 c1_i32_197 k0_t2
  let c1024_i32_205 : BitVec 32 := 1024#32
  let v1045 : BitVec 32 := Scalar.muli arg14 c1024_i32_205
  let v1046 : BitVec 32 := v1045
  let v1080 : Index := Scalar.indexCast v1046
  ![0, 0, 0, v1080.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x12x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4096x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelNsaIdeal.lean ====
variable {F : FTy → Type} [FloatOps F] [Named F]
def κ : String → Option EReal := fun
  | "mask" => some ⊥
  | _ => none
-- ==== ReferenceNsaIdeal.lean ====
abbrev S4x4096x16x64 : Shape := ⟨4, ![4, 4096, 16, 64]⟩
abbrev S4x255x4x64 : Shape := ⟨4, ![4, 255, 4, 64]⟩
abbrev S4x4096x4x64 : Shape := ⟨4, ![4, 4096, 4, 64]⟩
abbrev S4x4096x48 : Shape := ⟨3, ![4, 4096, 48]⟩
abbrev S4096 : Shape := ⟨1, ![4096]⟩
abbrev S4x4096x4x4x64 : Shape := ⟨5, ![4, 4096, 4, 4, 64]⟩
abbrev S_ : Shape := ⟨0, ![]⟩
abbrev S4x4096x4x4x3 : Shape := ⟨5, ![4, 4096, 4, 4, 3]⟩
abbrev S255 : Shape := ⟨1, ![255]⟩
abbrev S4x4x255x4096x4 : Shape := ⟨5, ![4, 4, 255, 4096, 4]⟩
abbrev S4x4096x4x4x255 : Shape := ⟨5, ![4, 4096, 4, 4, 255]⟩
abbrev S1x255 : Shape := ⟨2, ![1, 255]⟩
abbrev S4096x1 : Shape := ⟨2, ![4096, 1]⟩
abbrev S4096x255 : Shape := ⟨2, ![4096, 255]⟩
abbrev S1x4096x1x1x255 : Shape := ⟨5, ![1, 4096, 1, 1, 255]⟩
abbrev S4x4096x4x4 : Shape := ⟨4, ![4, 4096, 4, 4]⟩
abbrev S4x4096x4x4x1 : Shape := ⟨5, ![4, 4096, 4, 4, 1]⟩
abbrev S4x4x64x4096x4 : Shape := ⟨5, ![4, 4, 64, 4096, 4]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x4096x4x255 : Shape := ⟨4, ![4, 4096, 4, 255]⟩
abbrev S4096x64 : Shape := ⟨2, ![4096, 64]⟩
abbrev S1x4096x1x64 : Shape := ⟨4, ![1, 4096, 1, 64]⟩
abbrev S4x4096x4x16 : Shape := ⟨4, ![4, 4096, 4, 16]⟩
abbrev S4x64x64x4x64 : Shape := ⟨5, ![4, 64, 64, 4, 64]⟩
abbrev S4x4x64x64x64 : Shape := ⟨5, ![4, 4, 64, 64, 64]⟩
abbrev S4 : Shape := ⟨1, ![4]⟩
abbrev S4x1x1x1 : Shape := ⟨4, ![4, 1, 1, 1]⟩
abbrev S1x1x4x1 : Shape := ⟨4, ![1, 1, 4, 1]⟩
abbrev S4x4096x4x16x1 : Shape := ⟨5, ![4, 4096, 4, 16, 1]⟩
abbrev S4x4096x4x16x3 : Shape := ⟨5, ![4, 4096, 4, 16, 3]⟩
abbrev S4x4096x4x16x64x64 : Shape := ⟨6, ![4, 4096, 4, 16, 64, 64]⟩
abbrev S4x4096x4x1024x64 : Shape := ⟨5, ![4, 4096, 4, 1024, 64]⟩
abbrev S1x1x1x1x64 : Shape := ⟨5, ![1, 1, 1, 1, 64]⟩
abbrev S4x4096x4x16x64 : Shape := ⟨5, ![4, 4096, 4, 16, 64]⟩
abbrev S4x4096x4x1024 : Shape := ⟨4, ![4, 4096, 4, 1024]⟩
abbrev S4x4096x4x4x1024 : Shape := ⟨5, ![4, 4096, 4, 4, 1024]⟩
abbrev S1x4096x1x1 : Shape := ⟨4, ![1, 4096, 1, 1]⟩
abbrev S4x4096x4x1x1024 : Shape := ⟨5, ![4, 4096, 4, 1, 1024]⟩
abbrev S1x4096 : Shape := ⟨2, ![1, 4096]⟩
abbrev S4096x4096 : Shape := ⟨2, ![4096, 4096]⟩
abbrev S4x4x4096x4096x4 : Shape := ⟨5, ![4, 4, 4096, 4096, 4]⟩
abbrev S4x4096x4x4x4096 : Shape := ⟨5, ![4, 4096, 4, 4, 4096]⟩
abbrev S1x4096x1x1x4096 : Shape := ⟨5, ![1, 4096, 1, 1, 4096]⟩
abbrev S4x4096x1024 : Shape := ⟨3, ![4, 4096, 1024]⟩

abbrev nBuf : Space → Nat
  | .hbm => 336
  | .vmem => 0
  | .smem => 0
  | _ => 0

abbrev hbmTy0_0 (i : Nat) : BufTy := match i % 128 with
  | 0 => ⟨S4x4096x16x64, .f32⟩
  | 1 => ⟨S4x255x4x64, .f32⟩
  | 2 => ⟨S4x255x4x64, .f32⟩
  | 3 => ⟨S4x4096x4x64, .f32⟩
  | 4 => ⟨S4x4096x4x64, .f32⟩
  | 5 => ⟨S4x4096x4x64, .f32⟩
  | 6 => ⟨S4x4096x4x64, .f32⟩
  | 7 => ⟨S4x4096x48, .f32⟩
  | 8 => ⟨S4096, .i32⟩
  | 9 => ⟨S4x4096x4x4x64, .f32⟩
  | 10 => ⟨S4x4096x48, .f32⟩
  | 11 => ⟨S4x4096x48, .f32⟩
  | 12 => ⟨S_, .f32⟩
  | 13 => ⟨S4x4096x48, .f32⟩
  | 14 => ⟨S4x4096x48, .f32⟩
  | 15 => ⟨S_, .f32⟩
  | 16 => ⟨S4x4096x48, .f32⟩
  | 17 => ⟨S4x4096x48, .f32⟩
  | 18 => ⟨S4x4096x4x4x3, .f32⟩
  | 19 => ⟨S255, .i32⟩
  | 20 => ⟨S_, .i32⟩
  | 21 => ⟨S255, .i32⟩
  | 22 => ⟨S255, .i32⟩
  | 23 => ⟨S_, .i32⟩
  | 24 => ⟨S255, .i32⟩
  | 25 => ⟨S255, .i32⟩
  | 26 => ⟨S_, .i32⟩
  | 27 => ⟨S255, .i32⟩
  | 28 => ⟨S255, .i32⟩
  | 29 => ⟨S4x4x255x4096x4, .f32⟩
  | 30 => ⟨S4x4096x4x4x255, .f32⟩
  | 31 => ⟨S_, .f32⟩
  | 32 => ⟨S4x4096x4x4x255, .f32⟩
  | 33 => ⟨S4x4096x4x4x255, .f32⟩
  | 34 => ⟨S1x255, .i32⟩
  | 35 => ⟨S4096x1, .i32⟩
  | 36 => ⟨S4096x255, .i32⟩
  | 37 => ⟨S4096x255, .i32⟩
  | 38 => ⟨S4096x255, .i1⟩
  | 39 => ⟨S1x4096x1x1x255, .i1⟩
  | 40 => ⟨S_, .f32⟩
  | 41 => ⟨S_, .f32⟩
  | 42 => ⟨S4x4096x4x4x255, .i1⟩
  | 43 => ⟨S4x4096x4x4x255, .f32⟩
  | 44 => ⟨S4x4096x4x4x255, .f32⟩
  | 45 => ⟨S_, .f32⟩
  | 46 => ⟨S4x4096x4x4, .f32⟩
  | 47 => ⟨S4x4096x4x4x1, .f32⟩
  | 48 => ⟨S4x4096x4x4x1, .f32⟩
  | 49 => ⟨S_, .f32⟩
  | 50 => ⟨S4x4096x4x4x1, .f32⟩
  | 51 => ⟨S4x4096x4x4x1, .i1⟩
  | 52 => ⟨S_, .f32⟩
  | 53 => ⟨S_, .f32⟩
  | 54 => ⟨S4x4096x4x4x1, .f32⟩
  | 55 => ⟨S4x4096x4x4x1, .f32⟩
  | 56 => ⟨S4x4096x4x4x255, .f32⟩
  | 57 => ⟨S4x4096x4x4x255, .f32⟩
  | 58 => ⟨S4x4096x4x4x255, .f32⟩
  | 59 => ⟨S_, .f32⟩
  | 60 => ⟨S4x4096x4x4, .f32⟩
  | 61 => ⟨S4x4096x4x4x1, .f32⟩
  | 62 => ⟨S_, .f32⟩
  | 63 => ⟨S4x4096x4x4x1, .f32⟩
  | 64 => ⟨S4x4096x4x4x1, .f32⟩
  | 65 => ⟨S4x4096x4x4x255, .f32⟩
  | 66 => ⟨S4x4096x4x4x255, .f32⟩
  | 67 => ⟨S4x4x64x4096x4, .f32⟩
  | 68 => ⟨S4x4096x4x4x64, .f32⟩
  | 69 => ⟨S255, .i32⟩
  | 70 => ⟨S_, .i32⟩
  | 71 => ⟨S255, .i32⟩
  | 72 => ⟨S255, .i32⟩
  | 73 => ⟨S64, .i32⟩
  | 74 => ⟨S_, .i32⟩
  | 75 => ⟨S64, .i32⟩
  | 76 => ⟨S64, .i32⟩
  | 77 => ⟨S255x1, .i32⟩
  | 78 => ⟨S_, .i32⟩
  | 79 => ⟨S255x1, .i32⟩
  | 80 => ⟨S255x1, .i32⟩
  | 81 => ⟨S1x64, .i32⟩
  | 82 => ⟨S_, .i32⟩
  | 83 => ⟨S1x64, .i32⟩
  | 84 => ⟨S1x64, .i32⟩
  | 85 => ⟨S255x64, .i32⟩
  | 86 => ⟨S255x64, .i32⟩
  | 87 => ⟨S255x64, .i32⟩
  | 88 => ⟨S255x1, .i32⟩
  | 89 => ⟨S1x64, .i32⟩
  | 90 => ⟨S255x64, .i32⟩
  | 91 => ⟨S255x64, .i32⟩
  | 92 => ⟨S255x64, .i32⟩
  | 93 => ⟨S255x64, .i32⟩
  | 94 => ⟨S_, .i32⟩
  | 95 => ⟨S_, .i32⟩
  | 96 => ⟨S255x64, .i32⟩
  | 97 => ⟨S255x64, .i32⟩
  | 98 => ⟨S255x64, .f32⟩
  | 99 => ⟨S_, .f32⟩
  | 100 => ⟨S255x64, .f32⟩
  | 101 => ⟨S255x64, .f32⟩
  | 102 => ⟨S_, .f32⟩
  | 103 => ⟨S4x4096x4x255, .f32⟩
  | 104 => ⟨S4x4096x4x64, .f32⟩
  | 105 => ⟨S64, .i32⟩
  | 106 => ⟨S_, .i32⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i1⟩
  | 114 => ⟨S4096, .i32⟩
  | 115 => ⟨S4096, .i32⟩
  | 116 => ⟨S_, .i32⟩
  | 117 => ⟨S4096, .i32⟩
  | 118 => ⟨S4096, .i1⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S1x64, .i32⟩
  | 126 => ⟨S_, .i32⟩
  | 127 => ⟨S1x64, .i32⟩
  | _ => ⟨S4x4096x16x64, .f32⟩

abbrev hbmTy0_1 (i : Nat) : BufTy := match i % 128 with
  | 0 => ⟨S1x64, .i1⟩
  | 1 => ⟨S1x64, .i32⟩
  | 2 => ⟨S4096x64, .i32⟩
  | 3 => ⟨S4096x64, .i32⟩
  | 4 => ⟨S4096x64, .i1⟩
  | 5 => ⟨S4096x64, .i1⟩
  | 6 => ⟨S4096x64, .i1⟩
  | 7 => ⟨S1x64, .i32⟩
  | 8 => ⟨S_, .i32⟩
  | 9 => ⟨S4096x1, .i32⟩
  | 10 => ⟨S4096x1, .i32⟩
  | 11 => ⟨S4096x64, .i32⟩
  | 12 => ⟨S4096x64, .i32⟩
  | 13 => ⟨S4096x64, .i1⟩
  | 14 => ⟨S4096x64, .i1⟩
  | 15 => ⟨S_, .i32⟩
  | 16 => ⟨S64, .i32⟩
  | 17 => ⟨S64, .i32⟩
  | 18 => ⟨S1x64, .i32⟩
  | 19 => ⟨S4096x1, .i32⟩
  | 20 => ⟨S4096x64, .i32⟩
  | 21 => ⟨S4096x64, .i32⟩
  | 22 => ⟨S4096x64, .i1⟩
  | 23 => ⟨S1x4096x1x64, .i1⟩
  | 24 => ⟨S1x4096x1x64, .i1⟩
  | 25 => ⟨S_, .f32⟩
  | 26 => ⟨S_, .f32⟩
  | 27 => ⟨S4x4096x4x64, .i1⟩
  | 28 => ⟨S4x4096x4x64, .f32⟩
  | 29 => ⟨S4x4096x4x64, .f32⟩
  | 30 => ⟨S_, .f32⟩
  | 31 => ⟨S_, .f32⟩
  | 32 => ⟨S4x4096x4x64, .i1⟩
  | 33 => ⟨S4x4096x4x64, .f32⟩
  | 34 => ⟨S4x4096x4x64, .f32⟩
  | 35 => ⟨S4x4096x4x16, .f32⟩
  | 36 => ⟨S4x4096x4x16, .i32⟩
  | 37 => ⟨S4x64x64x4x64, .f32⟩
  | 38 => ⟨S4x4x64x64x64, .f32⟩
  | 39 => ⟨S4x64x64x4x64, .f32⟩
  | 40 => ⟨S4x4x64x64x64, .f32⟩
  | 41 => ⟨S4, .i32⟩
  | 42 => ⟨S4x1x1x1, .i32⟩
  | 43 => ⟨S4, .i32⟩
  | 44 => ⟨S1x1x4x1, .i32⟩
  | 45 => ⟨S_, .i32⟩
  | 46 => ⟨S4x1x1x1, .i32⟩
  | 47 => ⟨S4x1x1x1, .i1⟩
  | 48 => ⟨S_, .i32⟩
  | 49 => ⟨S4x1x1x1, .i32⟩
  | 50 => ⟨S4x1x1x1, .i32⟩
  | 51 => ⟨S4x1x1x1, .i32⟩
  | 52 => ⟨S_, .i32⟩
  | 53 => ⟨S1x1x4x1, .i32⟩
  | 54 => ⟨S1x1x4x1, .i1⟩
  | 55 => ⟨S_, .i32⟩
  | 56 => ⟨S1x1x4x1, .i32⟩
  | 57 => ⟨S1x1x4x1, .i32⟩
  | 58 => ⟨S1x1x4x1, .i32⟩
  | 59 => ⟨S_, .i32⟩
  | 60 => ⟨S4x4096x4x16, .i32⟩
  | 61 => ⟨S4x4096x4x16, .i1⟩
  | 62 => ⟨S_, .i32⟩
  | 63 => ⟨S4x4096x4x16, .i32⟩
  | 64 => ⟨S4x4096x4x16, .i32⟩
  | 65 => ⟨S4x4096x4x16, .i32⟩
  | 66 => ⟨S4x4096x4x16, .i32⟩
  | 67 => ⟨S4x4096x4x16, .i32⟩
  | 68 => ⟨S4x4096x4x16x1, .i32⟩
  | 69 => ⟨S4x4096x4x16x1, .i32⟩
  | 70 => ⟨S4x4096x4x16x1, .i32⟩
  | 71 => ⟨S4x4096x4x16x3, .i32⟩
  | 72 => ⟨S4x4096x4x16x64x64, .f32⟩
  | 73 => ⟨S4x4096x4x1024x64, .f32⟩
  | 74 => ⟨S_, .i32⟩
  | 75 => ⟨S4x1x1x1, .i32⟩
  | 76 => ⟨S4x1x1x1, .i1⟩
  | 77 => ⟨S_, .i32⟩
  | 78 => ⟨S4x1x1x1, .i32⟩
  | 79 => ⟨S4x1x1x1, .i32⟩
  | 80 => ⟨S4x1x1x1, .i32⟩
  | 81 => ⟨S_, .i32⟩
  | 82 => ⟨S1x1x4x1, .i32⟩
  | 83 => ⟨S1x1x4x1, .i1⟩
  | 84 => ⟨S_, .i32⟩
  | 85 => ⟨S1x1x4x1, .i32⟩
  | 86 => ⟨S1x1x4x1, .i32⟩
  | 87 => ⟨S1x1x4x1, .i32⟩
  | 88 => ⟨S_, .i32⟩
  | 89 => ⟨S4x4096x4x16, .i32⟩
  | 90 => ⟨S4x4096x4x16, .i1⟩
  | 91 => ⟨S_, .i32⟩
  | 92 => ⟨S4x4096x4x16, .i32⟩
  | 93 => ⟨S4x4096x4x16, .i32⟩
  | 94 => ⟨S4x4096x4x16, .i32⟩
  | 95 => ⟨S4x4096x4x16, .i32⟩
  | 96 => ⟨S4x4096x4x16, .i32⟩
  | 97 => ⟨S4x4096x4x16x1, .i32⟩
  | 98 => ⟨S4x4096x4x16x1, .i32⟩
  | 99 => ⟨S4x4096x4x16x1, .i32⟩
  | 100 => ⟨S4x4096x4x16x3, .i32⟩
  | 101 => ⟨S4x4096x4x16x64x64, .f32⟩
  | 102 => ⟨S4x4096x4x1024x64, .f32⟩
  | 103 => ⟨S4x4096x4x16x1, .i32⟩
  | 104 => ⟨S_, .i32⟩
  | 105 => ⟨S4x4096x4x16x1, .i32⟩
  | 106 => ⟨S4x4096x4x16x1, .i32⟩
  | 107 => ⟨S64, .i32⟩
  | 108 => ⟨S1x1x1x1x64, .i32⟩
  | 109 => ⟨S4x4096x4x16x64, .i32⟩
  | 110 => ⟨S4x4096x4x16x64, .i32⟩
  | 111 => ⟨S4x4096x4x16x64, .i32⟩
  | 112 => ⟨S4x4096x4x1024, .i32⟩
  | 113 => ⟨S4x4096x4x4x1024, .f32⟩
  | 114 => ⟨S_, .f32⟩
  | 115 => ⟨S4x4096x4x4x1024, .f32⟩
  | 116 => ⟨S4x4096x4x4x1024, .f32⟩
  | 117 => ⟨S1x4096x1x1, .i32⟩
  | 118 => ⟨S4x4096x4x1024, .i32⟩
  | 119 => ⟨S4x4096x4x1024, .i1⟩
  | 120 => ⟨S4x4096x4x1x1024, .i1⟩
  | 121 => ⟨S_, .f32⟩
  | 122 => ⟨S_, .f32⟩
  | 123 => ⟨S4x4096x4x4x1024, .i1⟩
  | 124 => ⟨S4x4096x4x4x1024, .f32⟩
  | 125 => ⟨S4x4096x4x4x1024, .f32⟩
  | 126 => ⟨S_, .f32⟩
  | 127 => ⟨S4x4096x4x4, .f32⟩
  | _ => ⟨S4x4096x16x64, .f32⟩

abbrev hbmTy0_2 (i : Nat) : BufTy := match i % 128 with
  | 0 => ⟨S4x4096x4x4x1, .f32⟩
  | 1 => ⟨S4x4096x4x4x1, .f32⟩
  | 2 => ⟨S_, .f32⟩
  | 3 => ⟨S4x4096x4x4x1, .f32⟩
  | 4 => ⟨S4x4096x4x4x1, .i1⟩
  | 5 => ⟨S_, .f32⟩
  | 6 => ⟨S_, .f32⟩
  | 7 => ⟨S4x4096x4x4x1, .f32⟩
  | 8 => ⟨S4x4096x4x4x1, .f32⟩
  | 9 => ⟨S4x4096x4x4x1024, .f32⟩
  | 10 => ⟨S4x4096x4x4x1024, .f32⟩
  | 11 => ⟨S4x4096x4x4x1024, .f32⟩
  | 12 => ⟨S_, .f32⟩
  | 13 => ⟨S4x4096x4x4, .f32⟩
  | 14 => ⟨S4x4096x4x4x1, .f32⟩
  | 15 => ⟨S_, .f32⟩
  | 16 => ⟨S4x4096x4x4x1, .f32⟩
  | 17 => ⟨S4x4096x4x4x1, .f32⟩
  | 18 => ⟨S4x4096x4x4x1024, .f32⟩
  | 19 => ⟨S4x4096x4x4x1024, .f32⟩
  | 20 => ⟨S4x4096x4x4x64, .f32⟩
  | 21 => ⟨S4096x1, .i32⟩
  | 22 => ⟨S1x4096, .i32⟩
  | 23 => ⟨S4096x4096, .i32⟩
  | 24 => ⟨S4096x4096, .i32⟩
  | 25 => ⟨S4096x4096, .i32⟩
  | 26 => ⟨S4x4x4096x4096x4, .f32⟩
  | 27 => ⟨S4x4096x4x4x4096, .f32⟩
  | 28 => ⟨S_, .f32⟩
  | 29 => ⟨S4x4096x4x4x4096, .f32⟩
  | 30 => ⟨S4x4096x4x4x4096, .f32⟩
  | 31 => ⟨S_, .i32⟩
  | 32 => ⟨S4096x4096, .i32⟩
  | 33 => ⟨S4096x4096, .i1⟩
  | 34 => ⟨S_, .i32⟩
  | 35 => ⟨S4096x4096, .i32⟩
  | 36 => ⟨S4096x4096, .i1⟩
  | 37 => ⟨S4096x4096, .i1⟩
  | 38 => ⟨S1x4096x1x1x4096, .i1⟩
  | 39 => ⟨S_, .f32⟩
  | 40 => ⟨S_, .f32⟩
  | 41 => ⟨S4x4096x4x4x4096, .i1⟩
  | 42 => ⟨S4x4096x4x4x4096, .f32⟩
  | 43 => ⟨S4x4096x4x4x4096, .f32⟩
  | 44 => ⟨S_, .f32⟩
  | 45 => ⟨S4x4096x4x4, .f32⟩
  | 46 => ⟨S4x4096x4x4x1, .f32⟩
  | 47 => ⟨S4x4096x4x4x1, .f32⟩
  | 48 => ⟨S_, .f32⟩
  | 49 => ⟨S4x4096x4x4x1, .f32⟩
  | 50 => ⟨S4x4096x4x4x1, .i1⟩
  | 51 => ⟨S_, .f32⟩
  | 52 => ⟨S_, .f32⟩
  | 53 => ⟨S4x4096x4x4x1, .f32⟩
  | 54 => ⟨S4x4096x4x4x1, .f32⟩
  | 55 => ⟨S4x4096x4x4x4096, .f32⟩
  | 56 => ⟨S4x4096x4x4x4096, .f32⟩
  | 57 => ⟨S4x4096x4x4x4096, .f32⟩
  | 58 => ⟨S_, .f32⟩
  | 59 => ⟨S4x4096x4x4, .f32⟩
  | 60 => ⟨S4x4096x4x4x1, .f32⟩
  | 61 => ⟨S_, .f32⟩
  | 62 => ⟨S4x4096x4x4x1, .f32⟩
  | 63 => ⟨S4x4096x4x4x1, .f32⟩
  | 64 => ⟨S4x4096x4x4x4096, .f32⟩
  | 65 => ⟨S4x4096x4x4x4096, .f32⟩
  | 66 => ⟨S4x4x64x4096x4, .f32⟩
  | 67 => ⟨S4x4096x4x4x64, .f32⟩
  | 68 => ⟨S4x4096x4x4x1, .f32⟩
  | 69 => ⟨S4x4096x4x4x64, .f32⟩
  | 70 => ⟨S4x4096x4x4x64, .f32⟩
  | 71 => ⟨S4x4096x4x4x1, .f32⟩
  | 72 => ⟨S4x4096x4x4x64, .f32⟩
  | 73 => ⟨S4x4096x4x4x64, .f32⟩
  | 74 => ⟨S4x4096x4x4x64, .f32⟩
  | 75 => ⟨S4x4096x4x4x1, .f32⟩
  | 76 => ⟨S4x4096x4x4x64, .f32⟩
  | 77 => ⟨S4x4096x4x4x64, .f32⟩
  | 78 => ⟨S4x4096x4x4x64, .f32⟩
  | 79 => ⟨S4x4096x1024, .f32⟩
  | _ => ⟨S4x4096x16x64, .f32⟩

abbrev hbmTy (i : Nat) : BufTy := match i / 128 with
  | 0 => hbmTy0_0 i
  | 1 => hbmTy0_1 i
  | 2 => hbmTy0_2 i
  | _ => ⟨S4x4096x16x64, .f32⟩

abbrev bufTy : (tb : Table) → Fin (tcTables nBuf tb) → BufTy
  | .hbm, ⟨i, _⟩ => hbmTy i
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_call2_v0 : Ref sig .tc := ⟨.hbm, 95, rfl⟩
abbrev main_call2_v1 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_18 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_19 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_20 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_21 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v99 : Ref sig .tc := ⟨.hbm, 157, rfl⟩
abbrev main_cst_22 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v100 : Ref sig .tc := ⟨.hbm, 162, rfl⟩
abbrev main_values : Ref sig .tc := ⟨.hbm, 163, rfl⟩
abbrev main_indices : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_c_23 : Ref sig .tc := ⟨.hbm, 173, rfl⟩
abbrev main_v109 : Ref sig .tc := ⟨.hbm, 174, rfl⟩
abbrev main_v110 : Ref sig .tc := ⟨.hbm, 175, rfl⟩
abbrev main_c_24 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_c_25 : Ref sig .tc := ⟨.hbm, 180, rfl⟩
abbrev main_v114 : Ref sig .tc := ⟨.hbm, 181, rfl⟩
abbrev main_v115 : Ref sig .tc := ⟨.hbm, 182, rfl⟩
abbrev main_c_26 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_c_27 : Ref sig .tc := ⟨.hbm, 187, rfl⟩
abbrev main_v119 : Ref sig .tc := ⟨.hbm, 188, rfl⟩
abbrev main_v120 : Ref sig .tc := ⟨.hbm, 189, rfl⟩
abbrev main_c_28 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_c_29 : Ref sig .tc := ⟨.hbm, 202, rfl⟩
abbrev main_v132 : Ref sig .tc := ⟨.hbm, 203, rfl⟩
abbrev main_v133 : Ref sig .tc := ⟨.hbm, 204, rfl⟩
abbrev main_c_30 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_c_31 : Ref sig .tc := ⟨.hbm, 209, rfl⟩
abbrev main_v137 : Ref sig .tc := ⟨.hbm, 210, rfl⟩
abbrev main_v138 : Ref sig .tc := ⟨.hbm, 211, rfl⟩
abbrev main_c_32 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_c_33 : Ref sig .tc := ⟨.hbm, 216, rfl⟩
abbrev main_v142 : Ref sig .tc := ⟨.hbm, 217, rfl⟩
abbrev main_v143 : Ref sig .tc := ⟨.hbm, 218, rfl⟩
abbrev main_c_34 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_c_35 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_cst_36 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_cst_37 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_v171 : Ref sig .tc := ⟨.hbm, 253, rfl⟩
abbrev main_cst_38 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_cst_39 : Ref sig .tc := ⟨.hbm, 258, rfl⟩
abbrev main_v175 : Ref sig .tc := ⟨.hbm, 259, rfl⟩
abbrev main_v176 : Ref sig .tc := ⟨.hbm, 260, rfl⟩
abbrev main_cst_40 : Ref sig .tc := ⟨.hbm, 261, rfl⟩
abbrev main_call7_v0 : Ref sig .tc := ⟨.hbm, 262, rfl⟩
abbrev main_call7_v1 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_cst_41 : Ref sig .tc := ⟨.hbm, 268, rfl⟩
abbrev main_v181 : Ref sig .tc := ⟨.hbm, 269, rfl⟩
abbrev main_v182 : Ref sig .tc := ⟨.hbm, 270, rfl⟩
abbrev main_cst_42 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_cst_43 : Ref sig .tc := ⟨.hbm, 284, rfl⟩
abbrev main_v195 : Ref sig .tc := ⟨.hbm, 285, rfl⟩
abbrev main_v196 : Ref sig .tc := ⟨.hbm, 286, rfl⟩
abbrev main_c_44 : Ref sig .tc := ⟨.hbm, 287, rfl⟩
abbrev main_v197 : Ref sig .tc := ⟨.hbm, 288, rfl⟩
abbrev main_v198 : Ref sig .tc := ⟨.hbm, 289, rfl⟩
abbrev main_c_45 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_cst_46 : Ref sig .tc := ⟨.hbm, 295, rfl⟩
abbrev main_call8_v0 : Ref sig .tc := ⟨.hbm, 296, rfl⟩
abbrev main_call8_v1 : Ref sig .tc := ⟨.hbm, 297, rfl⟩
abbrev main_call8_v2 : Ref sig .tc := ⟨.hbm, 298, rfl⟩
abbrev main_v203 : Ref sig .tc := ⟨.hbm, 299, rfl⟩
abbrev main_cst_47 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_cst_48 : Ref sig .tc := ⟨.hbm, 304, rfl⟩
abbrev main_v207 : Ref sig .tc := ⟨.hbm, 305, rfl⟩
abbrev main_v208 : Ref sig .tc := ⟨.hbm, 306, rfl⟩
abbrev main_cst_49 : Ref sig .tc := ⟨.hbm, 307, rfl⟩
abbrev main_call9_v0 : Ref sig .tc := ⟨.hbm, 308, rfl⟩
abbrev main_call9_v1 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_cst_50 : Ref sig .tc := ⟨.hbm, 314, rfl⟩
abbrev main_v213 : Ref sig .tc := ⟨.hbm, 315, rfl⟩
abbrev main_v214 : Ref sig .tc := ⟨.hbm, 316, rfl⟩
abbrev main_cst_51 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩

abbrev nD : Nat := 1
abbrev τ : Topo := Topo.v7x

variable {F : FTy → Type} [FloatOps F]
-- ==== KernelGdn.lean ====
abbrev S4x4096x5632 : Shape := ⟨3, ![4, 4096, 5632]⟩
abbrev S4x1536 : Shape := ⟨2, ![4, 1536]⟩
abbrev S4 : Shape := ⟨1, ![4]⟩
abbrev S128 : Shape := ⟨1, ![128]⟩
abbrev S1x4 : Shape := ⟨2, ![1, 4]⟩
abbrev S1x128 : Shape := ⟨2, ![1, 128]⟩
abbrev S4x4096x512 : Shape := ⟨3, ![4, 4096, 512]⟩
abbrev S1x256x1536 : Shape := ⟨3, ![1, 256, 1536]⟩
abbrev S1x256x512 : Shape := ⟨3, ![1, 256, 512]⟩
abbrev S1x256x128 : Shape := ⟨3, ![1, 256, 128]⟩
abbrev S8x1536 : Shape := ⟨2, ![8, 1536]⟩
abbrev S4x128x128 : Shape := ⟨3, ![4, 128, 128]⟩
abbrev S256x1536 : Shape := ⟨2, ![256, 1536]⟩
abbrev S1x1536 : Shape := ⟨2, ![1, 1536]⟩
abbrev S248x1536 : Shape := ⟨2, ![248, 1536]⟩
abbrev S1x256x4 : Shape := ⟨3, ![1, 256, 4]⟩
abbrev S256x4 : Shape := ⟨2, ![256, 4]⟩
abbrev S64x256 : Shape := ⟨2, ![64, 256]⟩
abbrev S256x256 : Shape := ⟨2, ![256, 256]⟩
abbrev S4x256 : Shape := ⟨2, ![4, 256]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S64x4 : Shape := ⟨2, ![64, 4]⟩
abbrev S1x128x128 : Shape := ⟨3, ![1, 128, 128]⟩
abbrev S128x128 : Shape := ⟨2, ![128, 128]⟩
abbrev S1x1 : Shape := ⟨2, ![1, 1]⟩
abbrev S1x64x128 : Shape := ⟨3, ![1, 64, 128]⟩
abbrev S64x512 : Shape := ⟨2, ![64, 512]⟩
abbrev S1x64x512 : Shape := ⟨3, ![1, 64, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x5632, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S1x4, .f32⟩
  | .hbm, ⟨6, _⟩ => ⟨S1x4, .f32⟩
  | .hbm, ⟨7, _⟩ => ⟨S1x128, .f32⟩
  | .hbm, ⟨8, _⟩ => ⟨S4x4096x512, .f32⟩
  | .local _ .vmem, ⟨0, _⟩ => ⟨S1x256x1536, .f32⟩
  | .local _ .vmem, ⟨1, _⟩ => ⟨S1x256x1536, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S4x1536, .f32⟩
  | .local _ .vmem, ⟨7, _⟩ => ⟨S1x4, .f32⟩
  | .local _ .vmem, ⟨8, _⟩ => ⟨S1x4, .f32⟩
  | .local _ .vmem, ⟨9, _⟩ => ⟨S1x128, .f32⟩
  | .local _ .vmem, ⟨10, _⟩ => ⟨S1x256x512, .f32⟩
  | .local _ .vmem, ⟨11, _⟩ => ⟨S1x256x512, .f32⟩
  | .local _ .vmem, ⟨12, _⟩ => ⟨S8x1536, .f32⟩
  | .local _ .vmem, ⟨13, _⟩ => ⟨S4x128x128, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, arg1.toNat, c40_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.InBlock.lean ====
module

public import proofs.«01_k».proof.Proof.Gen.KernelInIdeal.Skeleton
public import proofs.«01_k».proof.Proof.Gen.ReferenceInIdeal.Read
public import Idealize.ShloMosaic.Lib.Pointwise

/-!
The arithmetic of the input projection, at one index: what one block of the kernel computes, and what the
reference computes. No memory and no grid here.
-/

@[expose] public section

noncomputable section

namespace Cert.InProj

open Idealize.ShloMosaic Idealize.ShloMosaic.TcCoe

/-- A row scaled to unit mean square, times a gain: entry `k` of
    `x * rsqrt (mean (x * x) + e) * g`, where the mean divides by the constant `c`. -/
def unitRow {n : ℕ} (c e : EReal) (x g : Fin n → EReal) (k : Fin n) : EReal :=
  x k * Ideal.rsqrt (Ideal.div (∑ j, x j * x j) c + e) * g k

/-- The constant 2048 the mean of a row divides by. -/
abbrev width : EReal := Ideal.ofBits .f32 0x45000000#32

/-- The small constant added to the mean square. -/
abbrev small : EReal := Ideal.ofBits .f32 0x358637BD#32

/-- One entry of the projection: the scaled row times a column of the weight. -/
def entry (x g w : Fin 2048 → EReal) : EReal := ∑ k, unitRow width small x g k * w k

section kernel
open Cert.KernelInIdeal Cert.KernelInIdeal.Gen

/-- The block the kernel keeps between points: its row block scaled to unit mean square. -/
theorem kept_apply (x : Vec Ideal S1024x2048 .f32) (g : Vec Ideal S1x2048 .f32) (r : Fin 1024) (k : Fin 2048) :
    k0_pay1 x g (ix2 r k) = unitRow width small (fun j => x (ix2 r j)) (fun j => g (ix2 0 j)) k := by
  unfold unitRow
  pointwise [k0_pay1]

/-- The block the kernel writes back: the kept rows times the weight's columns. -/
theorem product_apply (a : Vec Ideal S1024x2048 .bf16) (w : Vec Ideal S2048x512 .bf16) (r : Fin 1024) (q : Fin 512) :
    k0_pay2 a w (ix2 r q) = ∑ k : Fin 2048, a (ix2 r k) * w (ix2 k q) := by
  pointwise [k0_pay2]

end kernel

section reference
open Cert.ReferenceInIdeal Cert.ReferenceInIdeal.Read

/-- The reference, at one index. -/
theorem reference_apply (x : (⟨S16384x2048, .f32⟩ : BufTy).Contents (Elt Ideal)) (g : (⟨S2048, .f32⟩ : BufTy).Contents (Elt Ideal))
    (w : (⟨S2048x5632, .bf16⟩ : BufTy).Contents (Elt Ideal)) (r : Fin 16384) (q : Fin 5632) :
    val_main_v14 (F := Ideal) x g w (ix2 r q)
      = entry (fun j => x (ix2 r j)) (fun j => g (ix1 j)) (fun k => w (ix2 k q)) := by
  unfold entry unitRow
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

end reference

end Cert.InProj

end
-- ==== Proof.InValue.lean ====
module

public import proofs.«01_k».proof.Proof.InBlock
public import proofs.«01_k».proof.Proof.Gen.KernelInIdeal.Value

/-!
What the input projection leaves in its result array: at every index, `Cert.InProj.entry`.
-/

@[expose] public section

noncomputable section

namespace Cert.InProj

open Cert.KernelInIdeal Cert.KernelInIdeal.Gen Cert.KernelInIdeal.Value Idealize.ShloMosaic Idealize.ShloMosaic.TcCoe Idealize.SL.Sem
open Idealize.ShloMosaic.Pipeline (Dat)

variable (m : (ℓ : Loc nD τ sig) → Buf (Elt Ideal) ℓ)

theorem off2 : (![0, 0] : Fin 2 → Nat) = fun _ => 0 := funext fun a => by fin_cases a <;> rfl

/-- At the first column of a row block the kernel keeps the scaled rows … -/
theorem kept_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x512 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero off2]
  simp only [View.readAt_eq_ld, harg2.read_unread, harg3.read_unread, View.ld_unit_zero (S := S1024x2048) off2, View.ld_unit_zero (S := S1x2048) off2]

/-- … and writes their products with the weight's columns. -/
theorem out_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x512 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero off2, View.readCov_unit_zero (S := S1024x2048) _ off2]
  simp only [View.readAt_eq_ld, harg2.read_unread, harg3.read_unread, harg4.read_unread, View.ld_unit_zero (S := S1024x2048) off2, View.ld_unit_zero (S := S1x2048) off2, View.ld_unit_zero (S := S2048x512) off2]

/-- At a later column it writes the products of the rows it kept. -/
theorem out_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : ¬cond0_0 i)
    (x0 : Vec Ideal S1024x2048 .f32) (x1 : Vec Ideal S1x2048 .f32) (x2 : Vec Ideal S2048x512 .bf16) (xs0 : Vec Ideal S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero off2]
  simp only [View.readAt_eq_ld, harg4.read_unread, harg6.read_unread, View.ld_unit_zero (S := S1024x2048) off2, View.ld_unit_zero (S := S2048x512) off2]

/-! ## The blocks the points read -/

/-- The index maps of the windows: row block `t / 11`, column block `t % 11`. -/
theorem blocks_at : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11) :=
  (by decide +kernel : ∀ t : Fin grid0.N, _)

/-- Every point's row block lies in the array. -/
theorem row_lt (t : Fin cfg0.N) (r : Fin 1024) : 1024 * (t.val / 11) + r.val < 16384 := by
  have := lt_of_lt_of_eq t.isLt (show cfg0.N = 176 from N_0); have := r.isLt; omega

/-- … and its column block in the weight. -/
theorem col_lt (t : Fin cfg0.N) (q : Fin 512) : 512 * (t.val % 11) + q.val < 5632 := by
  have := q.isLt; omega

/-- The block of rows a point reads. -/
theorem rows_apply (c : Dev nD) (t : Fin cfg0.N) (r : Fin 1024) (j : Fin 2048) :
    (iblk m c 0 t : Vec Ideal S1024x2048 .f32) (ix2 r j) = m ((c : Thread nD τ).loc main_arg0) (ix2 ⟨_, row_lt t r⟩ j) := by
  unfold iblk
  rw [View.read_apply]
  show V m c main_arg0 _ = _
  rw [V_main_arg0]
  obtain ⟨⟨h0, h1⟩, -, -⟩ := blocks_at t
  congr 1
  funext a
  apply Fin.ext
  match a with
  | ⟨0, _⟩ => show win0_0.index t 0 * 1024 + 1 * r.val = 1024 * (t.val / 11) + r.val; rw [h0]; omega
  | ⟨1, _⟩ => show win0_0.index t 1 * 2048 + 1 * j.val = j.val; rw [h1]; omega

/-- The gain, as the region finds it. -/
theorem gain_entry (c : Dev nD) : (V m c main_v0 : S1x2048.Idx → EReal)
    = shapeCast S1x2048 (m ((c : Thread nD τ).loc main_arg1) : S2048.Idx → EReal) shapeCasts_S2048_S1x2048 := by
  unfold V
  after_results
  rfl

/-- A vector laid out as one row, at an index. -/
theorem one_row_apply (x : S2048.Idx → EReal) (j : Fin 2048) :
    shapeCast S1x2048 x shapeCasts_S2048_S1x2048 (ix2 0 j) = x (ix1 j) := by
  pointwise

/-- The gain every point reads. -/
theorem gain_apply (c : Dev nD) (t : Fin cfg0.N) (j : Fin 2048) :
    (iblk m c 1 t : Vec Ideal S1x2048 .f32) (ix2 0 j) = m ((c : Thread nD τ).loc main_arg1) (ix1 j) := by
  unfold iblk
  rw [View.read_apply]
  show (V m c main_v0 : S1x2048.Idx → EReal) _ = _
  obtain ⟨-, ⟨h0, h1⟩, -⟩ := blocks_at t
  rw [gain_entry]
  have e : (((cfg0.win 1).blk t).view.emb (ix2 0 j) : S1x2048.Idx) = ix2 0 j := by
    funext a
    apply Fin.ext
    match a with
    | ⟨0, _⟩ => show win0_1.index t 0 * 1 + 1 * 0 = 0; rw [h0]
    | ⟨1, _⟩ => show win0_1.index t 1 * 2048 + 1 * j.val = j.val; rw [h1]; omega
  rw [e, one_row_apply]

/-- The columns of the weight a point reads. -/
theorem weight_apply (c : Dev nD) (t : Fin cfg0.N) (k : Fin 2048) (q : Fin 512) :
    (iblk m c 2 t : Vec Ideal S2048x512 .bf16) (ix2 k q) = m ((c : Thread nD τ).loc main_arg2) (ix2 k ⟨_, col_lt t q⟩) := by
  unfold iblk
  rw [View.read_apply]
  show V m c main_arg2 _ = _
  rw [V_main_arg2]
  obtain ⟨-, -, h0, h1⟩ := blocks_at t
  congr 1
  funext a
  apply Fin.ext
  match a with
  | ⟨0, _⟩ => show win0_2.index t 0 * 2048 + 1 * k.val = k.val; rw [h0]; omega
  | ⟨1, _⟩ => show win0_2.index t 1 * 512 + 1 * q.val = 512 * (t.val % 11) + q.val; rw [h1]; omega

/-! ## After every point -/

/-- The gain as a function of its index. -/
abbrev gain (c : Dev nD) : Fin 2048 → EReal := fun j => m ((c : Thread nD τ).loc main_arg1) (ix1 j)

/-- A row of the argument. -/
abbrev row (c : Dev nD) (r : Fin 16384) : Fin 2048 → EReal := fun j => m ((c : Thread nD τ).loc main_arg0) (ix2 r j)

/-- A column of the weight. -/
abbrev col (c : Dev nD) (q : Fin 5632) : Fin 2048 → EReal := fun k => m ((c : Thread nD τ).loc main_arg2) (ix2 k q)

/-- What the kernel keeps after a first column, entry by entry. -/
theorem kept_block (c : Dev nD) (t : Fin cfg0.N) (r : Fin 1024) (k : Fin 2048) :
    k0_pay1 (iblk m c 0 t) (iblk m c 1 t) (ix2 r k) = unitRow width small (row m c ⟨_, row_lt t r⟩) (gain m c) k := by
  rw [kept_apply]
  simp only [rows_apply, gain_apply]

/-- After every point the kept block holds the scaled rows of the point's row block: by induction, the block of the point
    before being the same row block's except at a first column, which stores it anew. -/
theorem kept_after (c : Dev nD) : ∀ (n : ℕ) (h : n < cfg0.N) (r : Fin 1024) (k : Fin 2048),
    (outsAt0 m c n h).2 (ix2 r k) = unitRow width small (row m c ⟨_, row_lt ⟨n, h⟩ r⟩) (gain m c) k := by
  intro n
  induction n with
  | zero =>
    intro h r k
    rw [outsAt0_A m c ⟨0, h⟩ rfl, ← kept_block m c ⟨0, h⟩ r k]
    dsimp only
    rw [kept_first]
  | succ n ih =>
    intro h r k
    by_cases h0 : (n + 1) % 11 = 0
    · rw [outsAt0_A m c ⟨n + 1, h⟩ h0, ← kept_block m c ⟨n + 1, h⟩ r k]
      dsimp only
      rw [kept_first]
    · rw [outsAt0_B m c ⟨n + 1, h⟩ h0]
      dsimp only
      show (outsAt0 m c n _).2 (ix2 r k) = _
      rw [ih]
      have e : n / 11 = (n + 1) / 11 := by omega
      simp only [e]

/-- After every point the output block holds its entries of the projection. -/
theorem out_after (c : Dev nD) (t : Fin cfg0.N) (r : Fin 1024) (q : Fin 512) :
    (outsAt0 m c t.val t.isLt).1 (ix2 r q) = entry (row m c ⟨_, row_lt t r⟩) (gain m c) (col m c ⟨_, col_lt t q⟩) := by
  have key : ∀ a : Vec Ideal S1024x2048 .bf16,
      (∀ k : Fin 2048, a (ix2 r k) = unitRow width small (row m c ⟨_, row_lt t r⟩) (gain m c) k) →
      k0_pay2 a (iblk m c 2 t) (ix2 r q) = entry (row m c ⟨_, row_lt t r⟩) (gain m c) (col m c ⟨_, col_lt t q⟩) := by
    intro a ha
    rw [product_apply]
    unfold entry
    refine Finset.sum_congr rfl fun k _ => ?_
    rw [ha, weight_apply]
  by_cases h0 : t.val % 11 = 0
  · rw [outsAt0_A m c t h0]
    dsimp only
    rw [out_first]
    exact key _ fun k => kept_block m c t r k
  · have hk := fun k => kept_after m c t.val t.isLt r k
    rw [outsAt0_B m c t h0] at hk ⊢
    dsimp only at hk ⊢
    rw [out_later]
    exact key _ hk

/-! ## The array -/

/-- The whole result. -/
def whole (c : Dev nD) : Buf (Elt Ideal) ((c : Thread nD τ).loc main_v1) := fun i : S16384x5632.Idx =>
  entry (row m c (i 0)) (gain m c) (col m c (i 1))

/-- What a point writes back is its block of the whole result. -/
theorem block_eq (c : Dev nD) (t : Fin cfg0.N) :
    (dats m 0 c).flushed 3 t = ((cfg0.win 3).blk t).view.read (Elt Ideal) (whole m c) := by
  rw [flushed3]
  obtain ⟨e0, e1, e2⟩ := idx_facts3 t
  funext y
  obtain ⟨r, q, rfl⟩ : ∃ (r : Fin 1024) (q : Fin 512), y = ix2 r q := ⟨y 0, y 1, eq_ix2 y⟩
  rw [View.read_apply]
  show (outsAt0 m c t.val t.isLt).1 (ix2 r q) = whole m c (((cfg0.win 3).blk t).view.emb (ix2 r q))
  rw [out_after]
  unfold whole
  have hq := q.isLt
  have a0 : (((cfg0.win 3).blk t).view.emb (ix2 r q) : S16384x5632.Idx) 0 = ⟨_, row_lt t r⟩ :=
    Fin.ext (by show win0_3.index t 0 * 1024 + 1 * r.val = 1024 * (t.val / 11) + r.val; omega)
  have a1 : (((cfg0.win 3).blk t).view.emb (ix2 r q) : S16384x5632.Idx) 1 = ⟨_, col_lt t q⟩ :=
    Fin.ext (by show win0_3.index t 1 * 512 + 1 * q.val = 512 * (t.val % 11) + q.val; omega)
  rw [a0, a1]
  rfl

/-- The result array after the run. -/
theorem array_eq (c : Dev nD) : (dats m 0 c).arrAt 3 cfg0.N = whole m c :=
  (dats m 0 c).arrAt_eq_of_cover 3 _ (fun t _ => block_eq m c t) fun i => (covered_iff3 i).2 (by
    have h0 : (i 0).val < 16384 := (i 0).isLt; have h1 : (i 1).val < 5632 := (i 1).isLt; omega)

end Cert.InProj

end
-- ==== Proof.InProof.lean ====
module

public import proofs.«01_k».proof.Proof.InValue
public import proofs.«01_k».proof.Defs
public import proofs.«01_k».proof.Proof.Gen.ReferenceInIdeal.Run
public import Idealize.ShloMosaic.Lib.Quiescent

/-!
The claims of the input projection, assembled.
-/

@[expose] public section

noncomputable section

namespace Cert.InProj

open Idealize.ShloMosaic Idealize.ShloMosaic.TcCoe Idealize.SL.Sem

/-- The reference's array is the whole result of the kernel's arguments. -/
theorem reference_eq (x : (⟨Cert.ReferenceInIdeal.S16384x2048, .f32⟩ : BufTy).Contents (Elt Ideal))
    (g : (⟨Cert.ReferenceInIdeal.S2048, .f32⟩ : BufTy).Contents (Elt Ideal))
    (w : (⟨Cert.ReferenceInIdeal.S2048x5632, .bf16⟩ : BufTy).Contents (Elt Ideal)) :
    Cert.ReferenceInIdeal.Read.val_main_v14 (F := Ideal) x g w
      = fun i => entry (fun j => x (ix2 (i 0) j)) (fun j => g (ix1 j)) (fun k => w (ix2 k (i 1))) := by
  funext i
  obtain ⟨r, q, rfl⟩ : ∃ (r : Fin 16384) (q : Fin 5632), i = ix2 r q := ⟨i 0, i 1, eq_ix2 i⟩
  exact reference_apply x g w r q

/-- The reference terminates, its arguments unchanged. -/
theorem reference_frame : Cert.quiescent_ReferenceInIdeal := fun m ρ _ =>
  (θ_run _ _ _).mono (fun r h => ⟨fun c => (h c).2, sem_eq_zero_of_no_sems (by decide) r.2⟩) (Cert.ReferenceInIdeal.Value.run m ρ)

/-- Both programs end with one array of extended reals. -/
theorem algebraic : Cert.algebraic_KernelInIdeal_ReferenceInIdeal := by
  intro m ρ m' ρ' _ hag
  refine ⟨fun c => whole m c, (θ_run _ _ _).mono (fun r h c => ⟨(h c).1.trans (array_eq m c), (h c).2⟩)
    (Cert.KernelInIdeal.Value.run_blocks m ρ), (θ_run _ _ _).mono (fun r h c => ⟨(h c).1.trans ?_, (h c).2⟩)
    (Cert.ReferenceInIdeal.Value.run m' ρ')⟩
  obtain ⟨h0, h1, h2⟩ := hag c
  rw [h0, h1, h2]
  exact reference_eq _ _ _

end Cert.InProj

end
-- ==== Proof.OutBlock.lean ====
module

public import proofs.«01_k».proof.Proof.InBlock
public import proofs.«01_k».proof.Proof.Gen.KernelOutIdeal.Frame
public import proofs.«01_k».proof.Proof.Gen.ReferenceOutIdeal.Read
public import Idealize.ShloMosaic.Lib.Pointwise

/-!
The arithmetic of the output projection, at one index: what one block of the kernel computes, and what the
reference computes. No memory and no grid here.
-/

@[expose] public section

noncomputable section

namespace Cert.OutProj

open Idealize.ShloMosaic Idealize.ShloMosaic.TcCoe Cert.InProj

/-- The constant 1024 the mean of a row of the third mixer divides by. -/
abbrev width3 : EReal := Ideal.ofBits .f32 0x44800000#32

/-- One entry of the projected sum of the three mixers: `w` is a column of the weight, its first 512 rows the first
    mixer's, the next 512 the second's, the last 1024 the third's, whose row is scaled to unit mean square first. -/
def mixed (y1 y2 : Fin 512 → EReal) (y3 g3 : Fin 1024 → EReal) (w : Fin 2048 → EReal) : EReal :=
  (∑ k : Fin 512, y1 k * w ⟨k.val, by omega⟩) + (∑ k : Fin 512, y2 k * w ⟨512 + k.val, by omega⟩)
    + ∑ k : Fin 1024, unitRow width3 small y3 g3 k * w ⟨1024 + k.val, by omega⟩

/-- A column of the router's weight, 4 columns of groups, then 32 of experts, then nothing. -/
def routeCol (gw : Fin 2048 → Fin 4 → EReal) (ew : Fin 2048 → Fin 32 → EReal) (l : Fin 128) (k : Fin 2048) : EReal :=
  if h : l.val < 4 then gw k ⟨l.val, h⟩ else if h' : l.val - 4 < 32 then ew k ⟨l.val - 4, h'⟩ else 0

/-- The router's bias, likewise. -/
def routeBias (gb : Fin 4 → EReal) (eb : Fin 32 → EReal) (l : Fin 128) : EReal :=
  if h : l.val < 4 then gb ⟨l.val, h⟩ else if h' : l.val - 4 < 32 then eb ⟨l.val - 4, h'⟩ else 0

/-- One logit. -/
def logit (a : Fin 2048 → EReal) (w : Fin 2048 → EReal) (b : EReal) : EReal := (∑ k, a k * w k) + b

/-- A sum over 2048 places is one over the first 512, one over the next 512, and one over the last 1024. -/
theorem sum_parts (f : Fin 2048 → EReal) :
    ∑ k, f k = (∑ k : Fin 512, f ⟨k.val, by omega⟩) + (∑ k : Fin 512, f ⟨512 + k.val, by omega⟩)
      + ∑ k : Fin 1024, f ⟨1024 + k.val, by omega⟩ := by
  have h := Fin.sum_univ_add (M := EReal) (a := 1024) (b := 1024) f
  have h' := Fin.sum_univ_add (M := EReal) (a := 512) (b := 512) fun i => f (Fin.castAdd 1024 i)
  rw [h, h']
  rfl

section kernel
open Cert.KernelOutIdeal Cert.KernelOutIdeal.Gen

/-- The hidden rows a block of the kernel writes. -/
theorem hidden_apply (y3 : Vec Ideal S256x1024 .f32) (g3 : Vec Ideal S1x1024 .f32) (y1 : Vec Ideal S256x512 .f32) (w1 : Vec Ideal S512x2048 .bf16)
    (y2 : Vec Ideal S256x512 .f32) (w2 : Vec Ideal S512x2048 .bf16) (w3 : Vec Ideal S1024x2048 .bf16) (x : Vec Ideal S256x2048 .f32)
    (r : Fin 256) (q : Fin 2048) :
    k0_pay3 y3 g3 y1 w1 y2 w2 w3 x (ix2 r q) = x (ix2 r q)
      + ((∑ k : Fin 512, y1 (ix2 r k) * w1 (ix2 k q)) + (∑ k : Fin 512, y2 (ix2 r k) * w2 (ix2 k q))
        + ∑ k : Fin 1024, unitRow width3 small (fun j => y3 (ix2 r j)) (fun j => g3 (ix2 0 j)) k * w3 (ix2 k q)) := by
  unfold unitRow
  pointwise [k0_pay3]

/-- The scaled hidden rows. -/
theorem scaled_apply (h : Vec Ideal S256x2048 .f32) (g : Vec Ideal S1x2048 .f32) (r : Fin 256) (q : Fin 2048) :
    k0_pay1 h g (ix2 r q) = unitRow width small (fun j => h (ix2 r j)) (fun j => g (ix2 0 j)) q := by
  unfold unitRow
  pointwise [k0_pay1]

/-- The logits. -/
theorem logits_apply (h : Vec Ideal S256x2048 .f32) (g : Vec Ideal S1x2048 .f32) (w : Vec Ideal S2048x128 .bf16) (b : Vec Ideal S1x128 .f32)
    (r : Fin 256) (l : Fin 128) :
    k0_pay2 h g w b (ix2 r l) = logit (fun k => k0_pay1 h g (ix2 r k)) (fun k => w (ix2 k l)) (b (ix2 0 l)) := by
  unfold logit
  pointwise [k0_pay2]

end kernel

section reference
open Cert.ReferenceOutIdeal Cert.ReferenceOutIdeal.Read

variable (x0 : (⟨S16384x2048, .f32⟩ : BufTy).Contents (Elt Ideal)) (x1 x2 : (⟨S16384x512, .f32⟩ : BufTy).Contents (Elt Ideal))
  (x3 : (⟨S16384x1024, .f32⟩ : BufTy).Contents (Elt Ideal)) (x4 : (⟨S1024, .f32⟩ : BufTy).Contents (Elt Ideal))
  (x5 : (⟨S2048x2048, .f32⟩ : BufTy).Contents (Elt Ideal)) (x6 : (⟨S2048, .f32⟩ : BufTy).Contents (Elt Ideal))
  (x7 : (⟨S2048x4, .f32⟩ : BufTy).Contents (Elt Ideal)) (x8 : (⟨S4, .f32⟩ : BufTy).Contents (Elt Ideal))
  (x9 : (⟨S2048x32, .f32⟩ : BufTy).Contents (Elt Ideal)) (x10 : (⟨S32, .f32⟩ : BufTy).Contents (Elt Ideal))

/-- The third mixer's rows, scaled. -/
theorem third_apply (r : Fin 16384) (k : Fin 1024) :
    val_main_v12 (F := Ideal) x3 x4 (ix2 r k) = unitRow width3 small (fun j => x3 (ix2 r j)) (fun j => x4 (ix1 j)) k := by
  unfold unitRow
  pointwise [val_main_v12, val_main_v11, val_main_v10, val_main_v9, val_main_v8, val_main_v7,
    val_main_v6, val_main_v5, val_main_v4, val_main_v3, val_main_v2, val_main_v1, val_main_v0, val_main_cst, val_main_cst_0, val_main_cst_1]

/-- The three mixers side by side, at a column of each. -/
theorem side_first (r : Fin 16384) (k : Fin 512) :
    val_main_v13 (F := Ideal) x1 x2 x3 x4 (ix2 r ⟨k.val, by omega⟩) = x1 (ix2 r k) := by
  unfold val_main_v13
  generalize val_main_v12 (F := Ideal) x3 x4 = y
  pointwise

theorem side_second (r : Fin 16384) (k : Fin 512) :
    val_main_v13 (F := Ideal) x1 x2 x3 x4 (ix2 r ⟨512 + k.val, by omega⟩) = x2 (ix2 r k) := by
  unfold val_main_v13
  generalize val_main_v12 (F := Ideal) x3 x4 = y
  pointwise

theorem side_third (r : Fin 16384) (k : Fin 1024) :
    val_main_v13 (F := Ideal) x1 x2 x3 x4 (ix2 r ⟨1024 + k.val, by omega⟩) = val_main_v12 (F := Ideal) x3 x4 (ix2 r k) := by
  unfold val_main_v13
  generalize val_main_v12 (F := Ideal) x3 x4 = y
  pointwise
  rw [dif_neg (by omega), dif_neg (by omega)]
  exact congrArg y (congrArg (ix2 r) (Fin.ext (by show 1024 + k.val - 512 - 512 = k.val; omega)))

/-- The reference's hidden rows. -/
theorem ref_hidden_apply (r : Fin 16384) (q : Fin 2048) :
    val_main_v15 (F := Ideal) x0 x1 x2 x3 x4 x5 (ix2 r q) = x0 (ix2 r q)
      + mixed (fun k => x1 (ix2 r k)) (fun k => x2 (ix2 r k)) (fun k => x3 (ix2 r k)) (fun k => x4 (ix1 k)) (fun k => x5 (ix2 k q)) := by
  have h : val_main_v14 (F := Ideal) x1 x2 x3 x4 x5 (ix2 r q) = ∑ k : Fin 2048, val_main_v13 (F := Ideal) x1 x2 x3 x4 (ix2 r k) * x5 (ix2 k q) := by
    unfold val_main_v14
    generalize val_main_v13 (F := Ideal) x1 x2 x3 x4 = y
    pointwise
  rw [val_main_v15_apply, h, sum_parts]
  simp only [side_first, side_second, side_third, third_apply]
  rfl

/-- The reference's scaled hidden rows. -/
theorem ref_scaled_apply (r : Fin 16384) (q : Fin 2048) :
    val_main_v28 (F := Ideal) x0 x1 x2 x3 x4 x5 x6 (ix2 r q)
      = unitRow width small (fun j => val_main_v15 (F := Ideal) x0 x1 x2 x3 x4 x5 (ix2 r j)) (fun j => x6 (ix1 j)) q := by
  unfold unitRow val_main_v28 val_main_v25 val_main_v24 val_main_v23 val_main_v22 val_main_v20 val_main_v18 val_main_v17 val_main_v16
  generalize val_main_v15 (F := Ideal) x0 x1 x2 x3 x4 x5 = y
  pointwise [val_main_v27, val_main_v26, val_main_v21, val_main_v19, val_main_cst_2, val_main_cst_3, val_main_cst_4]

/-- The reference's logits. -/
theorem ref_logits_apply (r : Fin 16384) (l : Fin 128) :
    val_main_v38 (F := Ideal) x0 x1 x2 x3 x4 x5 x6 x7 x8 x9 x10 (ix2 r l)
      = logit (fun k => val_main_v28 (F := Ideal) x0 x1 x2 x3 x4 x5 x6 (ix2 r k))
          (routeCol (fun k j => x7 (ix2 k j)) (fun k j => x9 (ix2 k j)) l) (routeBias (fun j => x8 (ix1 j)) (fun j => x10 (ix1 j)) l) := by
  unfold logit routeCol routeBias val_main_v38 val_main_v37 val_main_v36 val_main_v33 val_main_v32 val_main_v29
  generalize val_main_v28 (F := Ideal) x0 x1 x2 x3 x4 x5 x6 = y
  pointwise [val_main_v35, val_main_v34, val_main_v31, val_main_v30, val_main_c, val_main_call0_v0]
  have z : (FloatOps.sitofp (F := Ideal) FTy.f32 (0#32 : BitVec 32) : EReal) = 0 := by
    show ((((0#32 : BitVec 32).toInt : ℝ)) : EReal) = 0
    simp
  by_cases h : l.val < 4
  · simp only [h, show l.val < 36 by omega, dif_pos]
  · by_cases h' : l.val < 36
    · simp only [h, h', show l.val - 4 < 32 by omega, dif_pos, dif_neg, not_false_eq_true]
    · simp only [h, h', show ¬ l.val - 4 < 32 by omega, dif_neg, not_false_eq_true, mul_zero, Finset.sum_const_zero, add_zero]
      exact z

end reference

end Cert.OutProj

end
-- ==== Proof.OutValue.lean ====
module

public import proofs.«01_k».proof.Proof.InValue
public import proofs.«01_k».proof.Proof.OutBlock
public import proofs.«01_k».proof.Proof.Gen.KernelOutIdeal.Value

/-!
What the output projection leaves in its three result arrays: the hidden rows, the scaled hidden rows, the logits.
-/

@[expose] public section

noncomputable section

namespace Cert.OutProj

open Cert.KernelOutIdeal Cert.KernelOutIdeal.Gen Cert.KernelOutIdeal.Value Idealize.ShloMosaic Idealize.ShloMosaic.TcCoe Idealize.SL.Sem
open Idealize.ShloMosaic.Pipeline (Dat)
open Cert.InProj (unitRow width small off2)

variable (m : (ℓ : Loc nD τ sig) → Buf (Elt Ideal) ℓ)

/-! ## What the body leaves in its output blocks -/

section body
variable (x0 : Vec Ideal S256x2048 .f32) (x1 x2 : Vec Ideal S256x512 .f32) (x3 : Vec Ideal S256x1024 .f32) (x4 : Vec Ideal S1x1024 .f32)
  (x5 : Vec Ideal S2048x2048 .bf16) (x6 : Vec Ideal S1x2048 .f32) (x7 : Vec Ideal S2048x128 .bf16) (x8 : Vec Ideal S1x128 .f32)

/-- The block of hidden rows, as a function of the input blocks. -/
def hiddenBlock : Vec Ideal S256x2048 .f32 :=
  k0_pay3 x3 x4 x1 (View.ld x5 r0_3) x2 (View.ld x5 r0_4) (View.ld x5 r0_5) x0

theorem out9_eq : out0_9 x0 x1 x2 x3 x4 x5 x6 x7 x8 = hiddenBlock x0 x1 x2 x3 x4 x5 := by
  unfold out0_9 hiddenBlock
  rw [View.canon_unit_zero off2]
  simp only [View.ld_unit_zero (S := S256x2048) off2, View.ld_unit_zero (S := S256x512) off2, View.ld_unit_zero (S := S256x1024) off2,
    View.ld_unit_zero (S := S1x1024) off2]

theorem pay4_eq : k0_pay4 x0 x1 x2 x3 x4 x5 x6 x7 x8 = hiddenBlock x0 x1 x2 x3 x4 x5 := by
  unfold k0_pay4 hiddenBlock
  simp only [View.ld_unit_zero (S := S256x2048) off2, View.ld_unit_zero (S := S256x512) off2, View.ld_unit_zero (S := S256x1024) off2,
    View.ld_unit_zero (S := S1x1024) off2]

theorem out10_eq : out0_10 x0 x1 x2 x3 x4 x5 x6 x7 x8 = k0_pay1 (hiddenBlock x0 x1 x2 x3 x4 x5) x6 := by
  unfold out0_10
  rw [View.canon_unit_zero off2, pay4_eq]
  simp only [View.ld_unit_zero (S := S1x2048) off2]

theorem out11_eq : out0_11 x0 x1 x2 x3 x4 x5 x6 x7 x8 = k0_pay2 (hiddenBlock x0 x1 x2 x3 x4 x5) x6 x7 x8 := by
  unfold out0_11
  rw [View.canon_unit_zero off2, pay4_eq]
  simp only [View.ld_unit_zero (S := S1x2048) off2, View.ld_unit_zero (S := S2048x128) off2, View.ld_unit_zero (S := S1x128) off2]

/-- A slice of the weight's rows, at an index. -/
theorem slice_first (k : Fin 512) (q : Fin 2048) : View.ld x5 r0_3 (ix2 k q) = x5 (ix2 ⟨k.val, by omega⟩ q) :=
  congrArg x5 (funext fun a => Fin.ext (match a with
    | ⟨0, _⟩ => by show 0 + 1 * k.val = k.val; omega
    | ⟨1, _⟩ => by show 0 + 1 * q.val = q.val; omega))

theorem slice_second (k : Fin 512) (q : Fin 2048) : View.ld x5 r0_4 (ix2 k q) = x5 (ix2 ⟨512 + k.val, by omega⟩ q) :=
  congrArg x5 (funext fun a => Fin.ext (match a with
    | ⟨0, _⟩ => by show 512 + 1 * k.val = 512 + k.val; omega
    | ⟨1, _⟩ => by show 0 + 1 * q.val = q.val; omega))

theorem slice_third (k : Fin 1024) (q : Fin 2048) : View.ld x5 r0_5 (ix2 k q) = x5 (ix2 ⟨1024 + k.val, by omega⟩ q) :=
  congrArg x5 (funext fun a => Fin.ext (match a with
    | ⟨0, _⟩ => by show 1024 + 1 * k.val = 1024 + k.val; omega
    | ⟨1, _⟩ => by show 0 + 1 * q.val = q.val; omega))

/-- One entry of the block of hidden rows. -/
theorem hiddenBlock_apply (r : Fin 256) (q : Fin 2048) :
    hiddenBlock x0 x1 x2 x3 x4 x5 (ix2 r q) = x0 (ix2 r q)
      + mixed (fun k => x1 (ix2 r k)) (fun k => x2 (ix2 r k)) (fun k => x3 (ix2 r k)) (fun k => x4 (ix2 0 k)) (fun k => x5 (ix2 k q)) := by
  unfold hiddenBlock mixed
  rw [hidden_apply]
  refine congrArg (x0 (ix2 r q) + ·) (congr (congrArg HAdd.hAdd (congr (congrArg HAdd.hAdd ?_) ?_)) ?_)
  · exact Finset.sum_congr rfl fun k _ => congrArg (x1 (ix2 r k) * ·) (slice_first x5 k q)
  · exact Finset.sum_congr rfl fun k _ => congrArg (x2 (ix2 r k) * ·) (slice_second x5 k q)
  · exact Finset.sum_congr rfl fun k _ => congrArg (_ * ·) (slice_third x5 k q)

end body

/-! ## The blocks the points read -/

/-- The index maps of the windows: row block `t` of the rows, the one block of everything else. -/
theorem blocks_at : ∀ t : Fin cfg0.N,
    ((win0_0.index t (0 : Fin 2) = t.val ∧ win0_0.index t (1 : Fin 2) = 0) ∧ (win0_1.index t (0 : Fin 2) = t.val ∧ win0_1.index t (1 : Fin 2) = 0)
      ∧ (win0_2.index t (0 : Fin 2) = t.val ∧ win0_2.index t (1 : Fin 2) = 0) ∧ (win0_3.index t (0 : Fin 2) = t.val ∧ win0_3.index t (1 : Fin 2) = 0))
    ∧ ((win0_4.index t (0 : Fin 2) = 0 ∧ win0_4.index t (1 : Fin 2) = 0) ∧ (win0_5.index t (0 : Fin 2) = 0 ∧ win0_5.index t (1 : Fin 2) = 0)
      ∧ (win0_6.index t (0 : Fin 2) = 0 ∧ win0_6.index t (1 : Fin 2) = 0) ∧ (win0_7.index t (0 : Fin 2) = 0 ∧ win0_7.index t (1 : Fin 2) = 0)
      ∧ (win0_8.index t (0 : Fin 2) = 0 ∧ win0_8.index t (1 : Fin 2) = 0))
    ∧ (win0_9.index t (0 : Fin 2) = t.val ∧ win0_9.index t (1 : Fin 2) = 0) ∧ (win0_10.index t (0 : Fin 2) = t.val ∧ win0_10.index t (1 : Fin 2) = 0)
      ∧ (win0_11.index t (0 : Fin 2) = t.val ∧ win0_11.index t (1 : Fin 2) = 0) :=
  (by decide +kernel : ∀ t : Fin grid0.N, _)

/-- Every point's row block lies in the arrays. -/
theorem row_lt (t : Fin cfg0.N) (r : Fin 256) : 256 * t.val + r.val < 16384 := by
  have := lt_of_lt_of_eq t.isLt (show cfg0.N = 64 from N_0); have := r.isLt; omega

/-- The row of the arrays a block's row is. -/
abbrev rowOf (t : Fin cfg0.N) (r : Fin 256) : Fin 16384 := ⟨_, row_lt t r⟩

/-- The rows a point reads of the block's input and of the three mixers. -/
theorem rows0_apply (c : Dev nD) (t : Fin cfg0.N) (r : Fin 256) (j : Fin 2048) :
    (iblk m c 0 t : Vec Ideal S256x2048 .f32) (ix2 r j) = m ((c : Thread nD τ).loc main_arg0) (ix2 (rowOf t r) j) := by
  unfold iblk
  rw [View.read_apply]
  show V m c main_arg0 _ = _
  rw [V_main_arg0]
  have h0 : win0_0.index t (0 : Fin 2) = t.val := (blocks_at t).1.1.1
  have h1 : win0_0.index t (1 : Fin 2) = 0 := (blocks_at t).1.1.2
  congr 1
  funext a
  apply Fin.ext
  match a with
  | ⟨0, _⟩ => show win0_0.index t 0 * 256 + 1 * r.val = 256 * t.val + r.val; rw [h0]; omega
  | ⟨1, _⟩ => show win0_0.index t 1 * 2048 + 1 * j.val = j.val; rw [h1]; omega

theorem rows1_apply (c : Dev nD) (t : Fin cfg0.N) (r : Fin 256) (j : Fin 512) :
    (iblk m c 1 t : Vec Ideal S256x512 .f32) (ix2 r j) = m ((c : Thread nD τ).loc main_arg1) (ix2 (rowOf t r) j) := by
  unfold iblk
  rw [View.read_apply]
  show V m c main_arg1 _ = _
  rw [V_main_arg1]
  have h0 : win0_1.index t (0 : Fin 2) = t.val := (blocks_at t).1.2.1.1
  have h1 : win0_1.index t (1 : Fin 2) = 0 := (blocks_at t).1.2.1.2
  congr 1
  funext a
  apply Fin.ext
  match a with
  | ⟨0, _⟩ => show win0_1.index t 0 * 256 + 1 * r.val = 256 * t.val + r.val; rw [h0]; omega
  | ⟨1, _⟩ => show win0_1.index t 1 * 512 + 1 * j.val = j.val; rw [h1]; omega

theorem rows2_apply (c : Dev nD) (t : Fin cfg0.N) (r : Fin 256) (j : Fin 512) :
    (iblk m c 2 t : Vec Ideal S256x512 .f32) (ix2 r j) = m ((c : Thread nD τ).loc main_arg2) (ix2 (rowOf t r) j) := by
  unfold iblk
  rw [View.read_apply]
  show V m c main_arg2 _ = _
  rw [V_main_arg2]
  have h0 : win0_2.index t (0 : Fin 2) = t.val := (blocks_at t).1.2.2.1.1
  have h1 : win0_2.index t (1 : Fin 2) = 0 := (blocks_at t).1.2.2.1.2
  congr 1
  funext a
  apply Fin.ext
  match a with
  | ⟨0, _⟩ => show win0_2.index t 0 * 256 + 1 * r.val = 256 * t.val + r.val; rw [h0]; omega
  | ⟨1, _⟩ => show win0_2.index t 1 * 512 + 1 * j.val = j.val; rw [h1]; omega

theorem rows3_apply (c : Dev nD) (t : Fin cfg0.N) (r : Fin 256) (j : Fin 1024) :
    (iblk m c 3 t : Vec Ideal S256x1024 .f32) (ix2 r j) = m ((c : Thread nD τ).loc main_arg3) (ix2 (rowOf t r) j) := by
  unfold iblk
  rw [View.read_apply]
  show V m c main_arg3 _ = _
  rw [V_main_arg3]
  have h0 : win0_3.index t (0 : Fin 2) = t.val := (blocks_at t).1.2.2.2.1
  have h1 : win0_3.index t (1 : Fin 2) = 0 := (blocks_at t).1.2.2.2.2
  congr 1
  funext a
  apply Fin.ext
  match a with
  | ⟨0, _⟩ => show win0_3.index t 0 * 256 + 1 * r.val = 256 * t.val + r.val; rw [h0]; omega
  | ⟨1, _⟩ => show win0_3.index t 1 * 1024 + 1 * j.val = j.val; rw [h1]; omega

/-! ## The arrays the host prepares -/

/-- A vector laid out as one row, at an index. -/
theorem one_row_apply (x : S1024.Idx → EReal) (j : Fin 1024) : shapeCast S1x1024 x shapeCasts_S1024_S1x1024 (ix2 0 j) = x (ix1 j) := by
  pointwise

theorem one_row_apply' (x : S2048.Idx → EReal) (j : Fin 2048) : shapeCast S1x2048 x shapeCasts_S2048_S1x2048 (ix2 0 j) = x (ix1 j) := by
  pointwise

/-- The host's zero, converted. -/
theorem zero_conv (t : FTy) : (FloatOps.sitofp (F := Ideal) t (0#32 : BitVec 32) : EReal) = 0 := by
  show ((((0#32 : BitVec 32).toInt : ℝ)) : EReal) = 0
  simp

/-- The router's weights side by side, padded to 128 columns. -/
def routerWeight (x : Vec Ideal S2048x4 .f32) (y : Vec Ideal S2048x32 .f32) : Vec Ideal S2048x128 .bf16 :=
  pad (s := S2048x36) S2048x128 ![0, 0] ![0, 92] ![0, 0]
    (truncf (F := Ideal) .bf16 (concatenate S2048x36 1 [⟨S2048x4, x⟩, ⟨S2048x32, y⟩] concatenates_S2048x4_S2048x32_S2048x36_d1 : Vec Ideal S2048x36 .f32) bitsLt_bf16_f32)
    (sitofp (F := Ideal) .bf16 (constantI S_ 32 0#32)) pads_S2048x36_S2048x128_000_0920 h_S_

theorem routerWeight_apply (x : Vec Ideal S2048x4 .f32) (y : Vec Ideal S2048x32 .f32) (k : Fin 2048) (l : Fin 128) :
    routerWeight x y (ix2 k l) = routeCol (fun k j => x (ix2 k j)) (fun k j => y (ix2 k j)) l k := by
  unfold routeCol
  pointwise [routerWeight]
  by_cases h : l.val < 4
  · simp only [h, show l.val < 36 by omega, dif_pos]
  · by_cases h' : l.val < 36
    · simp only [h, h', show l.val - 4 < 32 by omega, dif_pos, dif_neg, not_false_eq_true]
    · simp only [h, h', show ¬ l.val - 4 < 32 by omega, dif_neg, not_false_eq_true]
      exact zero_conv _

/-- The router's biases side by side, padded to 128, laid out as one row. -/
def routerBias (x : Vec Ideal S4 .f32) (y : Vec Ideal S32 .f32) : Vec Ideal S1x128 .f32 :=
  shapeCast S1x128 (pad (s := S36) S128 ![0] ![92] ![0] (concatenate S36 0 [⟨S4, x⟩, ⟨S32, y⟩] concatenates_S4_S32_S36_d0 : Vec Ideal S36 .f32)
    (sitofp (F := Ideal) .f32 (constantI S_ 32 0#32)) pads_S36_S128_0920 h_S_ : Vec Ideal S128 .f32) shapeCasts_S128_S1x128

theorem routerBias_apply (x : Vec Ideal S4 .f32) (y : Vec Ideal S32 .f32) (l : Fin 128) :
    routerBias x y (ix2 0 l) = routeBias (fun j => x (ix1 j)) (fun j => y (ix1 j)) l := by
  unfold routeBias
  pointwise [routerBias]
  by_cases h : l.val < 4
  · simp only [h, show l.val < 36 by omega, dif_pos]
  · by_cases h' : l.val < 36
    · simp only [h, h', show l.val - 4 < 32 by omega, dif_pos, dif_neg, not_false_eq_true]
    · simp only [h, h', show ¬ l.val - 4 < 32 by omega, dif_neg, not_false_eq_true]
      exact zero_conv _

/-- What the region finds in each array the host prepared. -/
theorem gain3_entry (c : Dev nD) : (V m c main_v6 : S1x1024.Idx → EReal)
    = shapeCast S1x1024 (m ((c : Thread nD τ).loc main_arg4) : S1024.Idx → EReal) shapeCasts_S1024_S1x1024 := by
  simp only [V, hostOps0, hostOps0_1, hostOps0_2, hostOps0_3, hostOps0_4, List.flatten_cons, List.flatten_nil, List.append_nil, List.cons_append, List.nil_append]
  after_results
  rfl

theorem weight_entry (c : Dev nD) : (V m c main_v7 : S2048x2048.Idx → EReal) = (m ((c : Thread nD τ).loc main_arg5) : S2048x2048.Idx → EReal) := by
  simp only [V, hostOps0, hostOps0_1, hostOps0_2, hostOps0_3, hostOps0_4, List.flatten_cons, List.flatten_nil, List.append_nil, List.cons_append, List.nil_append]
  after_results
  rfl

theorem gain_entry (c : Dev nD) : (V m c main_v8 : S1x2048.Idx → EReal)
    = shapeCast S1x2048 (m ((c : Thread nD τ).loc main_arg6) : S2048.Idx → EReal) shapeCasts_S2048_S1x2048 := by
  simp only [V, hostOps0, hostOps0_1, hostOps0_2, hostOps0_3, hostOps0_4, List.flatten_cons, List.flatten_nil, List.append_nil, List.cons_append, List.nil_append]
  after_results
  rfl

theorem router_weight_entry (c : Dev nD) : (V m c main_v3 : S2048x128.Idx → EReal)
    = routerWeight (m ((c : Thread nD τ).loc main_arg7)) (m ((c : Thread nD τ).loc main_arg9)) := by
  simp only [V, hostOps0, hostOps0_1, hostOps0_2, hostOps0_3, hostOps0_4, List.flatten_cons, List.flatten_nil, List.append_nil, List.cons_append, List.nil_append]
  after_results
  rfl

theorem router_bias_entry (c : Dev nD) : (V m c main_v5 : S1x128.Idx → EReal)
    = routerBias (m ((c : Thread nD τ).loc main_arg8)) (m ((c : Thread nD τ).loc main_arg10)) := by
  simp only [V, hostOps0, hostOps0_1, hostOps0_2, hostOps0_3, hostOps0_4, List.flatten_cons, List.flatten_nil, List.append_nil, List.cons_append, List.nil_append]
  after_results
  rfl

/-! ## What every point reads of them -/

theorem gain3_apply (c : Dev nD) (t : Fin cfg0.N) (q : Fin 1024) :
    (iblk m c 4 t : Vec Ideal S1x1024 .f32) (ix2 0 q) = m ((c : Thread nD τ).loc main_arg4) (ix1 q) := by
  unfold iblk
  rw [View.read_apply]
  show (V m c main_v6 : S1x1024.Idx → EReal) _ = _
  have h0 : win0_4.index t (0 : Fin 2) = 0 := (blocks_at t).2.1.1.1
  have h1 : win0_4.index t (1 : Fin 2) = 0 := (blocks_at t).2.1.1.2
  rw [gain3_entry]
  have e : (((cfg0.win 4).blk t).view.emb (ix2 0 q) : S1x1024.Idx) = (ix2 0 q) := by
    funext a
    apply Fin.ext
    match a with
    | ⟨0, _⟩ => show win0_4.index t 0 * 1 + 1 * 0 = 0; rw [h0]
    | ⟨1, _⟩ => show win0_4.index t 1 * 1024 + 1 * q.val = q.val; rw [h1]; omega
  rw [e, one_row_apply]

theorem weight_apply (c : Dev nD) (t : Fin cfg0.N) (k : Fin 2048) (q : Fin 2048) :
    (iblk m c 5 t : Vec Ideal S2048x2048 .bf16) (ix2 k q) = m ((c : Thread nD τ).loc main_arg5) (ix2 k q) := by
  unfold iblk
  rw [View.read_apply]
  show (V m c main_v7 : S2048x2048.Idx → EReal) _ = _
  have h0 : win0_5.index t (0 : Fin 2) = 0 := (blocks_at t).2.1.2.1.1
  have h1 : win0_5.index t (1 : Fin 2) = 0 := (blocks_at t).2.1.2.1.2
  rw [weight_entry]
  have e : (((cfg0.win 5).blk t).view.emb (ix2 k q) : S2048x2048.Idx) = (ix2 k q) := by
    funext a
    apply Fin.ext
    match a with
    | ⟨0, _⟩ => show win0_5.index t 0 * 2048 + 1 * k.val = k.val; rw [h0]; omega
    | ⟨1, _⟩ => show win0_5.index t 1 * 2048 + 1 * q.val = q.val; rw [h1]; omega
  rw [e]

theorem gain_apply (c : Dev nD) (t : Fin cfg0.N) (q : Fin 2048) :
    (iblk m c 6 t : Vec Ideal S1x2048 .f32) (ix2 0 q) = m ((c : Thread nD τ).loc main_arg6) (ix1 q) := by
  unfold iblk
  rw [View.read_apply]
  show (V m c main_v8 : S1x2048.Idx → EReal) _ = _
  have h0 : win0_6.index t (0 : Fin 2) = 0 := (blocks_at t).2.1.2.2.1.1
  have h1 : win0_6.index t (1 : Fin 2) = 0 := (blocks_at t).2.1.2.2.1.2
  rw [gain_entry]
  have e : (((cfg0.win 6).blk t).view.emb (ix2 0 q) : S1x2048.Idx) = (ix2 0 q) := by
    funext a
    apply Fin.ext
    match a with
    | ⟨0, _⟩ => show win0_6.index t 0 * 1 + 1 * 0 = 0; rw [h0]
    | ⟨1, _⟩ => show win0_6.index t 1 * 2048 + 1 * q.val = q.val; rw [h1]; omega
  rw [e, one_row_apply']

theorem router_weight_apply (c : Dev nD) (t : Fin cfg0.N) (k : Fin 2048) (q : Fin 128) :
    (iblk m c 7 t : Vec Ideal S2048x128 .bf16) (ix2 k q) = routeCol (fun k j => m ((c : Thread nD τ).loc main_arg7) (ix2 k j)) (fun k j => m ((c : Thread nD τ).loc main_arg9) (ix2 k j)) q k := by
  unfold iblk
  rw [View.read_apply]
  show (V m c main_v3 : S2048x128.Idx → EReal) _ = _
  have h0 : win0_7.index t (0 : Fin 2) = 0 := (blocks_at t).2.1.2.2.2.1.1
  have h1 : win0_7.index t (1 : Fin 2) = 0 := (blocks_at t).2.1.2.2.2.1.2
  rw [router_weight_entry]
  have e : (((cfg0.win 7).blk t).view.emb (ix2 k q) : S2048x128.Idx) = (ix2 k q) := by
    funext a
    apply Fin.ext
    match a with
    | ⟨0, _⟩ => show win0_7.index t 0 * 2048 + 1 * k.val = k.val; rw [h0]; omega
    | ⟨1, _⟩ => show win0_7.index t 1 * 128 + 1 * q.val = q.val; rw [h1]; omega
  rw [e, routerWeight_apply]

theorem router_bias_apply (c : Dev nD) (t : Fin cfg0.N) (q : Fin 128) :
    (iblk m c 8 t : Vec Ideal S1x128 .f32) (ix2 0 q) = routeBias (fun j => m ((c : Thread nD τ).loc main_arg8) (ix1 j)) (fun j => m ((c : Thread nD τ).loc main_arg10) (ix1 j)) q := by
  unfold iblk
  rw [View.read_apply]
  show (V m c main_v5 : S1x128.Idx → EReal) _ = _
  have h0 : win0_8.index t (0 : Fin 2) = 0 := (blocks_at t).2.1.2.2.2.2.1
  have h1 : win0_8.index t (1 : Fin 2) = 0 := (blocks_at t).2.1.2.2.2.2.2
  rw [router_bias_entry]
  have e : (((cfg0.win 8).blk t).view.emb (ix2 0 q) : S1x128.Idx) = (ix2 0 q) := by
    funext a
    apply Fin.ext
    match a with
    | ⟨0, _⟩ => show win0_8.index t 0 * 1 + 1 * 0 = 0; rw [h0]
    | ⟨1, _⟩ => show win0_8.index t 1 * 128 + 1 * q.val = q.val; rw [h1]; omega
  rw [e, routerBias_apply]

/-! ## The arrays -/

/-- One entry of the block's input. -/
abbrev inputAt (c : Dev nD) (r : Fin 16384) (q : Fin 2048) : EReal := m ((c : Thread nD τ).loc main_arg0) (ix2 r q)

/-- One entry of the hidden rows, of the kernel's arguments. -/
def hid (c : Dev nD) (r : Fin 16384) (q : Fin 2048) : EReal :=
  inputAt m c r q + mixed (fun k => m ((c : Thread nD τ).loc main_arg1) (ix2 r k)) (fun k => m ((c : Thread nD τ).loc main_arg2) (ix2 r k))
    (fun k => m ((c : Thread nD τ).loc main_arg3) (ix2 r k)) (fun k => m ((c : Thread nD τ).loc main_arg4) (ix1 k))
    (fun k => m ((c : Thread nD τ).loc main_arg5) (ix2 k q))

/-- One entry of the scaled hidden rows. -/
def scl (c : Dev nD) (r : Fin 16384) (q : Fin 2048) : EReal :=
  unitRow width small (hid m c r) (fun j => m ((c : Thread nD τ).loc main_arg6) (ix1 j)) q

/-- One logit. -/
def lgt (c : Dev nD) (r : Fin 16384) (l : Fin 128) : EReal :=
  logit (scl m c r) (routeCol (fun k j => m ((c : Thread nD τ).loc main_arg7) (ix2 k j)) (fun k j => m ((c : Thread nD τ).loc main_arg9) (ix2 k j)) l)
    (routeBias (fun j => m ((c : Thread nD τ).loc main_arg8) (ix1 j)) (fun j => m ((c : Thread nD τ).loc main_arg10) (ix1 j)) l)

/-- A point's block of hidden rows. -/
abbrev hiddenAt (c : Dev nD) (t : Fin cfg0.N) : Vec Ideal S256x2048 .f32 :=
  hiddenBlock (iblk m c 0 t) (iblk m c 1 t) (iblk m c 2 t) (iblk m c 3 t) (iblk m c 4 t) (iblk m c 5 t)

theorem hiddenAt_apply (c : Dev nD) (t : Fin cfg0.N) (r : Fin 256) (q : Fin 2048) : hiddenAt m c t (ix2 r q) = hid m c (rowOf t r) q := by
  unfold hiddenAt
  rw [hiddenBlock_apply]
  simp only [rows0_apply, rows1_apply, rows2_apply, rows3_apply, gain3_apply, weight_apply]
  rfl

theorem scaledAt_apply (c : Dev nD) (t : Fin cfg0.N) (r : Fin 256) (q : Fin 2048) :
    k0_pay1 (hiddenAt m c t) (iblk m c 6 t) (ix2 r q) = scl m c (rowOf t r) q := by
  rw [scaled_apply]
  simp only [hiddenAt_apply, gain_apply]
  rfl

theorem logitAt_apply (c : Dev nD) (t : Fin cfg0.N) (r : Fin 256) (l : Fin 128) :
    k0_pay2 (hiddenAt m c t) (iblk m c 6 t) (iblk m c 7 t) (iblk m c 8 t) (ix2 r l) = lgt m c (rowOf t r) l := by
  rw [logits_apply]
  simp only [scaledAt_apply, router_weight_apply, router_bias_apply]
  rfl

/-- Result `hiddenRows`, whole. -/
def hiddenRows (c : Dev nD) : Buf (Elt Ideal) ((c : Thread nD τ).loc main_v9_0) := fun i : S16384x2048.Idx => hid m c (i 0) (i 1)

/-- What a point writes back to it is its block of the whole. -/
theorem hiddenRows_block (c : Dev nD) (t : Fin cfg0.N) :
    (dats m 0 c).flushed 9 t = ((cfg0.win 9).blk t).view.read (Elt Ideal) (hiddenRows m c) := by
  rw [flushed9, out9_eq]
  have h0 : win0_9.index t (0 : Fin 2) = t.val := (blocks_at t).2.2.1.1
  have h1 : win0_9.index t (1 : Fin 2) = 0 := (blocks_at t).2.2.1.2
  funext y
  obtain ⟨r, q, rfl⟩ : ∃ (r : Fin 256) (q : Fin 2048), y = ix2 r q := ⟨y 0, y 1, eq_ix2 y⟩
  rw [View.read_apply]
  show hiddenAt m c t (ix2 r q) = hiddenRows m c (((cfg0.win 9).blk t).view.emb (ix2 r q))
  rw [hiddenAt_apply]
  unfold hiddenRows
  have a0 : (((cfg0.win 9).blk t).view.emb (ix2 r q) : S16384x2048.Idx) 0 = rowOf t r :=
    Fin.ext (by show win0_9.index t 0 * 256 + 1 * r.val = 256 * t.val + r.val; omega)
  have a1 : (((cfg0.win 9).blk t).view.emb (ix2 r q) : S16384x2048.Idx) 1 = q :=
    Fin.ext (by show win0_9.index t 1 * 2048 + 1 * q.val = q.val; omega)
  rw [a0, a1]

/-- Its array after the run: the points' blocks tile it. -/
theorem hiddenRows_array (c : Dev nD) : (dats m 0 c).arrAt 9 cfg0.N = hiddenRows m c :=
  (dats m 0 c).arrAt_eq_of_cover 9 _ (fun t _ => hiddenRows_block m c t) fun i => by
    have h0 : (i 0).val < 16384 := (i 0).isLt
    have h1 : (i 1).val < 2048 := (i 1).isLt
    have ht : (i 0).val / 256 < cfg0.N := lt_of_lt_of_eq (by omega : _ < 64) N_0.symm
    obtain ⟨e0, e1⟩ : win0_9.index ⟨_, ht⟩ (0 : Fin 2) = (i 0).val / 256 ∧ win0_9.index ⟨_, ht⟩ (1 : Fin 2) = 0 := (blocks_at ⟨_, ht⟩).2.2.1
    refine ⟨⟨_, ht⟩, (by decide +kernel : ∀ t : Fin grid0.N, (cfg0.win 9).flush t = true) _, ?_⟩
    show i ∈ ((View.whole main_v9_0).slice (win0_9.rect ⟨_, ht⟩)).set
    rw [View.set_slice_whole, Rect.mem_set_unit]
    intro a
    match a with
    | ⟨0, _⟩ => show win0_9.index ⟨_, ht⟩ (0 : Fin 2) * 256 ≤ (i 0).val ∧ (i 0).val < win0_9.index ⟨_, ht⟩ (0 : Fin 2) * 256 + 256; omega
    | ⟨1, _⟩ => show win0_9.index ⟨_, ht⟩ (1 : Fin 2) * 2048 ≤ (i 1).val ∧ (i 1).val < win0_9.index ⟨_, ht⟩ (1 : Fin 2) * 2048 + 2048; omega

/-- Result `scaledRows`, whole. -/
def scaledRows (c : Dev nD) : Buf (Elt Ideal) ((c : Thread nD τ).loc main_v9_1) := fun i : S16384x2048.Idx => scl m c (i 0) (i 1)

/-- What a point writes back to it is its block of the whole. -/
theorem scaledRows_block (c : Dev nD) (t : Fin cfg0.N) :
    (dats m 0 c).flushed 10 t = ((cfg0.win 10).blk t).view.read (Elt Ideal) (scaledRows m c) := by
  rw [flushed10, out10_eq]
  have h0 : win0_10.index t (0 : Fin 2) = t.val := (blocks_at t).2.2.2.1.1
  have h1 : win0_10.index t (1 : Fin 2) = 0 := (blocks_at t).2.2.2.1.2
  funext y
  obtain ⟨r, q, rfl⟩ : ∃ (r : Fin 256) (q : Fin 2048), y = ix2 r q := ⟨y 0, y 1, eq_ix2 y⟩
  rw [View.read_apply]
  show k0_pay1 (hiddenAt m c t) (iblk m c 6 t) (ix2 r q) = scaledRows m c (((cfg0.win 10).blk t).view.emb (ix2 r q))
  rw [scaledAt_apply]
  unfold scaledRows
  have a0 : (((cfg0.win 10).blk t).view.emb (ix2 r q) : S16384x2048.Idx) 0 = rowOf t r :=
    Fin.ext (by show win0_10.index t 0 * 256 + 1 * r.val = 256 * t.val + r.val; omega)
  have a1 : (((cfg0.win 10).blk t).view.emb (ix2 r q) : S16384x2048.Idx) 1 = q :=
    Fin.ext (by show win0_10.index t 1 * 2048 + 1 * q.val = q.val; omega)
  rw [a0, a1]

/-- Its array after the run: the points' blocks tile it. -/
theorem scaledRows_array (c : Dev nD) : (dats m 0 c).arrAt 10 cfg0.N = scaledRows m c :=
  (dats m 0 c).arrAt_eq_of_cover 10 _ (fun t _ => scaledRows_block m c t) fun i => by
    have h0 : (i 0).val < 16384 := (i 0).isLt
    have h1 : (i 1).val < 2048 := (i 1).isLt
    have ht : (i 0).val / 256 < cfg0.N := lt_of_lt_of_eq (by omega : _ < 64) N_0.symm
    obtain ⟨e0, e1⟩ : win0_10.index ⟨_, ht⟩ (0 : Fin 2) = (i 0).val / 256 ∧ win0_10.index ⟨_, ht⟩ (1 : Fin 2) = 0 := (blocks_at ⟨_, ht⟩).2.2.2.1
    refine ⟨⟨_, ht⟩, (by decide +kernel : ∀ t : Fin grid0.N, (cfg0.win 10).flush t = true) _, ?_⟩
    show i ∈ ((View.whole main_v9_1).slice (win0_10.rect ⟨_, ht⟩)).set
    rw [View.set_slice_whole, Rect.mem_set_unit]
    intro a
    match a with
    | ⟨0, _⟩ => show win0_10.index ⟨_, ht⟩ (0 : Fin 2) * 256 ≤ (i 0).val ∧ (i 0).val < win0_10.index ⟨_, ht⟩ (0 : Fin 2) * 256 + 256; omega
    | ⟨1, _⟩ => show win0_10.index ⟨_, ht⟩ (1 : Fin 2) * 2048 ≤ (i 1).val ∧ (i 1).val < win0_10.index ⟨_, ht⟩ (1 : Fin 2) * 2048 + 2048; omega

/-- Result `logits`, whole. -/
def logits (c : Dev nD) : Buf (Elt Ideal) ((c : Thread nD τ).loc main_v9_2) := fun i : S16384x128.Idx => lgt m c (i 0) (i 1)

/-- What a point writes back to it is its block of the whole. -/
theorem logits_block (c : Dev nD) (t : Fin cfg0.N) :
    (dats m 0 c).flushed 11 t = ((cfg0.win 11).blk t).view.read (Elt Ideal) (logits m c) := by
  rw [flushed11, out11_eq]
  have h0 : win0_11.index t (0 : Fin 2) = t.val := (blocks_at t).2.2.2.2.1
  have h1 : win0_11.index t (1 : Fin 2) = 0 := (blocks_at t).2.2.2.2.2
  funext y
  obtain ⟨r, q, rfl⟩ : ∃ (r : Fin 256) (q : Fin 128), y = ix2 r q := ⟨y 0, y 1, eq_ix2 y⟩
  rw [View.read_apply]
  show k0_pay2 (hiddenAt m c t) (iblk m c 6 t) (iblk m c 7 t) (iblk m c 8 t) (ix2 r q) = logits m c (((cfg0.win 11).blk t).view.emb (ix2 r q))
  rw [logitAt_apply]
  unfold logits
  have a0 : (((cfg0.win 11).blk t).view.emb (ix2 r q) : S16384x128.Idx) 0 = rowOf t r :=
    Fin.ext (by show win0_11.index t 0 * 256 + 1 * r.val = 256 * t.val + r.val; omega)
  have a1 : (((cfg0.win 11).blk t).view.emb (ix2 r q) : S16384x128.Idx) 1 = q :=
    Fin.ext (by show win0_11.index t 1 * 128 + 1 * q.val = q.val; omega)
  rw [a0, a1]

/-- Its array after the run: the points' blocks tile it. -/
theorem logits_array (c : Dev nD) : (dats m 0 c).arrAt 11 cfg0.N = logits m c :=
  (dats m 0 c).arrAt_eq_of_cover 11 _ (fun t _ => logits_block m c t) fun i => by
    have h0 : (i 0).val < 16384 := (i 0).isLt
    have h1 : (i 1).val < 128 := (i 1).isLt
    have ht : (i 0).val / 256 < cfg0.N := lt_of_lt_of_eq (by omega : _ < 64) N_0.symm
    obtain ⟨e0, e1⟩ : win0_11.index ⟨_, ht⟩ (0 : Fin 2) = (i 0).val / 256 ∧ win0_11.index ⟨_, ht⟩ (1 : Fin 2) = 0 := (blocks_at ⟨_, ht⟩).2.2.2.2
    refine ⟨⟨_, ht⟩, (by decide +kernel : ∀ t : Fin grid0.N, (cfg0.win 11).flush t = true) _, ?_⟩
    show i ∈ ((View.whole main_v9_2).slice (win0_11.rect ⟨_, ht⟩)).set
    rw [View.set_slice_whole, Rect.mem_set_unit]
    intro a
    match a with
    | ⟨0, _⟩ => show win0_11.index ⟨_, ht⟩ (0 : Fin 2) * 256 ≤ (i 0).val ∧ (i 0).val < win0_11.index ⟨_, ht⟩ (0 : Fin 2) * 256 + 256; omega
    | ⟨1, _⟩ => show win0_11.index ⟨_, ht⟩ (1 : Fin 2) * 128 ≤ (i 1).val ∧ (i 1).val < win0_11.index ⟨_, ht⟩ (1 : Fin 2) * 128 + 128; omega

end Cert.OutProj

end
-- ==== Proof.OutProof.lean ====
module

public import proofs.«01_k».proof.Proof.OutValue
public import proofs.«01_k».proof.Defs
public import proofs.«01_k».proof.Proof.Gen.ReferenceOutIdeal.Run
public import Idealize.ShloMosaic.Lib.Quiescent

/-!
The claims of the output projection, assembled.
-/

@[expose] public section

noncomputable section

namespace Cert.OutProj

open Idealize.ShloMosaic Idealize.ShloMosaic.TcCoe Idealize.SL.Sem
open Cert.InProj (unitRow width small)

section reference
open Cert.ReferenceOutIdeal Cert.ReferenceOutIdeal.Read

variable (x0 : (⟨S16384x2048, .f32⟩ : BufTy).Contents (Elt Ideal)) (x1 x2 : (⟨S16384x512, .f32⟩ : BufTy).Contents (Elt Ideal))
  (x3 : (⟨S16384x1024, .f32⟩ : BufTy).Contents (Elt Ideal)) (x4 : (⟨S1024, .f32⟩ : BufTy).Contents (Elt Ideal))
  (x5 : (⟨S2048x2048, .f32⟩ : BufTy).Contents (Elt Ideal)) (x6 : (⟨S2048, .f32⟩ : BufTy).Contents (Elt Ideal))
  (x7 : (⟨S2048x4, .f32⟩ : BufTy).Contents (Elt Ideal)) (x8 : (⟨S4, .f32⟩ : BufTy).Contents (Elt Ideal))
  (x9 : (⟨S2048x32, .f32⟩ : BufTy).Contents (Elt Ideal)) (x10 : (⟨S32, .f32⟩ : BufTy).Contents (Elt Ideal))

/-- The reference's hidden rows, scaled rows and logits, entry by entry, of its arguments. -/
def refHid (r : Fin 16384) (q : Fin 2048) : EReal := x0 (ix2 r q)
  + mixed (fun k => x1 (ix2 r k)) (fun k => x2 (ix2 r k)) (fun k => x3 (ix2 r k)) (fun k => x4 (ix1 k)) (fun k => x5 (ix2 k q))

def refScl (r : Fin 16384) (q : Fin 2048) : EReal := unitRow width small (refHid x0 x1 x2 x3 x4 x5 r) (fun j => x6 (ix1 j)) q

def refLgt (r : Fin 16384) (l : Fin 128) : EReal :=
  logit (refScl x0 x1 x2 x3 x4 x5 x6 r) (routeCol (fun k j => x7 (ix2 k j)) (fun k j => x9 (ix2 k j)) l)
    (routeBias (fun j => x8 (ix1 j)) (fun j => x10 (ix1 j)) l)

theorem ref_hidden : val_main_v15 (F := Ideal) x0 x1 x2 x3 x4 x5 = fun i => refHid x0 x1 x2 x3 x4 x5 (i 0) (i 1) := by
  funext i
  obtain ⟨r, q, rfl⟩ : ∃ (r : Fin 16384) (q : Fin 2048), i = ix2 r q := ⟨i 0, i 1, eq_ix2 i⟩
  exact ref_hidden_apply x0 x1 x2 x3 x4 x5 r q

theorem ref_scaled : val_main_v28 (F := Ideal) x0 x1 x2 x3 x4 x5 x6 = fun i => refScl x0 x1 x2 x3 x4 x5 x6 (i 0) (i 1) := by
  funext i
  obtain ⟨r, q, rfl⟩ : ∃ (r : Fin 16384) (q : Fin 2048), i = ix2 r q := ⟨i 0, i 1, eq_ix2 i⟩
  rw [ref_scaled_apply, ref_hidden]
  rfl

theorem ref_logits : val_main_v38 (F := Ideal) x0 x1 x2 x3 x4 x5 x6 x7 x8 x9 x10
    = fun i => refLgt x0 x1 x2 x3 x4 x5 x6 x7 x8 x9 x10 (i 0) (i 1) := by
  funext i
  obtain ⟨r, l, rfl⟩ : ∃ (r : Fin 16384) (l : Fin 128), i = ix2 r l := ⟨i 0, i 1, eq_ix2 i⟩
  rw [ref_logits_apply, ref_scaled]
  rfl

end reference

/-- The reference terminates, its arguments unchanged. -/
theorem reference_frame : Cert.quiescent_ReferenceOutIdeal := fun m ρ _ =>
  (θ_run _ _ _).mono (fun r h => ⟨fun c => (h c).2.2.2, sem_eq_zero_of_no_sems (by decide) r.2⟩) (Cert.ReferenceOutIdeal.Value.run m ρ)

/-- Both programs end with the same three arrays of extended reals. -/
theorem algebraic : Cert.algebraic_KernelOutIdeal_ReferenceOutIdeal := by
  intro m ρ m' ρ' _ hag
  refine ⟨fun c => hiddenRows m c, fun c => scaledRows m c, fun c => logits m c,
    (θ_run _ _ _).mono (fun r h c => ⟨(h c).1.trans (hiddenRows_array m c), (h c).2.1.trans (scaledRows_array m c),
      (h c).2.2.1.trans (logits_array m c), (h c).2.2.2⟩)
    (Cert.KernelOutIdeal.Value.run_blocks m ρ),
    (θ_run _ _ _).mono (fun r h c => ⟨(h c).1.trans ?_, (h c).2.1.trans ?_, (h c).2.2.1.trans ?_, (h c).2.2.2⟩)
    (Cert.ReferenceOutIdeal.Value.run m' ρ')⟩
  · obtain ⟨h0, h1, h2, h3, h4, h5, h6, h7, h8, h9, h10⟩ := hag c
    rw [h0, h1, h2, h3, h4, h5]
    exact ref_hidden _ _ _ _ _ _
  · obtain ⟨h0, h1, h2, h3, h4, h5, h6, h7, h8, h9, h10⟩ := hag c
    rw [Cert.ReferenceOutIdeal.Read.val_main_v28_eq, h0, h1, h2, h3, h4, h5, h6]
    exact ref_scaled _ _ _ _ _ _ _
  · obtain ⟨h0, h1, h2, h3, h4, h5, h6, h7, h8, h9, h10⟩ := hag c
    rw [Cert.ReferenceOutIdeal.Read.val_main_v38_eq, h0, h1, h2, h3, h4, h5, h6, h7, h8, h9, h10]
    exact ref_logits _ _ _ _ _ _ _ _ _ _ _

end Cert.OutProj

end
-- ==== Proof.NsaMath.lean ====
module

public import Idealize.ShloMosaic.Lib.Pointwise

/-!
# Softmax attention over the extended reals

The kernel's two attention branches divide once, after the weighted sum, and one of them runs through the keys tile by tile
with a running maximum; the reference divides each weight. This file holds what relates the two, with no program in it.
-/

@[expose] public section

noncomputable section

namespace Cert.Nsa
open Idealize.ShloMosaic

theorem exp_coe (r : ℝ) : Ideal.exp (r : EReal) = (Real.exp r : ℝ) := rfl
theorem exp_bot : Ideal.exp (⊥ : EReal) = 0 := rfl
theorem exp_top : Ideal.exp (⊤ : EReal) = ⊤ := rfl

/-- The exponential is nonnegative. -/
theorem exp_nonneg (x : EReal) : 0 ≤ Ideal.exp x := by
  induction x with
  | bot => simp [exp_bot]
  | top => simp [exp_top]
  | coe r => rw [exp_coe]; exact_mod_cast (Real.exp_pos r).le

/-- The exponential of a nonpositive value is at most one. -/
theorem exp_le_one {x : EReal} (h : x ≤ 0) : Ideal.exp x ≤ 1 := by
  induction x with
  | bot => simp [exp_bot, exp_top]
  | top => simp at h
  | coe r =>
    have : r ≤ 0 := by exact_mod_cast h
    have := Real.exp_le_one_iff.mpr this
    rw [exp_coe]
    exact_mod_cast this

/-- `x - m ≤ 0` whenever `x ≤ m`. -/
theorem sub_le_zero {x m : EReal} (h : x ≤ m) : x - m ≤ 0 := by
  induction m with
  | bot => have : x = ⊥ := le_bot_iff.mp h
           subst this; simp
  | top => simp
  | coe r =>
    induction x with
    | bot => simp
    | top => simp at h
    | coe s =>
      have : s ≤ r := by exact_mod_cast h
      have : s - r ≤ 0 := by linarith
      exact_mod_cast this

/-- A weight taken against an earlier maximum, rescaled by the change of the maximum, is the weight against the later one. -/
theorem exp_rescale {x m m' : EReal} (h : x ≤ m) (h' : m ≤ m') :
    Ideal.exp (m - m') * Ideal.exp (x - m) = Ideal.exp (x - m') := by
  induction x with
  | bot => simp [exp_bot, exp_top]
  | top =>
    have h1 : m = ⊤ := top_le_iff.mp h
    subst h1
    have h2 : m' = ⊤ := top_le_iff.mp h'
    subst h2
    simp [exp_bot, exp_top]
  | coe r =>
    induction m with
    | bot => simp at h
    | top =>
      have h2 : m' = ⊤ := top_le_iff.mp h'
      subst h2
      simp [exp_bot, exp_top]
    | coe s =>
      induction m' with
      | bot => simp at h'
      | top => simp [exp_bot, exp_top]
      | coe u =>
        have e1 : ((s : EReal) - (u : EReal)) = ((s - u : ℝ) : EReal) := by norm_cast
        have e2 : ((r : EReal) - (s : EReal)) = ((r - s : ℝ) : EReal) := by norm_cast
        have e3 : ((r : EReal) - (u : EReal)) = ((r - u : ℝ) : EReal) := by norm_cast
        rw [e1, e2, e3]
        simp only [exp_coe]
        rw [← EReal.coe_mul, ← Real.exp_add]
        congr 2
        ring

/-- A nonnegative factor other than ⊤ goes into a finite sum. -/
theorem mul_sum {ι : Type} (s : Finset ι) {c : EReal} (h0 : 0 ≤ c) (ht : c ≠ ⊤) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

/-- Likewise from the right. -/
theorem sum_mul {ι : Type} (s : Finset ι) {c : EReal} (h0 : 0 ≤ c) (ht : c ≠ ⊤) (f : ι → EReal) :
    (∑ k ∈ s, f k) * c = ∑ k ∈ s, f k * c := by
  rw [mul_comm, mul_sum s h0 ht]
  exact Finset.sum_congr rfl fun k _ => mul_comm _ _

/-! ## The running maximum, normaliser and weighted sum -/

/-- The largest of the first `n` scores. -/
noncomputable def top (x : ℕ → EReal) (n : ℕ) : EReal := (Finset.range n).sup x

/-- The sum of the first `n` weights against the maximum `m`. -/
noncomputable def den (x : ℕ → EReal) (m : EReal) (n : ℕ) : EReal := ∑ k ∈ Finset.range n, Ideal.exp (x k - m)

/-- The sum of the first `n` values under their weights. -/
noncomputable def num (x v : ℕ → EReal) (m : EReal) (n : ℕ) : EReal :=
  ∑ k ∈ Finset.range n, v k * Ideal.exp (x k - m)

theorem le_top (x : ℕ → EReal) {n k : ℕ} (h : k < n) : x k ≤ top x n := Finset.le_sup (f := x) (Finset.mem_range.mpr h)

theorem top_mono (x : ℕ → EReal) {n n' : ℕ} (h : n ≤ n') : top x n ≤ top x n' :=
  Finset.sup_mono (Finset.range_mono h)

/-- The maximum of a tile joins the maximum so far. -/
theorem top_add (x : ℕ → EReal) (n w : ℕ) :
    max (top x n) ((Finset.univ : Finset (Fin w)).fold max ⊥ fun i => x (n + i.val)) = top x (n + w) := by
  show max (top x n) ((Finset.univ : Finset (Fin w)).sup fun i => x (n + i.val)) = top x (n + w)
  apply le_antisymm
  · refine max_le (top_mono x (Nat.le_add_right _ _)) (Finset.sup_le fun i _ => le_top x (by omega))
  · refine Finset.sup_le fun k hk => ?_
    have hk := Finset.mem_range.mp hk
    by_cases h : k < n
    · exact le_max_of_le_left (le_top x h)
    · refine le_max_of_le_right ?_
      have := Finset.le_sup (f := fun i : Fin w => x (n + i.val)) (Finset.mem_univ ⟨k - n, by omega⟩)
      simpa [Nat.add_sub_cancel' (not_lt.mp h)] using this

/-- The factor by which a step rescales is nonnegative and at most one. -/
theorem rescale_ne_top {m m' : EReal} (h : m ≤ m') : Ideal.exp (m - m') ≠ ⊤ :=
  ne_top_of_le_ne_top (EReal.coe_ne_top 1) (exp_le_one (sub_le_zero h))

/-- One tile's step of the normaliser. -/
theorem den_add (x : ℕ → EReal) (n w : ℕ) {m' : EReal} (h : top x n ≤ m') :
    Ideal.exp (top x n - m') * den x (top x n) n + ∑ i : Fin w, Ideal.exp (x (n + i.val) - m') = den x m' (n + w) := by
  unfold den
  rw [mul_sum _ (exp_nonneg _) (rescale_ne_top h), Finset.sum_range_add,
    ← Fin.sum_univ_eq_sum_range (fun i => Ideal.exp (x (n + i) - m')) w]
  congr 1
  exact Finset.sum_congr rfl fun k hk => exp_rescale (le_top x (Finset.mem_range.mp hk)) h

/-- One tile's step of the weighted sum. -/
theorem num_add (x v : ℕ → EReal) (n w : ℕ) {m' : EReal} (h : top x n ≤ m') :
    Ideal.exp (top x n - m') * num x v (top x n) n + ∑ i : Fin w, v (n + i.val) * Ideal.exp (x (n + i.val) - m')
      = num x v m' (n + w) := by
  unfold num
  rw [mul_sum _ (exp_nonneg _) (rescale_ne_top h), Finset.sum_range_add,
    ← Fin.sum_univ_eq_sum_range (fun i => v (n + i) * Ideal.exp (x (n + i) - m')) w]
  congr 1
  refine Finset.sum_congr rfl fun k hk => ?_
  rw [mul_left_comm, exp_rescale (le_top x (Finset.mem_range.mp hk)) h]

/-! ## The reference's softmax -/

/-- A maximum that is not finite is read as zero. -/
noncomputable def safe (m : EReal) : EReal := if max m (-m) < ⊤ then m else 0

/-- The masked softmax weight of key `k`: `tiny` is the least normaliser. -/
noncomputable def weight {n : ℕ} (tiny : EReal) (x : Fin n → EReal) (k : Fin n) : EReal :=
  Ideal.div (Ideal.exp (x k - safe ((Finset.univ : Finset (Fin n)).fold max ⊥ x)))
    (max (∑ k', Ideal.exp (x k' - safe ((Finset.univ : Finset (Fin n)).fold max ⊥ x))) tiny)

/-- A quotient by a positive value is the product with its inverse. -/
theorem div_pos_eq {x c : EReal} (h : 0 < c) : Ideal.div x c = x * c⁻¹ := by
  unfold Ideal.div; rw [if_neg h.ne']

/-- The inverse of a positive value is nonnegative and not ⊤. -/
theorem inv_nonneg_ne_top {c : EReal} (h : 0 < c) : 0 ≤ c⁻¹ ∧ c⁻¹ ≠ ⊤ := by
  induction c with
  | bot => simp at h
  | top => simp
  | coe r =>
    have hr : 0 < r := by exact_mod_cast h
    rw [← EReal.coe_inv]
    exact ⟨by exact_mod_cast (inv_pos.mpr hr).le, EReal.coe_ne_top _⟩

/-- A masked softmax weight lies between zero and one. -/
theorem weight_bounds {n : ℕ} {tiny : EReal} (ht : 0 < tiny) (x : Fin n → EReal) (k : Fin n) :
    0 ≤ weight tiny x k ∧ weight tiny x k ≤ 1 := by
  unfold weight
  generalize safe ((Finset.univ : Finset (Fin n)).fold max ⊥ x) = m
  have hpos : 0 < max (∑ k', Ideal.exp (x k' - m)) tiny := lt_max_of_lt_right ht
  have hle : Ideal.exp (x k - m) ≤ max (∑ k', Ideal.exp (x k' - m)) tiny :=
    le_max_of_le_left (Finset.single_le_sum (f := fun k' => Ideal.exp (x k' - m)) (fun i _ => exp_nonneg _) (Finset.mem_univ k))
  rw [div_pos_eq hpos]
  generalize max (∑ k', Ideal.exp (x k' - m)) tiny = c at hpos hle
  have h0 := exp_nonneg (x k - m)
  generalize Ideal.exp (x k - m) = e at h0 hle
  have hi := inv_nonneg_ne_top hpos
  refine ⟨mul_nonneg h0 hi.1, ?_⟩
  refine (mul_le_mul_of_nonneg_right hle hi.1).trans ?_
  induction c with
  | bot => simp at hpos
  | top => simp
  | coe r =>
    have hr : 0 < r := by exact_mod_cast hpos
    rw [← EReal.coe_inv, ← EReal.coe_mul, mul_inv_cancel₀ hr.ne']
    simp

/-- With scores below ⊤ of which one is not ⊥, the maximum is a real number. -/
theorem max_real {n : ℕ} {x : Fin n → EReal} (h : ∀ k, x k ≠ ⊤) {k₀ : Fin n} (h₀ : x k₀ ≠ ⊥) :
    ∃ r : ℝ, (Finset.univ : Finset (Fin n)).fold max ⊥ x = r := by
  have hle : x k₀ ≤ (Finset.univ : Finset (Fin n)).sup x := Finset.le_sup (f := x) (Finset.mem_univ _)
  have hlt : (Finset.univ : Finset (Fin n)).sup x < ⊤ :=
    (Finset.sup_lt_iff (by simp)).mpr fun k _ => lt_top_iff_ne_top.mpr (h k)
  have hb : (Finset.univ : Finset (Fin n)).sup x ≠ ⊥ := fun e => h₀ (le_bot_iff.mp (e ▸ hle))
  exact ⟨_, (EReal.coe_toReal hlt.ne hb).symm⟩

/-- One of the scores is the maximum. -/
theorem exists_max {n : ℕ} (x : Fin n → EReal) (k₀ : Fin n) :
    ∃ k, x k = (Finset.univ : Finset (Fin n)).fold max ⊥ x := by
  obtain ⟨k, -, hk⟩ := Finset.exists_mem_eq_sup (Finset.univ : Finset (Fin n)) ⟨k₀, Finset.mem_univ _⟩ x
  exact ⟨k, hk.symm⟩

/-- Where the maximum is a real number, dividing the weighted sum once is dividing every weight: the kernel's quotient is
    the reference's masked softmax applied to the values. -/
theorem quotient_eq {n : ℕ} {tiny : EReal} (h1 : tiny ≤ 1) (x v : Fin n → EReal) (h : ∀ k, x k ≠ ⊤) {k₀ : Fin n} (h₀ : x k₀ ≠ ⊥) :
    Ideal.div (∑ k, v k * Ideal.exp (x k - (Finset.univ : Finset (Fin n)).fold max ⊥ x))
        (∑ k, Ideal.exp (x k - (Finset.univ : Finset (Fin n)).fold max ⊥ x))
      = ∑ k, v k * weight tiny x k := by
  obtain ⟨r, hr⟩ := max_real h h₀
  obtain ⟨k₁, hk₁⟩ := exists_max x k₀
  have hs : safe ((Finset.univ : Finset (Fin n)).fold max ⊥ x) = r := by
    rw [hr]; unfold safe
    rw [if_pos]
    exact max_lt (EReal.coe_lt_top r) (by rw [← EReal.coe_neg]; exact EReal.coe_lt_top _)
  have hone : (1 : EReal) ≤ ∑ k, Ideal.exp (x k - (r : EReal)) := by
    refine le_trans ?_ (Finset.single_le_sum (f := fun k' => Ideal.exp (x k' - (r : EReal))) (fun i _ => exp_nonneg _) (Finset.mem_univ k₁))
    rw [hk₁, hr, EReal.sub_self (EReal.coe_ne_top r) (EReal.coe_ne_bot r), ← EReal.coe_zero, exp_coe]
    simp
  unfold weight
  rw [hs, hr, max_eq_left (h1.trans hone)]
  generalize (∑ k, Ideal.exp (x k - (r : EReal))) = c at hone
  have hc : 0 < c := lt_of_lt_of_le (by simp) hone
  have hi := inv_nonneg_ne_top hc
  rw [div_pos_eq hc, sum_mul _ hi.1 hi.2]
  exact Finset.sum_congr rfl fun k _ => by rw [div_pos_eq hc, mul_assoc]

/-! ## Keys that carry no weight -/

/-- A maximum over the keys is a maximum over those of a part, if the others' scores are ⊥. -/
theorem max_part {n w : ℕ} (φ : Fin w → Fin n) (x : Fin n → EReal) (h : ∀ k, (∀ i, φ i ≠ k) → x k = ⊥) :
    (Finset.univ : Finset (Fin w)).fold max ⊥ (fun i => x (φ i)) = (Finset.univ : Finset (Fin n)).fold max ⊥ x := by
  show (Finset.univ : Finset (Fin w)).sup (fun i => x (φ i)) = (Finset.univ : Finset (Fin n)).sup x
  apply le_antisymm
  · exact Finset.sup_le fun i _ => Finset.le_sup (f := x) (Finset.mem_univ _)
  · refine Finset.sup_le fun k _ => ?_
    by_cases hk : ∀ i, φ i ≠ k
    · rw [h k hk]; exact bot_le
    · simp only [not_forall, not_not] at hk
      obtain ⟨i, rfl⟩ := hk
      exact Finset.le_sup (f := fun i => x (φ i)) (Finset.mem_univ _)

/-- A sum over the keys is the sum over a part, if the others' terms are zero. -/
theorem sum_part {n w : ℕ} (φ : Fin w → Fin n) (hφ : Function.Injective φ) (f : Fin n → EReal)
    (h : ∀ k, (∀ i, φ i ≠ k) → f k = 0) : ∑ i, f (φ i) = ∑ k, f k :=
  Fintype.sum_of_injective φ hφ _ _ (fun k hk => h k fun i e => hk ⟨i, e⟩) fun _ => rfl

/-- A score of ⊥ has weight zero. -/
theorem exp_bot_sub (m : EReal) : Ideal.exp (⊥ - m) = 0 := by simp [exp_bot, exp_top]

/-! ## Real dot products -/

/-- A product of values that are neither ⊤ nor ⊥ is neither. -/
theorem mul_real {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- So is a sum. -/
theorem sum_real {ι : Type} (s : Finset ι) (f : ι → EReal) (h : ∀ k, f k ≠ ⊤ ∧ f k ≠ ⊥) :
    (∑ k ∈ s, f k) ≠ ⊤ ∧ (∑ k ∈ s, f k) ≠ ⊥ := by
  classical
  induction s using Finset.induction_on with
  | empty => simp
  | insert a s ha ih =>
    rw [Finset.sum_insert ha]
    have h1 := h a
    generalize f a = y at h1
    generalize (∑ k ∈ s, f k) = z at ih
    lift y to ℝ using h1
    lift z to ℝ using ih
    rw [← EReal.coe_add]
    exact ⟨EReal.coe_ne_top _, EReal.coe_ne_bot _⟩

/-- A value whose absolute value is below ⊤ is neither ⊤ nor ⊥. -/
theorem real_of_abs_lt {a : EReal} (h : max a (-a) < ⊤) : a ≠ ⊤ ∧ a ≠ ⊥ := by
  constructor <;> rintro rfl <;> simp at h

end Cert.Nsa
-- ==== Proof.NsaRank.lean ====
module

public import Idealize.ShloMosaic.Lib.SortPrefix
public import Idealize.ShloMosaic.Lib.SortFacts
public import Idealize.ShloMosaic.Lib.Pointwise

/-!
# The first entries of a stable descending sort, by counting

Entry `i` goes before entry `j` when it is larger, or equal and earlier. The stable descending sort puts entry `j` at
the place that counts the entries going before it, so `j` is among the first `k` exactly when fewer than `k` entries go
before it.
-/

@[expose] public section

noncomputable section

namespace Cert.Nsa

open Idealize.ShloMosaic

/-- Entry `i` goes before entry `j`: it is larger, or equal and earlier. -/
def goesFirst {n : ℕ} (x : Fin n → EReal) (i j : Fin n) : Prop := x j < x i ∨ (x i = x j ∧ i < j)

open Classical in
/-- How many entries go before entry `j`. -/
def rank {n : ℕ} (x : Fin n → EReal) (j : Fin n) : ℕ := (Finset.univ.filter fun i => goesFirst x i j).card

/-- The same order as a test. -/
def firstB {n : ℕ} (x : Fin n → EReal) (i j : Fin n) : Bool :=
  decide (x j < x i) || (decide (x i = x j) && decide (i < j))

theorem firstB_iff {n : ℕ} (x : Fin n → EReal) (i j : Fin n) : firstB x i j = true ↔ goesFirst x i j := by
  simp [firstB, goesFirst]

/-- The test orders the positions strictly and totally. -/
theorem firstB_order {n : ℕ} (x : Fin n → EReal) : StrictTotalBefore (firstB x) :=
  StrictTotalBefore.of_key_then_position (fun a b : EReal => decide (b < a)) x (fun a => by simp)
    (fun a b c h h' => by simp only [decide_eq_true_eq] at *; exact h'.trans h)
    (fun a b => by simp only [decide_eq_true_eq]; rcases lt_trichotomy a b with h | h | h <;> simp [h])

/-- Sorting an increasing list by "is larger" alone is sorting it by "goes before". -/
theorem stableSort_larger {n : ℕ} (x : Fin n → EReal) (l : List (Fin n)) (hl : l.Pairwise (· < ·)) :
    stableSort (fun a b => FloatOps.cmpfTotal (F := Ideal) (φ := .f32) .gt (x a) (x b) == 1#1) l = stableSort (firstB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have e : FloatOps.cmpfTotal (F := Ideal) (φ := .f32) .gt (x b) (x a) = BitVec.ofBool (decide (x b > x a)) := rfl
    rw [e]
    unfold firstB
    rw [decide_eq_false (not_lt.mpr hab.le), Bool.and_false, Bool.or_false]
    by_cases h : x a < x b <;> simp [h]

/-- The sources of the sorted places, in the order "goes before". -/
theorem sortedFrom_larger {n : ℕ} (x : Fin n → EReal) :
    sortedFrom (fun a b => FloatOps.cmpfTotal (F := Ideal) (φ := .f32) .gt (x a) (x b) == 1#1) = sortedFrom (firstB x) := by
  funext k
  unfold sortedFrom
  have e : sortPositions n (fun a b => FloatOps.cmpfTotal (F := Ideal) (φ := .f32) .gt (x a) (x b) == 1#1)
      = sortPositions n (firstB x) := stableSort_larger x _ (List.pairwise_lt_finRange n)
  rw [List.get_of_eq e]
  rfl

/-- The sources increase in the order "goes before". -/
theorem sortedFrom_lt_iff {n : ℕ} (x : Fin n → EReal) (p q : Fin n) :
    goesFirst x (sortedFrom (firstB x) p) (sortedFrom (firstB x) q) ↔ p < q := by
  have ho := firstB_order x
  have h : ∀ i j : Fin n, i < j → firstB x (sortedFrom (firstB x) j) (sortedFrom (firstB x) i) = false :=
    sortedFrom_noInversion (firstB x) (firstB x) ho.asymm (fun _ _ h => h) ho.negTrans
  rw [← firstB_iff]
  constructor
  · intro hb
    rcases lt_trichotomy p q with hpq | hpq | hpq
    · exact hpq
    · subst hpq
      rw [ho.irrefl] at hb
      exact absurd hb (by decide)
    · rw [h q p hpq] at hb
      exact absurd hb (by decide)
  · intro hpq
    rcases ho.total (sortedFrom (firstB x) p) (sortedFrom (firstB x) q)
      (fun e => hpq.ne (sortedFrom_injective _ e)) with hb | hb
    · exact hb
    · rw [h p q hpq] at hb
      exact absurd hb (by decide)

/-- The source of place `p` has exactly `p` entries before it. -/
theorem rank_sortedFrom {n : ℕ} (x : Fin n → EReal) (p : Fin n) : rank x (sortedFrom (firstB x) p) = p.val := by
  classical
  let e : Fin n ≃ Fin n := Equiv.ofBijective (sortedFrom (firstB x)) ⟨sortedFrom_injective _, sortedFrom_surjective _⟩
  have : (Finset.univ.filter fun i => goesFirst x i (sortedFrom (firstB x) p)) = (Finset.Iio p).map e.toEmbedding := by
    ext i
    simp only [Finset.mem_filter, Finset.mem_univ, true_and, Finset.mem_map_equiv, Finset.mem_Iio]
    rw [← sortedFrom_lt_iff x (e.symm i) p]
    have : sortedFrom (firstB x) (e.symm i) = i := e.apply_symm_apply i
    rw [this]
  unfold rank
  rw [this, Finset.card_map, Fin.card_Iio]

/-- Entry `j` is among the sources of the first `k` places exactly when fewer than `k` entries go before it. -/
theorem among_first {n k : ℕ} (hk : k ≤ n) (x : Fin n → EReal) (j : Fin n) :
    (∃ p : Fin k, sortedFrom (fun a b => FloatOps.cmpfTotal (F := Ideal) (φ := .f32) .gt (x a) (x b) == 1#1) (p.castLE hk) = j)
      ↔ rank x j < k := by
  rw [sortedFrom_larger]
  constructor
  · rintro ⟨p, rfl⟩
    rw [rank_sortedFrom]
    exact p.isLt
  · intro h
    obtain ⟨p, rfl⟩ := sortedFrom_surjective (firstB x) j
    rw [rank_sortedFrom] at h
    exact ⟨⟨p.val, h⟩, rfl⟩

open Classical in
/-- The count as a sum over the positions below `n`. -/
theorem rank_eq_sum {n : ℕ} (x : Fin n → EReal) (j : Fin n) :
    rank x j = ∑ i : Fin n, if goesFirst x i j then 1 else 0 := by
  unfold rank
  rw [Finset.card_filter]

open Classical in
/-- A first entry that is at least every other has none before it. -/
theorem rank_zero {n : ℕ} (x : Fin (n + 1) → EReal) (h : ∀ i, x i ≤ x 0) : rank x 0 = 0 := by
  unfold rank
  rw [Finset.card_eq_zero, Finset.filter_eq_empty_iff]
  rintro i - (hi | ⟨-, hi⟩)
  · exact absurd hi (not_lt.mpr (h i))
  · exact absurd hi (Fin.not_lt_zero i)

end Cert.Nsa
-- ==== Proof.NsaSpec.lean ====
module

public import proofs.«01_k».proof.Proof.NsaMath
public import proofs.«01_k».proof.Proof.NsaRank

/-!
# Native sparse attention at one query position

What both programs compute for one query position `t` and one group of heads, as plain formulas over the extended reals:
the softmax over the compressed keys, the ranking of the key blocks, the softmax over the keys of the chosen blocks, the
softmax over the window, and the gated sum of the three.
-/

@[expose] public section

noncomputable section

namespace Cert.Nsa

open Idealize.ShloMosaic

/-- The score scale, one over the square root of the head dimension. -/
def eighth : EReal := Ideal.ofBits .f32 0x3E000000#32
/-- The least divisor of a softmax. -/
def tiny : EReal := Ideal.ofBits .f32 0x00800000#32
/-- The importance of a block that is always chosen. -/
def big : EReal := Ideal.ofBits .f32 0x4E6E6B28#32
/-- The importance of a block that starts after the query. -/
def nbig : EReal := Ideal.ofBits .f32 0xCE6E6B28#32

theorem bot32 : Ideal.ofBits .f32 0xFF800000#32 = ⊥ := by simp [Ideal.ofBits, Ideal.ieee]
theorem top32 : Ideal.ofBits .f32 0x7F800000#32 = ⊤ := by simp [Ideal.ofBits, Ideal.ieee]
theorem zero32 : Ideal.ofBits .f32 0x00000000#32 = 0 := by simp [Ideal.ofBits, Ideal.ieee]
theorem one32 : Ideal.ofBits .f32 0x3F800000#32 = 1 := by
  simp [Ideal.ofBits, Ideal.ieee, -EReal.coe_mul]
  norm_num
theorem eighth_eq : eighth = ((1 / 8 : ℝ) : EReal) := by
  simp [eighth, Ideal.ofBits, Ideal.ieee, -EReal.coe_mul]
  norm_num
theorem big_eq : big = ((1000000000 : ℝ) : EReal) := by
  simp [big, Ideal.ofBits, Ideal.ieee, -EReal.coe_mul]
  norm_num
theorem nbig_eq : nbig = ((-1000000000 : ℝ) : EReal) := by
  simp [nbig, Ideal.ofBits, Ideal.ieee, -EReal.coe_mul]
  norm_num
theorem tiny_pos : 0 < tiny := by
  simp [tiny, Ideal.ofBits, Ideal.ieee, -EReal.coe_mul]
theorem tiny_le : tiny ≤ 1 := by
  simp [tiny, Ideal.ofBits, Ideal.ieee, -EReal.coe_mul]
  norm_num
  exact_mod_cast (by norm_num : (1 / 85070591730234615865843651857942052864 : ℝ) ≤ 1)

/-- A choice by a one-bit word that says whether `p` holds. -/
theorem select_iff {α : Type} {c : BitVec 1} {p : Prop} [Decidable p] (h : c = 1 ↔ p) (a b : α) :
    Scalar.select c a b = if p then a else b := by
  unfold Scalar.select
  by_cases hp : p
  · rw [if_pos (h.mpr hp), if_pos hp]
  · rw [if_neg (fun e => hp (h.mp e)), if_neg hp]

variable (q : Fin 4 → Fin 64 → EReal) (kc vc : Fin 255 → Fin 64 → EReal) (ks vs kw vw : Fin 4096 → Fin 64 → EReal)
  (ov : Fin 255 → Fin 64 → EReal) (gate : Fin 4 → Fin 3 → EReal) (t : Fin 4096)

/-- The scaled product of a key row with head `r`'s query row. -/
def dot (k : Fin 64 → EReal) (r : Fin 4) : EReal := (∑ d, k d * q r d) * eighth

/-- The score of compressed key `n`: only keys that end at or before the query count. -/
def cmpScore (r : Fin 4) (n : Fin 255) : EReal := if n.val * 16 + 31 ≤ t.val then dot q (kc n) r else ⊥

/-- The weight of compressed key `n`. -/
def cmpWeight (r : Fin 4) (n : Fin 255) : EReal := weight tiny (cmpScore q kc t r) n

/-- The importance of key block `j`: the weights of all four heads, by how much each compressed key overlaps the block. -/
def importanceAt (j : Fin 64) : EReal := ∑ n, (∑ r, cmpWeight q kc t r n) * ov n j

/-- The importance by which the blocks are ranked. -/
def ranking (j : Fin 64) : EReal :=
  if j.val = 0 ∨ j.val = t.val / 64 ∨ j.val + 1 = t.val / 64 then big
  else if j.val * 64 ≤ t.val then importanceAt q kc ov t j else nbig

/-- Block `j` is chosen: it is among the sixteen first. -/
def isChosen (j : Fin 64) : Prop := rank (ranking q kc ov t) j < 16

/-- The block of key `k`. -/
def blockOf (k : Fin 4096) : Fin 64 := ⟨k.val / 64, by omega⟩

open Classical in
/-- The score of key `k` in the selected branch. -/
def slcScore (r : Fin 4) (k : Fin 4096) : EReal :=
  if isChosen q kc ov t (blockOf k) ∧ k.val ≤ t.val then dot q (ks k) r else ⊥

/-- The score of key `k` in the window branch. -/
def winScore (r : Fin 4) (k : Fin 4096) : EReal := if k.val ≤ t.val ∧ t.val < k.val + 512 then dot q (kw k) r else ⊥

/-- The values averaged with the softmax weights of the scores. -/
def average {n : ℕ} (x : Fin n → EReal) (v : Fin n → Fin 64 → EReal) (d : Fin 64) : EReal :=
  ∑ k, v k d * weight tiny x k

/-- The gated sum of the three branches. -/
def attention (r : Fin 4) (d : Fin 64) : EReal :=
  gate r 0 * average (cmpScore q kc t r) vc d + gate r 1 * average (slcScore q kc ks ov t r) vs d
    + gate r 2 * average (winScore q kw t r) vw d

end Cert.Nsa
-- ==== Proof.NsaRun.lean ====
module

public import proofs.«01_k».proof.Proof.Gen.KernelNsaIdeal.Value
public import Idealize.ShloMosaic.Lib.LoopRemainder

/-!
What one grid point of the attention kernel stores, as its own arithmetic applied to the blocks it reads: the window
branch, the compressed branch, the selection of 16 blocks, and the running state of the selected branch.
-/

@[expose] public section

set_option maxRecDepth 100000

noncomputable section

namespace Cert.Nsa

open Cert.KernelNsaIdeal Cert.KernelNsaIdeal.Gen Cert.KernelNsaIdeal.Value Idealize.ShloMosaic Idealize.ShloMosaic.TcCoe Idealize.SL.Sem
open Idealize.ShloMosaic.Pipeline (Dat)

/-- The row number of each entry of a 64 by 128 array. -/
abbrev rowNo : IVec S64x128 32 := iota .tc S64x128 32 [0] iota_S64x128_d0_w32

/-- The first query of grid point `i`'s block, as a word. -/
abbrev first (i : grid0.Coords) : BitVec 32 := Scalar.muli (BitVec.ofNat 32 (i 2).val) 128#32

/-- The scores that the 64 blocks are ranked by, from their importance. -/
abbrev ranked (i : grid0.Coords) (w : FVec Ideal S64x128 .f32) : FVec Ideal S64x128 .f32 :=
  k0_pay12 w rowNo (k0_pay8 (first i)) (k0_pay9 (first i)) (k0_pay10 (first i)) k0_pay11

/-- The word the kernel counts by. -/
abbrev cst1 : Ideal .f32 := FloatOps.ofBits .f32 0x00000000#32

/-- The count of blocks ahead, part A. -/
def cntA (i : grid0.Coords) (w : FVec Ideal S64x128 .f32) : FVec Ideal S64x128 .f32 :=
  k0_pay16 rowNo (ranked i w) (k0_pay13 w rowNo (k0_pay8 (first i)) (k0_pay9 (first i)) (k0_pay10 (first i)) k0_pay11) (k0_pay14 w rowNo (k0_pay8 (first i)) (k0_pay9 (first i)) (k0_pay10 (first i)) k0_pay11) cst1 k0_pay15

/-- The count of blocks ahead, part B. -/
def cntB (i : grid0.Coords) (w : FVec Ideal S64x128 .f32) : FVec Ideal S64x128 .f32 :=
  k0_pay20 rowNo (ranked i w) (cntA i w) (k0_pay18 (ranked i w)) (k0_pay19 rowNo (ranked i w))

/-- The count of blocks ahead, part C. -/
def cntC (i : grid0.Coords) (w : FVec Ideal S64x128 .f32) : FVec Ideal S64x128 .f32 :=
  k0_pay24 rowNo (ranked i w) (cntB i w) (k0_pay22 (ranked i w)) (k0_pay23 (ranked i w))

/-- The count of blocks ahead, part D. -/
def cntD (i : grid0.Coords) (w : FVec Ideal S64x128 .f32) : FVec Ideal S64x128 .f32 :=
  k0_pay26 rowNo (ranked i w) (cntC i w) (k0_pay25 (ranked i w))

/-- The count of blocks ahead, part E. -/
def cntE (i : grid0.Coords) (w : FVec Ideal S64x128 .f32) : FVec Ideal S64x128 .f32 :=
  k0_pay29 rowNo (ranked i w) (cntD i w) (k0_pay27 rowNo (ranked i w)) cst1 k0_pay28

/-- The count of blocks ahead, part F. -/
def cntF (i : grid0.Coords) (w : FVec Ideal S64x128 .f32) : FVec Ideal S64x128 .f32 :=
  k0_pay33 rowNo (ranked i w) (cntE i w) (k0_pay31 (ranked i w)) (k0_pay32 rowNo (ranked i w))

/-- The count of blocks ahead, part G. -/
def cntG (i : grid0.Coords) (w : FVec Ideal S64x128 .f32) : FVec Ideal S64x128 .f32 :=
  k0_pay37 rowNo (ranked i w) (cntF i w) (k0_pay35 (ranked i w)) (k0_pay36 (ranked i w))

/-- The count of blocks ahead, part H. -/
def cntH (i : grid0.Coords) (w : FVec Ideal S64x128 .f32) : FVec Ideal S64x128 .f32 :=
  k0_pay39 rowNo (ranked i w) (cntG i w) (k0_pay38 (ranked i w))

/-- The count of blocks ahead, part I. -/
def cntI (i : grid0.Coords) (w : FVec Ideal S64x128 .f32) : FVec Ideal S64x128 .f32 :=
  k0_pay42 rowNo (ranked i w) (cntH i w) (k0_pay40 rowNo (ranked i w)) cst1 k0_pay41

/-- The count of blocks ahead, part J. -/
def cntJ (i : grid0.Coords) (w : FVec Ideal S64x128 .f32) : FVec Ideal S64x128 .f32 :=
  k0_pay46 rowNo (ranked i w) (cntI i w) (k0_pay44 (ranked i w)) (k0_pay45 rowNo (ranked i w))

/-- The count of blocks ahead, part K. -/
def cntK (i : grid0.Coords) (w : FVec Ideal S64x128 .f32) : FVec Ideal S64x128 .f32 :=
  k0_pay50 rowNo (ranked i w) (cntJ i w) (k0_pay48 (ranked i w)) (k0_pay49 (ranked i w))

/-- The count of blocks ahead, part L. -/
def cntL (i : grid0.Coords) (w : FVec Ideal S64x128 .f32) : FVec Ideal S64x128 .f32 :=
  k0_pay52 rowNo (ranked i w) (cntK i w) (k0_pay51 (ranked i w))

/-- The count of blocks ahead, part M. -/
def cntM (i : grid0.Coords) (w : FVec Ideal S64x128 .f32) : FVec Ideal S64x128 .f32 :=
  k0_pay55 rowNo (ranked i w) (cntL i w) (k0_pay53 rowNo (ranked i w)) cst1 k0_pay54

/-- The count of blocks ahead, part N. -/
def cntN (i : grid0.Coords) (w : FVec Ideal S64x128 .f32) : FVec Ideal S64x128 .f32 :=
  k0_pay59 rowNo (ranked i w) (cntM i w) (k0_pay57 (ranked i w)) (k0_pay58 rowNo (ranked i w))

/-- The count of blocks ahead, part O. -/
def cntO (i : grid0.Coords) (w : FVec Ideal S64x128 .f32) : FVec Ideal S64x128 .f32 :=
  k0_pay63 rowNo (ranked i w) (cntN i w) (k0_pay61 (ranked i w)) (k0_pay62 (ranked i w))

/-- The count of blocks ahead, part P. -/
def cntP (i : grid0.Coords) (w : FVec Ideal S64x128 .f32) : FVec Ideal S64x128 .f32 :=
  k0_pay65 rowNo (ranked i w) (cntO i w) (k0_pay64 (ranked i w))

/-- The selection: one where a block is among the 16 kept, zero elsewhere. -/
def chosen (i : grid0.Coords) (w : FVec Ideal S64x128 .f32) : FVec Ideal S64x128 .bf16 :=
  k0_pay68 rowNo (ranked i w) (cntP i w) (k0_pay66 rowNo (ranked i w)) cst1 k0_pay67

/-- The window branch. -/
def winOut (i : grid0.Coords) (x0 : Vec Ideal S1x128x256 .bf16) (x5 : Vec Ideal S1x1x4096x64 .bf16) (x6 : Vec Ideal S1x1x64x4096 .bf16) : FVec Ideal S64x512 .f32 :=
  k0_pay4 (k0_pay3 i x0 (View.ld x5 (Rect.unit (k0_off1 i) S1x1x640x64.size (k0_off1_inb i))))
    (View.ld x6 (Rect.unit (k0_off2 i) S1x1x64x640.size (k0_off2_inb i)))

/-- The softmax weights of the compressed branch. -/
def cmpP (i : grid0.Coords) (x0 : Vec Ideal S1x128x256 .bf16) (x1 : Vec Ideal S1x1x256x64 .bf16) : FVec Ideal S256x512 .f32 :=
  k0_pay5 (first i) (k0_pay2 x0) x1

/-- The row numbers of a tile of 1024 keys. -/
abbrev tileNo : IVec S1024x128 32 := iota .tc S1024x128 32 [0] iota_S1024x128_d0_w32

/-- The state of the selected branch: the running maximum, normaliser and weighted sum. -/
abbrev State : Type := FVec Ideal S1x512 .f32 × FVec Ideal S1x512 .f32 × FVec Ideal S64x512 .f32

/-- One tile's step of the selected branch. -/
def tile (i : grid0.Coords) (q : FVec Ideal S512x64 .bf16) (sel : FVec Ideal S64x128 .bf16) (x3 : Vec Ideal S1x1x4096x64 .bf16) (x4 : Vec Ideal S1x1x64x4096 .bf16)
    (x9 : Vec Ideal S4096x64 .bf16) (k : Fin (k0_t1_loop i).trips) (s : State) : State :=
  (k0_pay74 i q sel tileNo (k0_pay69 (first i)) k s.1 (View.ld x3 (Rect.unit (k0_off3 i k) S1x1x1024x64.size (k0_off3_inb i k)))
      (View.ld x9 (Rect.unit (k0_off4 i k) S1024x64.size (k0_off4_inb i k))),
    k0_pay77 i q sel tileNo (k0_pay69 (first i)) k s.1 s.2.1 (View.ld x3 (Rect.unit (k0_off3 i k) S1x1x1024x64.size (k0_off3_inb i k)))
      (View.ld x9 (Rect.unit (k0_off4 i k) S1024x64.size (k0_off4_inb i k))),
    k0_pay78 i q sel tileNo (k0_pay69 (first i)) k s.1 s.2.2 (View.ld x3 (Rect.unit (k0_off3 i k) S1x1x1024x64.size (k0_off3_inb i k)))
      (View.ld x9 (Rect.unit (k0_off4 i k) S1024x64.size (k0_off4_inb i k)))
      (View.ld x4 (Rect.unit (k0_off5 i k) S1x1x64x1024.size (k0_off5_inb i k))))

/-- The state after the first `n` tiles. -/
def tiles (i : grid0.Coords) (q : FVec Ideal S512x64 .bf16) (sel : FVec Ideal S64x128 .bf16) (x3 : Vec Ideal S1x1x4096x64 .bf16) (x4 : Vec Ideal S1x1x64x4096 .bf16)
    (x9 : Vec Ideal S4096x64 .bf16) : ℕ → State
  | 0 => (k0_pay70, k0_pay71, k0_pay72)
  | n + 1 => if h : n < (k0_t1_loop i).trips then tile i q sel x3 x4 x9 ⟨n, h⟩ (tiles i q sel x3 x4 x9 n) else tiles i q sel x3 x4 x9 n

/-- The importance of the 64 blocks. -/
def importance (i : grid0.Coords) (x0 : Vec Ideal S1x128x256 .bf16) (x1 : Vec Ideal S1x1x256x64 .bf16) (x8 : Vec Ideal S64x256 .bf16) : FVec Ideal S64x128 .f32 :=
  k0_pay7 (cmpP i x0 x1) x8 x8 x8

/-- The state of the selected branch after all of the grid point's tiles. -/
def finalState (i : grid0.Coords) (x0 : Vec Ideal S1x128x256 .bf16) (x1 : Vec Ideal S1x1x256x64 .bf16) (x3 : Vec Ideal S1x1x4096x64 .bf16)
    (x4 : Vec Ideal S1x1x64x4096 .bf16) (x8 : Vec Ideal S64x256 .bf16) (x9 : Vec Ideal S4096x64 .bf16) : State :=
  tiles i (k0_pay2 x0) (chosen i (importance i x0 x1 x8)) x3 x4 x9 (k0_t1_loop i).trips

/-- The block that the point stores. -/
def blockOut (i : grid0.Coords) (x0 : Vec Ideal S1x128x256 .bf16) (x1 : Vec Ideal S1x1x256x64 .bf16) (x2 : Vec Ideal S1x1x64x256 .bf16) (x3 : Vec Ideal S1x1x4096x64 .bf16) (x4 : Vec Ideal S1x1x64x4096 .bf16) (x5 : Vec Ideal S1x1x4096x64 .bf16) (x6 : Vec Ideal S1x1x64x4096 .bf16) (x7 : Vec Ideal S1x1x12x128 .f32) (x8 : Vec Ideal S64x256 .bf16) (x9 : Vec Ideal S4096x64 .bf16) : FVec Ideal S1x128x256 .f32 :=
  k0_pay1 (k0_pay85 (winOut i x0 x5 x6) (k0_pay6 (cmpP i x0 x1) x2) (finalState i x0 x1 x3 x4 x8 x9).2.1 (finalState i x0 x1 x3 x4 x8 x9).2.2 x7)

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- The generated recursion over the tiles is `tiles`. -/
theorem state_eq (c : Dev nD) (i : grid0.Coords) (arg3 : Memref sig .tc .vmem S1x128x256 .bf16) (harg3 : arg3.IsWhole) (arg4 : Memref sig .tc .vmem S1x1x256x64 .bf16) (harg4 : arg4.IsWhole) (arg5 : Memref sig .tc .vmem S1x1x64x256 .bf16) (harg5 : arg5.IsWhole) (arg6 : Memref sig .tc .vmem S1x1x4096x64 .bf16) (harg6 : arg6.IsWhole) (arg7 : Memref sig .tc .vmem S1x1x64x4096 .bf16) (harg7 : arg7.IsWhole) (arg8 : Memref sig .tc .vmem S1x1x4096x64 .bf16) (harg8 : arg8.IsWhole) (arg9 : Memref sig .tc .vmem S1x1x64x4096 .bf16) (harg9 : arg9.IsWhole) (arg10 : Memref sig .tc .vmem S1x1x12x128 .f32) (harg10 : arg10.IsWhole) (arg11 : Memref sig .tc .vmem S64x256 .bf16) (harg11 : arg11.IsWhole) (arg12 : Memref sig .tc .vmem S4096x64 .bf16) (harg12 : arg12.IsWhole) (arg13 : Memref sig .tc .vmem S1x128x256 .f32) (harg13 : arg13.IsWhole)
    (q : FVec Ideal S512x64 .bf16) (a b : FVec Ideal S64x512 .f32) (sel : FVec Ideal S64x128 .bf16) (z : BitVec 32)
    (x3 : Vec Ideal S1x1x4096x64 .bf16) (x4 : Vec Ideal S1x1x64x4096 .bf16) (x9 : Vec Ideal S4096x64 .bf16) (n : ℕ) (hn : n ≤ (k0_t1_loop i).trips) :
    st_k0_t1 (F := Ideal) Variants.none c none i arg3 harg3 arg4 harg4 arg5 harg5 arg6 harg6 arg7 harg7 arg8 harg8 arg9 harg9 arg10 harg10 arg11 harg11 arg12 harg12 arg13 harg13 q a b sel tileNo (k0_pay69 (first i)) z (harg6.unread x3) (harg7.unread x4) (harg12.unread x9) (k0_pay70, k0_pay71, k0_pay72) n
      = tiles i q sel x3 x4 x9 n := by
  induction n with
  | zero => rfl
  | succ n ih =>
    have h : n < (k0_t1_loop i).trips := hn
    rw [tiles, dif_pos h, ← ih h.le]
    refine (st_k0_t1_succ (F := Ideal) Variants.none c none i arg3 harg3 arg4 harg4 arg5 harg5 arg6 harg6 arg7 harg7 arg8 harg8 arg9 harg9 arg10 harg10 arg11 harg11 arg12 harg12 arg13 harg13 q a b sel tileNo (k0_pay69 (first i)) z (harg6.unread x3) (harg7.unread x4) (harg12.unread x9) (k0_pay70, k0_pay71, k0_pay72) ⟨n, h⟩).trans ?_
    generalize st_k0_t1 (F := Ideal) Variants.none c none i arg3 harg3 arg4 harg4 arg5 harg5 arg6 harg6 arg7 harg7 arg8 harg8 arg9 harg9 arg10 harg10 arg11 harg11 arg12 harg12 arg13 harg13 q a b sel tileNo (k0_pay69 (first i)) z (harg6.unread x3) (harg7.unread x4) (harg12.unread x9) (k0_pay70, k0_pay71, k0_pay72) n = s
    unfold tripR_k0_t1 trip_k0_t1 tile
    dsimp only
    simp only [View.readAt_eq_ld, harg6.read_unread, harg7.read_unread, harg12.read_unread]

/-- What the point stores. -/
theorem out_eq (c : Dev nD) (i : grid0.Coords) (arg3 : Memref sig .tc .vmem S1x128x256 .bf16) (harg3 : arg3.IsWhole) (arg4 : Memref sig .tc .vmem S1x1x256x64 .bf16) (harg4 : arg4.IsWhole) (arg5 : Memref sig .tc .vmem S1x1x64x256 .bf16) (harg5 : arg5.IsWhole) (arg6 : Memref sig .tc .vmem S1x1x4096x64 .bf16) (harg6 : arg6.IsWhole) (arg7 : Memref sig .tc .vmem S1x1x64x4096 .bf16) (harg7 : arg7.IsWhole) (arg8 : Memref sig .tc .vmem S1x1x4096x64 .bf16) (harg8 : arg8.IsWhole) (arg9 : Memref sig .tc .vmem S1x1x64x4096 .bf16) (harg9 : arg9.IsWhole) (arg10 : Memref sig .tc .vmem S1x1x12x128 .f32) (harg10 : arg10.IsWhole) (arg11 : Memref sig .tc .vmem S64x256 .bf16) (harg11 : arg11.IsWhole) (arg12 : Memref sig .tc .vmem S4096x64 .bf16) (harg12 : arg12.IsWhole) (arg13 : Memref sig .tc .vmem S1x128x256 .f32) (harg13 : arg13.IsWhole)
    (x0 : Vec Ideal S1x128x256 .bf16) (x1 : Vec Ideal S1x1x256x64 .bf16) (x2 : Vec Ideal S1x1x64x256 .bf16) (x3 : Vec Ideal S1x1x4096x64 .bf16) (x4 : Vec Ideal S1x1x64x4096 .bf16) (x5 : Vec Ideal S1x1x4096x64 .bf16) (x6 : Vec Ideal S1x1x64x4096 .bf16) (x7 : Vec Ideal S1x1x12x128 .f32) (x8 : Vec Ideal S64x256 .bf16) (x9 : Vec Ideal S4096x64 .bf16) :
    out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 = blockOut i x0 x1 x2 x3 x4 x5 x6 x7 x8 x9 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero off3]
  have h0 : Scf.trips (k0_t2_loop i).lb (k0_t2_loop i).ub (k0_t2_loop i).st = 0 := Scf.rem_trips _ _
  rw [h0]
  simp only [st_k0_t2_zero]
  simp only [View.readAt_eq_ld, harg3.read_unread, harg4.read_unread, harg5.read_unread, harg8.read_unread, harg9.read_unread, harg10.read_unread, harg11.read_unread,
    View.ld_unit_zero (S := S1x128x256) off3, View.ld_unit_zero (S := S1x1x256x64) off4, View.ld_unit_zero (S := S1x1x64x256) off4,
    View.ld_unit_zero (S := S1x1x12x128) off4, View.ld_unit_zero (S := S64x256) off2]
  unfold blockOut finalState
  rw [← state_eq c i arg3 harg3 arg4 harg4 arg5 harg5 arg6 harg6 arg7 harg7 arg8 harg8 arg9 harg9 arg10 harg10 arg11 harg11 arg12 harg12 arg13 harg13 (k0_pay2 x0) (winOut i x0 x5 x6) (k0_pay6 (cmpP i x0 x1) x2) (chosen i (importance i x0 x1 x8)) (kernelRun0_A.sl.v994 i) x3 x4 x9 _ le_rfl]
  rfl

end Cert.Nsa
-- ==== Proof.NsaBlock.lean ====
module

public import proofs.«01_k».proof.Proof.NsaSpec
public import proofs.«01_k».proof.Proof.NsaRun

/-!
# Reading the attention kernel's block

The kernel lays the four heads of a group side by side: column `r * 128 + u` is head `r`'s query `u`. This module reads
the query matrix and the window and compressed scores at such a column.
-/

@[expose] public section

set_option maxRecDepth 100000

noncomputable section

namespace Cert.Nsa

open Idealize.ShloMosaic Idealize.ShloMosaic.WordCmp Cert.KernelNsaIdeal Cert.KernelNsaIdeal.Gen

/-- Head `r`'s column of query `u`. -/
def col (r : Fin 4) (u : Fin 128) : Fin 512 := ⟨r.val * 128 + u.val, by omega⟩

/-- Head `r`'s feature `d` in a row of four heads. -/
def feature (r : Fin 4) (d : Fin 64) : Fin 256 := ⟨r.val * 64 + d.val, by omega⟩

/-- A statement about the four heads, head by head. -/
theorem forall4 {P : Fin 4 → Prop} (h0 : P 0) (h1 : P 1) (h2 : P 2) (h3 : P 3) : ∀ r, P r
  | 0 => h0
  | 1 => h1
  | 2 => h2
  | 3 => h3

theorem col0 (u : Fin 128) : (col 0 u).val = u.val := by simp [col]
theorem col1 (u : Fin 128) : (col 1 u).val = 128 + u.val := by simp [col]
theorem col2 (u : Fin 128) : (col 2 u).val = 256 + u.val := by simp [col]
theorem col3 (u : Fin 128) : (col 3 u).val = 384 + u.val := by simp [col]

/-- Column `r * 128 + u` of the query matrix is head `r`'s part of query `u`'s row. -/
theorem pay2_at (x0 : Vec Ideal S1x128x256 .bf16) (r : Fin 4) (u : Fin 128) (d : Fin 64) :
    k0_pay2 x0 (ix2 (col r u) d) = x0 (ix3 (0 : Fin 1) u (feature r d)) := by
  have hu := u.isLt
  unfold feature
  revert r
  refine forall4 ?_ ?_ ?_ ?_
  all_goals
    pointwise [k0_pay2]
    simp (disch := omega) only [col0, col1, col2, col3, dif_pos, dif_neg]
    try
      congr 1
      funext a
      apply Fin.ext
      match a with
      | ⟨0, _⟩ => rfl
      | ⟨1, _⟩ => simp <;> omega
      | ⟨2, _⟩ => simp <;> omega

theorem sub1 (u : ℕ) : 128 + u - 128 = u := by omega
theorem sub2 (u : ℕ) : 256 + u - 128 - 128 = u := by omega
theorem sub3 (u : ℕ) : 384 + u - 128 - 128 - 128 = u := by omega

/-- Adding zero where a word holds and ⊥ where it does not masks a score. -/
theorem add_select {c : BitVec 1} {p : Prop} [Decidable p] (h : c = 1 ↔ p) (s : EReal) :
    s + Scalar.select c 0 (Ideal.ofBits .f32 0xFF800000#32) = if p then s else ⊥ := by
  rw [select_iff h, bot32]
  split <;> simp

/-- The score of a scaled query is the scaled score. -/
theorem dot_scaled (q : Fin 4 → Fin 64 → EReal) (k : Fin 64 → EReal) (r : Fin 4) :
    ∑ d, k d * (q r d * eighth) = dot q k r := by
  unfold dot
  have h0 : (0 : EReal) ≤ eighth := by rw [eighth_eq]; exact_mod_cast (by norm_num : (0 : ℝ) ≤ 1 / 8)
  have h1 : eighth ≠ ⊤ := by rw [eighth_eq]; exact EReal.coe_ne_top _
  rw [sum_mul _ h0 h1]
  exact Finset.sum_congr rfl fun d _ => (mul_assoc _ _ _).symm

/-- A product of real rows is real. -/
theorem dot_real {q : Fin 4 → Fin 64 → EReal} {k : Fin 64 → EReal} (hq : ∀ r d, q r d ≠ ⊤ ∧ q r d ≠ ⊥) (hk : ∀ d, k d ≠ ⊤ ∧ k d ≠ ⊥)
    (r : Fin 4) : dot q k r ≠ ⊤ ∧ dot q k r ≠ ⊥ := by
  unfold dot
  refine mul_real (sum_real _ _ fun d => mul_real (hk d) (hq r d)) ?_
  rw [eighth_eq]
  exact ⟨EReal.coe_ne_top _, EReal.coe_ne_bot _⟩

/-- The word that says whether band row `k` lies in query `u`'s window. -/
def winWord (i : grid0.Coords) (k : Fin 640) (u : Fin 128) : BitVec 1 :=
  let b : BitVec 32 := Scalar.maxsi (Scalar.subi (Scalar.addi (Scalar.muli (BitVec.ofNat 32 (i 2).val) 128#32) 128#32) 640#32) 0#32
  let w : BitVec 32 := IntOp.addi (Scalar.subi (Scalar.muli (BitVec.ofNat 32 (i 2).val) 128#32) b) (IntOp.subi (BitVec.ofNat 32 u.val) (BitVec.ofNat 32 k.val))
  IntOp.andi (IntOp.cmpi .sge w 0#32) (IntOp.cmpi .slt w 512#32)

/-- The window score of band row `k` in head `r`'s column of query `u`. -/
def winS (i : grid0.Coords) (q : FVec Ideal S512x64 .bf16) (v : Vec Ideal S1x1x640x64 .bf16) (r : Fin 4) (u : Fin 128) (k : Fin 640) : EReal :=
  (∑ d : Fin 64, (v (ix4 (0 : Fin 1) (0 : Fin 1) k d) * q (ix2 (col r u) d) : EReal))
    + Scalar.select (winWord i k u) 0 (Ideal.ofBits .f32 0xFF800000#32)

theorem pay3_at (i : grid0.Coords) (x0 : Vec Ideal S1x128x256 .bf16) (v : Vec Ideal S1x1x640x64 .bf16) (k : Fin 640) (r : Fin 4) (u : Fin 128) :
    k0_pay3 i x0 v (ix2 k (col r u))
      = Ideal.exp (winS i (k0_pay2 x0) v r u k - (Finset.univ : Finset (Fin 640)).fold max (Ideal.ofBits .f32 0xFF800000#32) (winS i (k0_pay2 x0) v r u)) := by
  have hu := u.isLt
  unfold k0_pay3
  generalize k0_pay2 x0 = q
  revert r
  refine forall4 ?_ ?_ ?_ ?_
  all_goals
    pointwise
    simp (disch := omega) only [col0, col1, col2, col3, dif_pos, dif_neg, sub1, sub2, sub3]
    rfl

/-- The word that says whether compressed key `n` exists and ends at or before query `u`. -/
def cmpWord (v0 : BitVec 32) (n : Fin 256) (u : Fin 128) : BitVec 1 :=
  IntOp.andi (IntOp.cmpi .sle (IntOp.addi (IntOp.muli (BitVec.ofNat 32 n.val) 16#32) 31#32) (IntOp.addi v0 (BitVec.ofNat 32 u.val)))
    (IntOp.cmpi .slt (BitVec.ofNat 32 n.val) 255#32)

/-- The compressed score of key `n` in head `r`'s column of query `u`. -/
def cmpS (v0 : BitVec 32) (q : FVec Ideal S512x64 .bf16) (v : Vec Ideal S1x1x256x64 .bf16) (r : Fin 4) (u : Fin 128) (n : Fin 256) : EReal :=
  (∑ d : Fin 64, (v (ix4 (0 : Fin 1) (0 : Fin 1) n d) * q (ix2 (col r u) d) : EReal))
    + Scalar.select (cmpWord v0 n u) 0 (Ideal.ofBits .f32 0xFF800000#32)

/-- The maximum as the kernel reads it: zero where it is not finite. -/
def safeMax (x : Fin 256 → EReal) : EReal :=
  Scalar.select (IntOp.xori (FloatOps.weird (F := Ideal) ((Finset.univ : Finset (Fin 256)).fold max (Ideal.ofBits .f32 0xFF800000#32) x)) 1#1)
    ((Finset.univ : Finset (Fin 256)).fold max (Ideal.ofBits .f32 0xFF800000#32) x) 0

theorem safeMax_eq (x : Fin 256 → EReal) : safeMax x = safe ((Finset.univ : Finset (Fin 256)).fold max ⊥ x) := by
  unfold safeMax safe
  rw [bot32]
  generalize (Finset.univ : Finset (Fin 256)).fold max ⊥ x = m
  refine select_iff ?_ _ _
  show IntOp.xori (BitVec.ofBool (decide (m = ⊤ ∨ m = ⊥))) 1#1 = 1 ↔ _
  induction m with
  | bot => simp [IntOp.xori]
  | top => simp [IntOp.xori]
  | coe r =>
    have h : max (r : EReal) (-(r : EReal)) < ⊤ := max_lt (EReal.coe_lt_top r) (by rw [← EReal.coe_neg]; exact EReal.coe_lt_top _)
    simp [IntOp.xori, h]

theorem pay5_at (v0 : BitVec 32) (q : FVec Ideal S512x64 .bf16) (v : Vec Ideal S1x1x256x64 .bf16) (n : Fin 256) (r : Fin 4) (u : Fin 128) :
    k0_pay5 v0 q v (ix2 n (col r u))
      = weight tiny (cmpS v0 q v r u) n := by
  have hu := u.isLt
  unfold weight
  rw [← safeMax_eq]
  unfold k0_pay5
  revert r
  refine forall4 ?_ ?_ ?_ ?_
  all_goals
    pointwise
    simp (disch := omega) only [col0, col1, col2, col3, dif_pos, dif_neg, sub1, sub2, sub3]
    rfl

end Cert.Nsa
-- ==== Proof.NsaCount.lean ====
module

public import proofs.«01_k».proof.Proof.NsaBlock

/-!
# The kernel's count of the blocks ahead

The kernel adds, block by block, one for every block that is ranked ahead of the block in hand. The theorems read the
running count after each of its parts.
-/

@[expose] public section

set_option maxRecDepth 100000

noncomputable section

namespace Cert.Nsa

open Idealize.ShloMosaic Idealize.ShloMosaic.WordCmp Cert.KernelNsaIdeal Cert.KernelNsaIdeal.Gen

/-- One where block `k` is ranked ahead of block `j`, zero elsewhere. -/
def ahead (X : FVec Ideal S64x128 .f32) (j : Fin 64) (u : Fin 128) (k : Fin 64) : EReal :=
  Scalar.select (IntOp.ori (BitVec.ofBool (decide ((X (ix2 j u) : EReal) < X (ix2 k u))))
    (IntOp.andi (BitVec.ofBool (decide ((X (ix2 k u) : EReal) = X (ix2 j u)))) (IntOp.cmpi .sgt (BitVec.ofNat 32 j.val) (BitVec.ofNat 32 k.val)))) 1 0

/-- How many of the first `n` blocks are ranked ahead of block `j`. -/
def ahead64 (X : FVec Ideal S64x128 .f32) (j : Fin 64) (u : Fin 128) : ℕ → EReal
  | 0 => 0
  | n + 1 => ahead64 X j u n + if h : n < 64 then ahead X j u ⟨n, h⟩ else 0

variable (i : grid0.Coords) (w : FVec Ideal S64x128 .f32) (j : Fin 64) (u : Fin 128)

theorem stageA : cntA i w (ix2 j u) = (0 + ahead (ranked i w) j u 0 + ahead (ranked i w) j u 1 + ahead (ranked i w) j u 2 + ahead (ranked i w) j u 3 + ahead (ranked i w) j u 4 + ahead (ranked i w) j u 5 : EReal) := by
  unfold cntA k0_pay13 k0_pay14
  rw [show k0_pay12 w rowNo (k0_pay8 (first i)) (k0_pay9 (first i)) (k0_pay10 (first i)) k0_pay11 = ranked i w from rfl]
  generalize ranked i w = X
  pointwise [k0_pay16, k0_pay15]
  rfl

theorem partA : cntA i w (ix2 j u) = ahead64 (ranked i w) j u 6 := by
  rw [stageA]
  rfl

theorem stageB : cntB i w (ix2 j u) = (cntA i w (ix2 j u) + ahead (ranked i w) j u 6 + ahead (ranked i w) j u 7 + ahead (ranked i w) j u 8 + ahead (ranked i w) j u 9 : EReal) := by
  unfold cntB
  generalize ranked i w = X
  generalize cntA i w = p
  pointwise [k0_pay20, k0_pay18, k0_pay19, k0_pay17]
  rfl

theorem partB : cntB i w (ix2 j u) = ahead64 (ranked i w) j u 10 := by
  rw [stageB, partA]
  rfl

theorem stageC : cntC i w (ix2 j u) = (cntB i w (ix2 j u) + ahead (ranked i w) j u 10 + ahead (ranked i w) j u 11 + ahead (ranked i w) j u 12 + ahead (ranked i w) j u 13 : EReal) := by
  unfold cntC
  generalize ranked i w = X
  generalize cntB i w = p
  pointwise [k0_pay24, k0_pay22, k0_pay23, k0_pay21]
  rfl

theorem partC : cntC i w (ix2 j u) = ahead64 (ranked i w) j u 14 := by
  rw [stageC, partB]
  rfl

theorem stageD : cntD i w (ix2 j u) = (cntC i w (ix2 j u) + ahead (ranked i w) j u 14 + ahead (ranked i w) j u 15 + ahead (ranked i w) j u 16 : EReal) := by
  unfold cntD
  generalize ranked i w = X
  generalize cntC i w = p
  pointwise [k0_pay26, k0_pay25]
  rfl

theorem partD : cntD i w (ix2 j u) = ahead64 (ranked i w) j u 17 := by
  rw [stageD, partC]
  rfl

theorem stageE : cntE i w (ix2 j u) = (cntD i w (ix2 j u) + ahead (ranked i w) j u 17 + ahead (ranked i w) j u 18 + ahead (ranked i w) j u 19 + ahead (ranked i w) j u 20 : EReal) := by
  unfold cntE
  generalize ranked i w = X
  generalize cntD i w = p
  pointwise [k0_pay29, k0_pay27, k0_pay28]
  rfl

theorem partE : cntE i w (ix2 j u) = ahead64 (ranked i w) j u 21 := by
  rw [stageE, partD]
  rfl

theorem stageF : cntF i w (ix2 j u) = (cntE i w (ix2 j u) + ahead (ranked i w) j u 21 + ahead (ranked i w) j u 22 + ahead (ranked i w) j u 23 + ahead (ranked i w) j u 24 : EReal) := by
  unfold cntF
  generalize ranked i w = X
  generalize cntE i w = p
  pointwise [k0_pay33, k0_pay31, k0_pay32, k0_pay30]
  rfl

theorem partF : cntF i w (ix2 j u) = ahead64 (ranked i w) j u 25 := by
  rw [stageF, partE]
  rfl

theorem stageG : cntG i w (ix2 j u) = (cntF i w (ix2 j u) + ahead (ranked i w) j u 25 + ahead (ranked i w) j u 26 + ahead (ranked i w) j u 27 + ahead (ranked i w) j u 28 : EReal) := by
  unfold cntG
  generalize ranked i w = X
  generalize cntF i w = p
  pointwise [k0_pay37, k0_pay35, k0_pay36, k0_pay34]
  rfl

theorem partG : cntG i w (ix2 j u) = ahead64 (ranked i w) j u 29 := by
  rw [stageG, partF]
  rfl

theorem stageH : cntH i w (ix2 j u) = (cntG i w (ix2 j u) + ahead (ranked i w) j u 29 + ahead (ranked i w) j u 30 + ahead (ranked i w) j u 31 : EReal) := by
  unfold cntH
  generalize ranked i w = X
  generalize cntG i w = p
  pointwise [k0_pay39, k0_pay38]
  rfl

theorem partH : cntH i w (ix2 j u) = ahead64 (ranked i w) j u 32 := by
  rw [stageH, partG]
  rfl

theorem stageI : cntI i w (ix2 j u) = (cntH i w (ix2 j u) + ahead (ranked i w) j u 32 + ahead (ranked i w) j u 33 + ahead (ranked i w) j u 34 + ahead (ranked i w) j u 35 : EReal) := by
  unfold cntI
  generalize ranked i w = X
  generalize cntH i w = p
  pointwise [k0_pay42, k0_pay40, k0_pay41]
  rfl

theorem partI : cntI i w (ix2 j u) = ahead64 (ranked i w) j u 36 := by
  rw [stageI, partH]
  rfl

theorem stageJ : cntJ i w (ix2 j u) = (cntI i w (ix2 j u) + ahead (ranked i w) j u 36 + ahead (ranked i w) j u 37 + ahead (ranked i w) j u 38 + ahead (ranked i w) j u 39 : EReal) := by
  unfold cntJ
  generalize ranked i w = X
  generalize cntI i w = p
  pointwise [k0_pay46, k0_pay44, k0_pay45, k0_pay43]
  rfl

theorem partJ : cntJ i w (ix2 j u) = ahead64 (ranked i w) j u 40 := by
  rw [stageJ, partI]
  rfl

theorem stageK : cntK i w (ix2 j u) = (cntJ i w (ix2 j u) + ahead (ranked i w) j u 40 + ahead (ranked i w) j u 41 + ahead (ranked i w) j u 42 + ahead (ranked i w) j u 43 : EReal) := by
  unfold cntK
  generalize ranked i w = X
  generalize cntJ i w = p
  pointwise [k0_pay50, k0_pay48, k0_pay49, k0_pay47]
  rfl

theorem partK : cntK i w (ix2 j u) = ahead64 (ranked i w) j u 44 := by
  rw [stageK, partJ]
  rfl

theorem stageL : cntL i w (ix2 j u) = (cntK i w (ix2 j u) + ahead (ranked i w) j u 44 + ahead (ranked i w) j u 45 + ahead (ranked i w) j u 46 : EReal) := by
  unfold cntL
  generalize ranked i w = X
  generalize cntK i w = p
  pointwise [k0_pay52, k0_pay51]
  rfl

theorem partL : cntL i w (ix2 j u) = ahead64 (ranked i w) j u 47 := by
  rw [stageL, partK]
  rfl

theorem stageM : cntM i w (ix2 j u) = (cntL i w (ix2 j u) + ahead (ranked i w) j u 47 + ahead (ranked i w) j u 48 + ahead (ranked i w) j u 49 + ahead (ranked i w) j u 50 : EReal) := by
  unfold cntM
  generalize ranked i w = X
  generalize cntL i w = p
  pointwise [k0_pay55, k0_pay53, k0_pay54]
  rfl

theorem partM : cntM i w (ix2 j u) = ahead64 (ranked i w) j u 51 := by
  rw [stageM, partL]
  rfl

theorem stageN : cntN i w (ix2 j u) = (cntM i w (ix2 j u) + ahead (ranked i w) j u 51 + ahead (ranked i w) j u 52 + ahead (ranked i w) j u 53 + ahead (ranked i w) j u 54 : EReal) := by
  unfold cntN
  generalize ranked i w = X
  generalize cntM i w = p
  pointwise [k0_pay59, k0_pay57, k0_pay58, k0_pay56]
  rfl

theorem partN : cntN i w (ix2 j u) = ahead64 (ranked i w) j u 55 := by
  rw [stageN, partM]
  rfl

theorem stageO : cntO i w (ix2 j u) = (cntN i w (ix2 j u) + ahead (ranked i w) j u 55 + ahead (ranked i w) j u 56 + ahead (ranked i w) j u 57 + ahead (ranked i w) j u 58 : EReal) := by
  unfold cntO
  generalize ranked i w = X
  generalize cntN i w = p
  pointwise [k0_pay63, k0_pay61, k0_pay62, k0_pay60]
  rfl

theorem partO : cntO i w (ix2 j u) = ahead64 (ranked i w) j u 59 := by
  rw [stageO, partN]
  rfl

theorem stageP : cntP i w (ix2 j u) = (cntO i w (ix2 j u) + ahead (ranked i w) j u 59 + ahead (ranked i w) j u 60 + ahead (ranked i w) j u 61 : EReal) := by
  unfold cntP
  generalize ranked i w = X
  generalize cntO i w = p
  pointwise [k0_pay65, k0_pay64]
  rfl

theorem partP : cntP i w (ix2 j u) = ahead64 (ranked i w) j u 62 := by
  rw [stageP, partO]
  rfl

theorem chosen_at : chosen i w (ix2 j u) = (if ahead64 (ranked i w) j u 64 < Ideal.ofBits .f32 0x41800000#32 then 1 else 0 : EReal) := by
  show _ = (if ahead64 (ranked i w) j u 62 + ahead (ranked i w) j u 62 + ahead (ranked i w) j u 63 < Ideal.ofBits .f32 0x41800000#32 then 1 else 0 : EReal)
  rw [← partP]
  unfold chosen
  generalize ranked i w = X
  generalize cntP i w = p
  pointwise [k0_pay68, k0_pay66, k0_pay67]
  rfl

/-- A word made of two decisions and a third word. -/
theorem word_or (P Q : Prop) [Decidable P] [Decidable Q] (c : BitVec 1) :
    IntOp.ori (BitVec.ofBool (decide P)) (IntOp.andi (BitVec.ofBool (decide Q)) c) = 1 ↔ P ∨ (Q ∧ c = 1) := by
  by_cases hP : P <;> by_cases hQ : Q <;> simp only [hP, hQ, decide_true, decide_false, true_or, false_or, true_and, false_and] <;>
    revert c <;> decide +kernel

/-- The count over all 64 blocks is the rank. -/
theorem ahead64_eq (X : FVec Ideal S64x128 .f32) : ahead64 X j u 64 = ((rank (fun k => X (ix2 k u)) j : ℕ) : EReal) := by
  classical
  have h1 : ∀ n ≤ 64, ahead64 X j u n = ∑ k ∈ Finset.range n, (if h : k < 64 then ahead X j u ⟨k, h⟩ else 0) := fun n hn => by
    induction n with
    | zero => rfl
    | succ n ih => rw [ahead64, ih (by omega), Finset.sum_range_succ]
  rw [h1 64 le_rfl, Finset.sum_range, rank_eq_sum, Nat.cast_sum]
  refine Finset.sum_congr rfl fun k _ => ?_
  rw [dif_pos k.isLt]
  have hw : IntOp.ori (BitVec.ofBool (decide ((X (ix2 j u) : EReal) < X (ix2 k u))))
      (IntOp.andi (BitVec.ofBool (decide ((X (ix2 k u) : EReal) = X (ix2 j u)))) (IntOp.cmpi .sgt (BitVec.ofNat 32 j.val) (BitVec.ofNat 32 k.val))) = 1
      ↔ goesFirst (fun k => (X (ix2 k u) : EReal)) k j := by
    have hj := j.isLt
    have hk := k.isLt
    have h2 := cmpi_sgt_ofNat_eq_one_iff (w := 32) (a := j.val) (b := k.val) (by omega) (by omega)
    unfold goesFirst
    rw [Fin.lt_def, ← h2]
    exact word_or _ _ _
  have hb : ahead X j u k = if goesFirst (fun k => (X (ix2 k u) : EReal)) k j then 1 else 0 := by
    unfold ahead
    exact (select_iff hw _ _).trans (by congr)
  rw [show (⟨k.val, k.isLt⟩ : Fin 64) = k from rfl, hb, Nat.cast_ite, Nat.cast_one, Nat.cast_zero]

theorem sixteen : Ideal.ofBits .f32 0x41800000#32 = ((16 : ℕ) : EReal) := by
  simp [Ideal.ofBits, Ideal.ieee, -EReal.coe_mul]
  norm_num
  rfl

open Classical in
/-- What the kernel keeps of block `j`: one where fewer than sixteen blocks are ranked ahead. -/
theorem chosen_eq : chosen i w (ix2 j u) = (if rank (fun k => (ranked i w (ix2 k u) : EReal)) j < 16 then 1 else 0 : EReal) := by
  rw [chosen_at, ahead64_eq, sixteen]
  refine if_congr ?_ rfl rfl
  exact EReal.natCast_lt_iff

end Cert.Nsa
-- ==== Proof.NsaWindow.lean ====
module

public import proofs.«01_k».proof.Proof.NsaBlock
public import Idealize.ShloMosaic.Lib.Pipeline.ValueKit.Tiles

/-!
# The window branch of the attention kernel

The kernel reads the 640 keys that can lie in a window of its 128 queries. For each query its quotient is the masked
softmax average over the window.
-/

@[expose] public section

set_option maxRecDepth 100000

noncomputable section

namespace Cert.Nsa

open Idealize.ShloMosaic Idealize.ShloMosaic.WordCmp Cert.KernelNsaIdeal Cert.KernelNsaIdeal.Gen

/-- The grid point with query block `n`, batch and group apart. -/
def pointAt (n : Fin 32) : grid0.Coords
  | ⟨0, _⟩ => (0 : Fin 4)
  | ⟨1, _⟩ => (0 : Fin 4)
  | ⟨2, _⟩ => n

/-- The position of query `u` of a grid point. -/
def time (i : grid0.Coords) (u : Fin 128) : Fin 4096 := ⟨128 * (i 2).val + u.val, by have h : (i 2).val < 32 := (i 2).isLt; have := u.isLt; omega⟩

/-- The first key of a grid point's band. -/
def bandStart (i : grid0.Coords) : ℕ := 128 * (i 2).val + 128 - 640

theorem off1_eq (i : grid0.Coords) : k0_off1 i = ![0, 0, bandStart i, 0] := by
  have h : ∀ n : Fin 32, k0_off1 (pointAt n) = ![0, 0, 128 * n.val + 128 - 640, 0] := by decide +kernel
  exact h (i 2)

theorem off2_eq (i : grid0.Coords) : k0_off2 i = ![0, 0, 0, bandStart i] := by
  have h : ∀ n : Fin 32, k0_off2 (pointAt n) = ![0, 0, 0, 128 * n.val + 128 - 640] := by decide +kernel
  exact h (i 2)

theorem band_word (i : grid0.Coords) :
    Scalar.maxsi (Scalar.subi (Scalar.addi (Scalar.muli (BitVec.ofNat 32 (i 2).val) 128#32) 128#32) 640#32) 0#32 = BitVec.ofNat 32 (bandStart i) := by
  have h : ∀ n : Fin 32, Scalar.maxsi (Scalar.subi (Scalar.addi (Scalar.muli (BitVec.ofNat 32 n.val) 128#32) 128#32) 640#32) 0#32
      = BitVec.ofNat 32 (128 * n.val + 128 - 640) := by decide +kernel
  exact h (i 2)

/-- Key `bandStart + k`, the band's row `k`. -/
def bandKey (i : grid0.Coords) (k : Fin 640) : Fin 4096 :=
  ⟨bandStart i + k.val, by have h : (i 2).val < 32 := (i 2).isLt; have := k.isLt; unfold bandStart; omega⟩

theorem winWord_iff (i : grid0.Coords) (k : Fin 640) (u : Fin 128) :
    winWord i k u = 1 ↔ (bandKey i k).val ≤ (time i u).val ∧ (time i u).val < (bandKey i k).val + 512 := by
  unfold winWord
  dsimp only
  rw [band_word, show (512#32 : BitVec 32) = BitVec.ofNat 32 512 from rfl, andi_sge_zero_slt_ofNat (by decide), ofBool_eq_one_iff', decide_eq_true_eq]
  have hk := k.isLt
  have hu := u.isLt
  have hn : (i 2).val < 32 := (i 2).isLt
  simp only [time, bandKey, bandStart]
  generalize (i 2).val = n at hn
  simp only [IntOp.addi, IntOp.subi, Scalar.subi, Scalar.muli, IntOp.muli, BitVec.toNat_add, BitVec.toNat_sub, BitVec.toNat_mul, BitVec.toNat_ofNat]
  omega

variable (i : grid0.Coords) (u : Fin 128) (x0 : Vec Ideal S1x128x256 .bf16) (x5 : Vec Ideal S1x1x4096x64 .bf16) (x6 : Vec Ideal S1x1x64x4096 .bf16)
  (q : Fin 4 → Fin 64 → EReal) (kw vw : Fin 4096 → Fin 64 → EReal)
  (hq : ∀ r d, x0 (ix3 (0 : Fin 1) u (feature r d)) = q r d * eighth)
  (hk : ∀ k d, x5 (ix4 (0 : Fin 1) (0 : Fin 1) k d) = kw k d) (hv : ∀ k d, x6 (ix4 (0 : Fin 1) (0 : Fin 1) d k) = vw k d)
  (qr : ∀ r d, q r d ≠ ⊤ ∧ q r d ≠ ⊥) (kr : ∀ k d, kw k d ≠ ⊤ ∧ kw k d ≠ ⊥)

include hq in
/-- The query matrix's column is the scaled query. -/
theorem query_at (r : Fin 4) (d : Fin 64) : k0_pay2 x0 (ix2 (col r u) d) = q r d * eighth := by
  rw [pay2_at, hq]

theorem band_row (k : Fin 640) (d : Fin 64) :
    View.ld x5 (Rect.unit (k0_off1 i) S1x1x640x64.size (k0_off1_inb i)) (ix4 (0 : Fin 1) (0 : Fin 1) k d) = x5 (ix4 (0 : Fin 1) (0 : Fin 1) (bandKey i k) d) := by
  refine View.ld_unit_apply_of _ _ _ _ _ _ fun a => ?_
  refine Eq.trans ?_ (congrArg (· + _) (congrFun (off1_eq i) a).symm)
  match a with
  | ⟨0, _⟩ => simp
  | ⟨1, _⟩ => simp
  | ⟨2, _⟩ => rfl
  | ⟨3, _⟩ => simp

theorem band_col (k : Fin 640) (d : Fin 64) :
    View.ld x6 (Rect.unit (k0_off2 i) S1x1x64x640.size (k0_off2_inb i)) (ix4 (0 : Fin 1) (0 : Fin 1) d k) = x6 (ix4 (0 : Fin 1) (0 : Fin 1) d (bandKey i k)) := by
  refine View.ld_unit_apply_of _ _ _ _ _ _ fun a => ?_
  refine Eq.trans ?_ (congrArg (· + _) (congrFun (off2_eq i) a).symm)
  match a with
  | ⟨0, _⟩ => simp
  | ⟨1, _⟩ => simp
  | ⟨2, _⟩ => simp
  | ⟨3, _⟩ => rfl

include hq hk in
theorem winS_eq (r : Fin 4) (k : Fin 640) :
    winS i (k0_pay2 x0) (View.ld x5 (Rect.unit (k0_off1 i) S1x1x640x64.size (k0_off1_inb i))) r u k = winScore q kw (time i u) r (bandKey i k) := by
  unfold winS winScore
  rw [add_select (winWord_iff i k u)]
  refine if_congr Iff.rfl ?_ rfl
  rw [← dot_scaled]
  refine Finset.sum_congr rfl fun d _ => ?_
  rw [band_row, hk, query_at u x0 q hq]

theorem pay4_at (p : FVec Ideal S640x512 .f32) (v : Vec Ideal S1x1x64x640 .bf16) (d : Fin 64) (c : Fin 512) :
    k0_pay4 p v (ix2 d c) = Ideal.div (∑ k : Fin 640, (v (ix4 (0 : Fin 1) (0 : Fin 1) d k) * p (ix2 k c) : EReal)) (∑ k : Fin 640, (p (ix2 k c) : EReal)) := by
  pointwise [k0_pay4]

include hq hk hv qr kr in
/-- The window branch is the average over the window. -/
theorem winOut_eq (r : Fin 4) (d : Fin 64) :
    winOut i x0 x5 x6 (ix2 d (col r u)) = average (winScore q kw (time i u) r) vw d := by
  have hp : ∀ k, k0_pay3 i x0 (View.ld x5 (Rect.unit (k0_off1 i) S1x1x640x64.size (k0_off1_inb i))) (ix2 k (col r u))
      = Ideal.exp (winScore q kw (time i u) r (bandKey i k)
        - (Finset.univ : Finset (Fin 640)).fold max ⊥ fun k => winScore q kw (time i u) r (bandKey i k)) := fun k => by
    rw [pay3_at, bot32, show winS i (k0_pay2 x0) (View.ld x5 (Rect.unit (k0_off1 i) S1x1x640x64.size (k0_off1_inb i))) r u
      = fun k => winScore q kw (time i u) r (bandKey i k) from funext fun k => winS_eq i u x0 x5 q kw hq hk r k]
  unfold winOut
  rw [pay4_at]
  refine (congrArg₂ Ideal.div (Finset.sum_congr rfl fun k _ => congrArg₂ (· * ·) ((band_col i x6 k d).trans (hv _ d)) (hp k))
    (Finset.sum_congr rfl fun k _ => hp k)).trans ?_
  have hφ : Function.Injective (bandKey i) := fun a b e => by
    have := congrArg Fin.val e
    simp only [bandKey] at this
    exact Fin.ext (by omega)
  have hn : (i 2).val < 32 := (i 2).isLt
  have hu := u.isLt
  have hout : ∀ k, (∀ j, bandKey i j ≠ k) → winScore q kw (time i u) r k = ⊥ := fun k h => by
    unfold winScore
    refine if_neg fun e => ?_
    have hk' := k.isLt
    simp only [time] at e
    have hb : bandStart i ≤ k.val := by unfold bandStart; omega
    refine h ⟨k.val - bandStart i, by unfold bandStart at hb ⊢; omega⟩ (Fin.ext ?_)
    simp only [bandKey]
    omega
  rw [max_part (bandKey i) (winScore q kw (time i u) r) hout]
  rw [sum_part (bandKey i) hφ (fun k => vw k d * Ideal.exp (winScore q kw (time i u) r k - (Finset.univ : Finset (Fin 4096)).fold max ⊥ (winScore q kw (time i u) r)))
      (fun k h => by rw [hout k h, exp_bot_sub, mul_zero]),
    sum_part (bandKey i) hφ (fun k => Ideal.exp (winScore q kw (time i u) r k - (Finset.univ : Finset (Fin 4096)).fold max ⊥ (winScore q kw (time i u) r)))
      (fun k h => by rw [hout k h, exp_bot_sub])]
  refine quotient_eq tiny_le _ (fun k => vw k d) (fun k => ?_) (k₀ := time i u) ?_
  · unfold winScore
    split
    · exact (dot_real qr (kr k) r).1
    · exact bot_ne_top
  · unfold winScore
    rw [if_pos ⟨le_rfl, by omega⟩]
    exact (dot_real qr (kr _) r).2

end Cert.Nsa
-- ==== Proof.NsaCompressed.lean ====
module

public import proofs.«01_k».proof.Proof.NsaWindow

/-!
# The compressed branch and the importance of the key blocks

The kernel's 256 compressed keys are the 255 real ones and one that is always masked. Their softmax weights, their
average, and the importance of the 64 key blocks are the plain formulas' ones.
-/

@[expose] public section

set_option maxRecDepth 100000

noncomputable section

namespace Cert.Nsa

open Idealize.ShloMosaic Idealize.ShloMosaic.WordCmp Cert.KernelNsaIdeal Cert.KernelNsaIdeal.Gen

theorem cmpWord_iff (i : grid0.Coords) (n : Fin 256) (u : Fin 128) :
    cmpWord (first i) n u = 1 ↔ n.val < 255 ∧ n.val * 16 + 31 ≤ (time i u).val := by
  have hn := n.isLt
  have hu := u.isLt
  have hi : (i 2).val < 32 := (i 2).isLt
  unfold cmpWord
  have e1 : IntOp.addi (IntOp.muli (BitVec.ofNat 32 n.val) 16#32) 31#32 = BitVec.ofNat 32 (n.val * 16 + 31) := by
    apply BitVec.eq_of_toNat_eq
    simp [IntOp.addi, IntOp.muli]
  have e2 : IntOp.addi (first i) (BitVec.ofNat 32 u.val) = BitVec.ofNat 32 (time i u).val := by
    apply BitVec.eq_of_toNat_eq
    simp [IntOp.addi, Scalar.muli, IntOp.muli, first, time]
    omega
  rw [e1, e2]
  have ht := (time i u).isLt
  have h1 := cmpi_sle_ofNat_eq_one_iff (w := 32) (a := n.val * 16 + 31) (b := (time i u).val) (by omega) (by omega)
  have h2 := cmpi_slt_ofNat_eq_one_iff (w := 32) (a := n.val) (b := 255) (by omega) (by omega)
  rw [and_comm, ← h1, ← h2]
  generalize IntOp.cmpi .sle (BitVec.ofNat 32 (n.val * 16 + 31)) (BitVec.ofNat 32 (time i u).val) = a
  generalize IntOp.cmpi .slt (BitVec.ofNat 32 n.val) (BitVec.ofNat 32 255) = b
  revert a b
  decide +kernel

/-- A last key that is masked changes neither the weights of the others, -/
theorem weight_castSucc (x : Fin 256 → EReal) (y : Fin 255 → EReal) (h : ∀ n : Fin 255, x n.castSucc = y n) (h0 : x (Fin.last 255) = ⊥) (n : Fin 255) :
    weight tiny x n.castSucc = weight tiny y n := by
  have hm : (Finset.univ : Finset (Fin 256)).fold max ⊥ x = (Finset.univ : Finset (Fin 255)).fold max ⊥ y := by
    rw [← max_part (fun n : Fin 255 => (n.castSucc : Fin 256)) x fun k hk => ?_]
    · exact congrArg (fun f => (Finset.univ : Finset (Fin 255)).fold max ⊥ f) (funext h)
    · obtain ⟨j, rfl⟩ | rfl := Fin.eq_castSucc_or_eq_last k
      · exact absurd rfl (hk j)
      · exact h0
  unfold weight
  rw [hm, h, Fin.sum_univ_castSucc, h0, exp_bot_sub, add_zero]
  simp only [h]

/-- and has itself no weight. -/
theorem weight_last (x : Fin 256 → EReal) (h0 : x (Fin.last 255) = ⊥) : weight tiny x (Fin.last 255) = 0 := by
  unfold weight
  rw [h0, exp_bot_sub, div_pos_eq (lt_max_of_lt_right tiny_pos), zero_mul]

variable (i : grid0.Coords) (u : Fin 128) (x0 : Vec Ideal S1x128x256 .bf16) (x1 : Vec Ideal S1x1x256x64 .bf16) (x2 : Vec Ideal S1x1x64x256 .bf16)
  (x8 : Vec Ideal S64x256 .bf16)
  (q : Fin 4 → Fin 64 → EReal) (kc vc ov : Fin 255 → Fin 64 → EReal)
  (hq : ∀ r d, x0 (ix3 (0 : Fin 1) u (feature r d)) = q r d * eighth)
  (hk : ∀ (n : Fin 255) d, x1 (ix4 (0 : Fin 1) (0 : Fin 1) (n.castSucc : Fin 256) d) = kc n d)
  (hv : ∀ (n : Fin 255) d, x2 (ix4 (0 : Fin 1) (0 : Fin 1) d (n.castSucc : Fin 256)) = vc n d)
  (ho : ∀ (n : Fin 255) j, x8 (ix2 j (n.castSucc : Fin 256)) = ov n j)

include hq hk in
theorem cmpS_eq (r : Fin 4) (n : Fin 255) : cmpS (first i) (k0_pay2 x0) x1 r u n.castSucc = cmpScore q kc (time i u) r n := by
  unfold cmpS cmpScore
  rw [add_select (cmpWord_iff i _ u)]
  refine if_congr ⟨fun h => h.2, fun h => ⟨n.isLt, h⟩⟩ ?_ rfl
  rw [← dot_scaled]
  refine Finset.sum_congr rfl fun d _ => ?_
  rw [hk, query_at u x0 q hq]

theorem cmpS_last (r : Fin 4) : cmpS (first i) (k0_pay2 x0) x1 r u (Fin.last 255) = ⊥ := by
  unfold cmpS
  rw [add_select (cmpWord_iff i _ u)]
  exact if_neg fun h => absurd h.1 (by simp)

include hq hk in
theorem cmpP_at (r : Fin 4) (n : Fin 255) : cmpP i x0 x1 (ix2 (n.castSucc : Fin 256) (col r u)) = cmpWeight q kc (time i u) r n := by
  unfold cmpP cmpWeight
  rw [pay5_at]
  exact weight_castSucc _ _ (cmpS_eq i u x0 x1 q kc hq hk r) (cmpS_last i u x0 x1 r) n

theorem cmpP_last (r : Fin 4) : cmpP i x0 x1 (ix2 (Fin.last 255 : Fin 256) (col r u)) = (0 : EReal) := by
  unfold cmpP
  rw [pay5_at]
  exact weight_last _ (cmpS_last i u x0 x1 r)

theorem pay6_at (p : FVec Ideal S256x512 .f32) (v : Vec Ideal S1x1x64x256 .bf16) (d : Fin 64) (c : Fin 512) :
    k0_pay6 p v (ix2 d c) = ∑ n : Fin 256, (v (ix4 (0 : Fin 1) (0 : Fin 1) d n) * p (ix2 n c) : EReal) := by
  pointwise [k0_pay6]

include hq hk hv in
/-- The compressed branch is the average over the compressed keys. -/
theorem cmpOut_eq (r : Fin 4) (d : Fin 64) :
    k0_pay6 (cmpP i x0 x1) x2 (ix2 d (col r u)) = average (cmpScore q kc (time i u) r) vc d := by
  rw [pay6_at, Fin.sum_univ_castSucc, cmpP_last, mul_zero, add_zero]
  refine Finset.sum_congr rfl fun n _ => ?_
  rw [cmpP_at i u x0 x1 q kc hq hk, hv]
  rfl

theorem pay7_at (p : FVec Ideal S256x512 .f32) (v : Vec Ideal S64x256 .bf16) (j : Fin 64) (u : Fin 128) (s : Fin 256 → EReal)
    (hs : ∀ n, s n = p (ix2 n (col 0 u)) + p (ix2 n (col 1 u)) + p (ix2 n (col 2 u)) + p (ix2 n (col 3 u))) :
    k0_pay7 p v v v (ix2 j u) = (∑ n : Fin 256, (v (ix2 j n) * s n : EReal)) + (∑ n : Fin 256, (v (ix2 j n) * (s n - s n) : EReal))
      + ∑ n : Fin 256, (v (ix2 j n) * ((s n - s n) - (s n - s n)) : EReal) := by
  obtain rfl : s = fun n => p (ix2 n (col 0 u)) + p (ix2 n (col 1 u)) + p (ix2 n (col 2 u)) + p (ix2 n (col 3 u)) := funext hs
  have h0 : (col 0 u) = ⟨u.val, by omega⟩ := Fin.ext (col0 u)
  have h1 : (col 1 u) = ⟨128 + u.val, by omega⟩ := Fin.ext (col1 u)
  have h2 : (col 2 u) = ⟨256 + u.val, by omega⟩ := Fin.ext (col2 u)
  have h3 : (col 3 u) = ⟨384 + u.val, by omega⟩ := Fin.ext (col3 u)
  rw [h0, h1, h2, h3]
  pointwise [k0_pay7]

/-- A real value less itself is zero. -/
theorem real_sub_self {a : EReal} (h : a ≠ ⊤ ∧ a ≠ ⊥) : a - a = 0 := EReal.sub_self h.1 h.2

theorem cmpWeight_real (q : Fin 4 → Fin 64 → EReal) (kc : Fin 255 → Fin 64 → EReal) (t : Fin 4096) (r : Fin 4) (n : Fin 255) :
    cmpWeight q kc t r n ≠ ⊤ ∧ cmpWeight q kc t r n ≠ ⊥ := by
  have h := weight_bounds tiny_pos (cmpScore q kc t r) n
  exact ⟨ne_top_of_le_ne_top (EReal.coe_ne_top 1) h.2, ne_bot_of_le_ne_bot (EReal.coe_ne_bot 0) h.1⟩

include hq hk ho in
/-- The kernel's importance is the plain formula's. -/
theorem importance_eq (j : Fin 64) : importance i x0 x1 x8 (ix2 j u) = importanceAt q kc ov (time i u) j := by
  unfold importance importanceAt
  rw [pay7_at (cmpP i x0 x1) x8 j u _ fun _ => rfl]
  have hl : ∀ n, (cmpP i x0 x1 (ix2 n (col 0 u)) + cmpP i x0 x1 (ix2 n (col 1 u)) + cmpP i x0 x1 (ix2 n (col 2 u)) + cmpP i x0 x1 (ix2 n (col 3 u)) : EReal)
      = if h : n.val < 255 then ∑ r, cmpWeight q kc (time i u) r ⟨n.val, h⟩ else 0 := fun n => by
    obtain ⟨m, rfl⟩ | rfl := Fin.eq_castSucc_or_eq_last n
    · rw [dif_pos (show (m.castSucc : Fin 256).val < 255 from m.isLt), Fin.sum_univ_four]
      simp only [cmpP_at i u x0 x1 q kc hq hk]
      rfl
    · rw [dif_neg (by simp)]
      simp only [cmpP_last]
      simp
  simp only [hl]
  have hz : ∀ n : Fin 256, ((if h : n.val < 255 then ∑ r, cmpWeight q kc (time i u) r ⟨n.val, h⟩ else 0 : EReal)
      - if h : n.val < 255 then ∑ r, cmpWeight q kc (time i u) r ⟨n.val, h⟩ else 0) = 0 := fun n => by
    split
    · exact real_sub_self (sum_real _ _ fun r => cmpWeight_real _ _ _ _ _)
    · simp
  simp only [hz, sub_zero, mul_zero, Finset.sum_const_zero, add_zero]
  rw [Fin.sum_univ_castSucc, dif_neg (by simp), mul_zero, add_zero]
  refine Finset.sum_congr rfl fun n _ => ?_
  rw [dif_pos (show (n.castSucc : Fin 256).val < 255 from n.isLt), ho, mul_comm]
  rfl

end Cert.Nsa
-- ==== Proof.NsaSelect.lean ====
module

public import proofs.«01_k».proof.Proof.NsaCount
public import proofs.«01_k».proof.Proof.NsaCompressed

/-!
# The blocks the kernel chooses

The scores the kernel ranks the blocks by are the plain formula's, so it keeps the same sixteen blocks.
-/

@[expose] public section

set_option maxRecDepth 100000

noncomputable section

namespace Cert.Nsa

open Idealize.ShloMosaic Idealize.ShloMosaic.WordCmp Cert.KernelNsaIdeal Cert.KernelNsaIdeal.Gen

theorem time_word (i : grid0.Coords) (u : Fin 128) : IntOp.addi (first i) (BitVec.ofNat 32 u.val) = BitVec.ofNat 32 (time i u).val := by
  have hi : (i 2).val < 32 := (i 2).isLt
  apply BitVec.eq_of_toNat_eq
  simp [IntOp.addi, Scalar.muli, IntOp.muli, first, time]
  omega

/-- The same three blocks are always chosen. -/
theorem forced_word' (j T : ℕ) (hj : j < 64) (hT : T < 64) :
    IntOp.ori (IntOp.ori (IntOp.cmpi .eq (BitVec.ofNat 32 j) 0#32) (IntOp.cmpi .eq (BitVec.ofNat 32 j) (BitVec.ofNat 32 T)))
      (IntOp.cmpi .eq (BitVec.ofNat 32 j) (IntOp.subi (BitVec.ofNat 32 T) 1#32)) = 1 ↔ j = 0 ∨ j = T ∨ j + 1 = T := by
  simp only [cmpi_eq_eq, ori_ofBool, ofBool_eq_one_iff', Bool.or_eq_true, decide_eq_true_eq]
  simp only [BitVec.toNat_eq, IntOp.subi, BitVec.toNat_sub, BitVec.toNat_ofNat]
  omega

theorem shift_word (t : ℕ) (ht : t < 4096) : IntOp.shrui .vector (BitVec.ofNat 32 t) 6#32 = BitVec.ofNat 32 (t / 64) := by
  apply BitVec.eq_of_toNat_eq
  simp [IntOp.shrui]
  omega

variable (i : grid0.Coords) (w : FVec Ideal S64x128 .f32) (u : Fin 128) (q : Fin 4 → Fin 64 → EReal) (kc ov : Fin 255 → Fin 64 → EReal)
  (hw : ∀ j, w (ix2 j u) = importanceAt q kc ov (time i u) j)

include hw in
theorem ranked_at (j : Fin 64) : ranked i w (ix2 j u) = ranking q kc ov (time i u) j := by
  unfold ranking
  rw [← hw j]
  have ht := (time i u).isLt
  pointwise [ranked, k0_pay12, k0_pay8, k0_pay9, k0_pay10, k0_pay11]
  rw [time_word, shift_word _ ht]
  refine (select_iff (forced_word' j.val ((time i u).val / 64) j.isLt (by omega)) _ _).trans ?_
  refine if_congr Iff.rfl rfl ?_
  have e : IntOp.muli (BitVec.ofNat 32 j.val) 64#32 = BitVec.ofNat 32 (j.val * 64) := muli_ofNat _ _
  rw [e]
  exact select_iff (cmpi_sle_ofNat_eq_one_iff (by omega) (by omega)) _ _

open Classical in
include hw in
/-- The kernel keeps the blocks the plain formula chooses. -/
theorem chosen_iff (j : Fin 64) : chosen i w (ix2 j u) = (if isChosen q kc ov (time i u) j then 1 else 0 : EReal) := by
  rw [chosen_eq]
  unfold isChosen
  rw [show (fun k => (ranked i w (ix2 k u) : EReal)) = ranking q kc ov (time i u) from funext fun k => ranked_at i w u q kc ov hw k]
  congr

/-- The first block is always chosen. -/
theorem first_chosen (t : Fin 4096) (h : ∀ n j, 0 ≤ ov n j ∧ ov n j ≤ 1) : isChosen q kc ov t 0 := by
  unfold isChosen
  rw [show rank (ranking q kc ov t) 0 = 0 from rank_zero (n := 63) (ranking q kc ov t) fun j => ?_]
  · decide
  have h0 : ranking q kc ov t 0 = big := if_pos (Or.inl rfl)
  rw [h0]
  unfold ranking
  split
  · exact le_rfl
  split
  · unfold importanceAt
    have hterm : ∀ n : Fin 255, (∑ r, cmpWeight q kc t r n) * ov n j ≤ ((4 : ℝ) : EReal) := fun n => by
      have h4 : (∑ r, cmpWeight q kc t r n) ≤ ((4 : ℝ) : EReal) := by
        rw [Fin.sum_univ_four]
        have hb := fun r => (weight_bounds tiny_pos (cmpScore q kc t r) n).2
        refine (add_le_add (add_le_add (add_le_add (hb 0) (hb 1)) (hb 2)) (hb 3)).trans ?_
        rw [← EReal.coe_one, ← EReal.coe_add, ← EReal.coe_add, ← EReal.coe_add]
        exact EReal.coe_le_coe_iff.mpr (by norm_num)
      have h5 : 0 ≤ (∑ r, cmpWeight q kc t r n) := Finset.sum_nonneg fun r _ => (weight_bounds tiny_pos (cmpScore q kc t r) n).1
      calc (∑ r, cmpWeight q kc t r n) * ov n j ≤ (∑ r, cmpWeight q kc t r n) * 1 := mul_le_mul_of_nonneg_left (h n j).2 h5
        _ = ∑ r, cmpWeight q kc t r n := mul_one _
        _ ≤ _ := h4
    refine (Finset.sum_le_sum fun n _ => hterm n).trans ?_
    rw [Finset.sum_const, big_eq, EReal.nsmul_eq_mul]
    simp only [Finset.card_univ, Fintype.card_fin]
    rw [← EReal.coe_natCast, ← EReal.coe_mul]
    exact EReal.coe_le_coe_iff.mpr (by norm_num)
  · rw [nbig_eq, big_eq]
    exact EReal.coe_le_coe_iff.mpr (by norm_num)

end Cert.Nsa
-- ==== Proof.NsaTiles.lean ====
module

public import proofs.«01_k».proof.Proof.NsaSelect

/-!
# The selected branch of the attention kernel

The kernel reads the keys in tiles of 1024 and keeps a running maximum, normaliser and weighted sum. After all tiles up
to the last query's key these are the ones over all keys, since a later key is masked for every query.
-/

@[expose] public section

set_option maxRecDepth 100000

noncomputable section

namespace Cert.Nsa

open Idealize.ShloMosaic Idealize.ShloMosaic.WordCmp Cert.KernelNsaIdeal Cert.KernelNsaIdeal.Gen

/-- The number of tiles of a grid point. -/
theorem trips_eq (i : grid0.Coords) : (k0_t1_loop i).trips = (128 * (i 2).val + 127) / 1024 + 1 := by
  have h : ∀ n : Fin 32, (k0_t1_loop (pointAt n)).trips = (128 * n.val + 127) / 1024 + 1 := by decide +kernel
  exact h (i 2)

theorem trips_le (i : grid0.Coords) : (k0_t1_loop i).trips ≤ 4 := by
  have h : (i 2).val < 32 := (i 2).isLt
  rw [trips_eq]
  omega

theorem tile_word (n : ℕ) (h : n < 4) : Scalar.muli (Scf.iv 0#32 1#32 n) 1024#32 = BitVec.ofNat 32 (1024 * n) := by
  interval_cases n <;> decide +kernel

variable (i : grid0.Coords) (n : Fin (k0_t1_loop i).trips)

theorem tile_start : (Scalar.indexCast (Scalar.muli (Scf.iv 0#32 1#32 n.val) 1024#32) : Index).toNat = 1024 * n.val := by
  have h : n.val < 4 := lt_of_lt_of_le n.isLt (trips_le i)
  rw [tile_word _ h]
  show (BitVec.ofNat 32 (1024 * n.val)).toNat = _
  simp
  omega

theorem off3_eq : k0_off3 i n = ![0, 0, 1024 * n.val, 0] := by
  rw [← tile_start i n]
  rfl
theorem off4_eq : k0_off4 i n = ![1024 * n.val, 0] := by
  rw [← tile_start i n]
  rfl
theorem off5_eq : k0_off5 i n = ![0, 0, 0, 1024 * n.val] := by
  rw [← tile_start i n]
  rfl

/-- Key `1024 * n + k`, tile `n`'s row `k`. -/
def tileKey (k : Fin 1024) : Fin 4096 := ⟨1024 * n.val + k.val, by
  have h : n.val < 4 := lt_of_lt_of_le n.isLt (trips_le i)
  have := k.isLt
  omega⟩

/-- The word that says whether tile row `k`'s block is chosen for query `u` and the key is not after it. -/
def selWord (sel : FVec Ideal S64x128 .bf16) (e : Vec Ideal S1024x64 .bf16) (k : Fin 1024) (u : Fin 128) : BitVec 1 :=
  IntOp.andi (BitVec.ofBool (decide (Ideal.ofBits .f32 0x3F000000#32 < ∑ j : Fin 64, (e (ix2 k j) * sel (ix2 j u) : EReal))))
    (IntOp.cmpi .sle (IntOp.addi (BitVec.ofNat 32 k.val) (Scalar.muli (Scf.iv 0#32 1#32 n.val) 1024#32)) (IntOp.addi (first i) (BitVec.ofNat 32 u.val)))

theorem named_mask : (Named.named κ "mask" 0xF149F2CA#32 : Ideal .f32) = Ideal.ofBits .f32 0xFF800000#32 := by
  rw [bot32]
  rfl

theorem pay73_at (q : FVec Ideal S512x64 .bf16) (sel : FVec Ideal S64x128 .bf16) (v : Vec Ideal S1x1x1024x64 .bf16) (e : Vec Ideal S1024x64 .bf16)
    (k : Fin 1024) (r : Fin 4) (u : Fin 128) :
    k0_pay73 i q sel tileNo (k0_pay69 (first i)) n v e (ix2 k (col r u))
      = ((∑ d : Fin 64, (v (ix4 (0 : Fin 1) (0 : Fin 1) k d) * q (ix2 (col r u) d) : EReal))
        + Scalar.select (selWord i n sel e k u) 0 (Ideal.ofBits .f32 0xFF800000#32) : EReal) := by
  have hu := u.isLt
  rw [← named_mask]
  revert r
  refine forall4 ?_ ?_ ?_ ?_
  all_goals
    pointwise [k0_pay73, k0_pay69]
    simp (disch := omega) only [col0, col1, col2, col3, dif_pos, dif_neg, sub1, sub2, sub3]
    rfl

section Step
variable (q : FVec Ideal S512x64 .bf16) (sel : FVec Ideal S64x128 .bf16) (v : Vec Ideal S1x1x1024x64 .bf16) (e : Vec Ideal S1024x64 .bf16)
  (a s : FVec Ideal S1x512 .f32) (o : FVec Ideal S64x512 .f32) (v' : Vec Ideal S1x1x64x1024 .bf16) (c : Fin 512) (d : Fin 64)
  (x : Fin 1024 → EReal) (hx : ∀ k, k0_pay73 i q sel tileNo (k0_pay69 (first i)) n v e (ix2 k c) = x k)

include hx in
theorem pay74_at : k0_pay74 i q sel tileNo (k0_pay69 (first i)) n a v e (ix2 (0 : Fin 1) c)
    = (max (a (ix2 (0 : Fin 1) c)) ((Finset.univ : Finset (Fin 1024)).fold max ⊥ x) : EReal) := by
  obtain rfl : x = fun k => k0_pay73 i q sel tileNo (k0_pay69 (first i)) n v e (ix2 k c) := funext fun k => (hx k).symm
  rw [← bot32]
  unfold k0_pay74
  generalize k0_pay73 i q sel tileNo (k0_pay69 (first i)) n v e = y
  pointwise

theorem pay77_at (m : EReal) (hm : k0_pay74 i q sel tileNo (k0_pay69 (first i)) n a v e (ix2 (0 : Fin 1) c) = m) :
    k0_pay77 i q sel tileNo (k0_pay69 (first i)) n a s v e (ix2 (0 : Fin 1) c)
    = (Ideal.exp ((a (ix2 (0 : Fin 1) c) : EReal) - m) * s (ix2 (0 : Fin 1) c)
      + ∑ k : Fin 1024, Ideal.exp (k0_pay73 i q sel tileNo (k0_pay69 (first i)) n v e (ix2 k c) - m) : EReal) := by
  subst hm
  unfold k0_pay77 k0_pay75 k0_pay76
  generalize k0_pay74 i q sel tileNo (k0_pay69 (first i)) n a v e = z
  generalize k0_pay73 i q sel tileNo (k0_pay69 (first i)) n v e = y
  pointwise

theorem pay78_at (m : EReal) (hm : k0_pay74 i q sel tileNo (k0_pay69 (first i)) n a v e (ix2 (0 : Fin 1) c) = m) :
    k0_pay78 i q sel tileNo (k0_pay69 (first i)) n a o v e v' (ix2 d c)
    = (Ideal.exp ((a (ix2 (0 : Fin 1) c) : EReal) - m) * o (ix2 d c)
      + ∑ k : Fin 1024, (v' (ix4 (0 : Fin 1) (0 : Fin 1) d k) * Ideal.exp (k0_pay73 i q sel tileNo (k0_pay69 (first i)) n v e (ix2 k c) - m) : EReal) : EReal) := by
  subst hm
  unfold k0_pay78 k0_pay75 k0_pay76
  generalize k0_pay74 i q sel tileNo (k0_pay69 (first i)) n a v e = z
  generalize k0_pay73 i q sel tileNo (k0_pay69 (first i)) n v e = y
  pointwise

end Step

theorem pay70_at (c : Fin 512) : k0_pay70 (F := Ideal) (ix2 (0 : Fin 1) c) = (⊥ : EReal) := by
  rw [← bot32, ← named_mask]
  pointwise [k0_pay70]
theorem pay71_at (c : Fin 512) : k0_pay71 (F := Ideal) (ix2 (0 : Fin 1) c) = (0 : EReal) := by
  pointwise [k0_pay71]
theorem pay72_at (d : Fin 64) (c : Fin 512) : k0_pay72 (F := Ideal) (ix2 d c) = (0 : EReal) := by
  pointwise [k0_pay72]

end Cert.Nsa
-- ==== Proof.NsaSelected.lean ====
module

public import proofs.«01_k».proof.Proof.NsaTiles

/-!
# The selected branch over all tiles

The state after `n` tiles is the maximum, normaliser and weighted sum of the first `1024 * n` keys, and the quotient
after the last tile is the masked softmax average over the keys of the chosen blocks.
-/

@[expose] public section

set_option maxRecDepth 100000

noncomputable section

namespace Cert.Nsa

open Idealize.ShloMosaic Idealize.ShloMosaic.WordCmp Cert.KernelNsaIdeal Cert.KernelNsaIdeal.Gen

/-- A finite family of values continued over the naturals. -/
def extend (x : Fin 4096 → EReal) (k : ℕ) : EReal := if h : k < 4096 then x ⟨k, h⟩ else ⊥

theorem half_lt_one : Ideal.ofBits .f32 0x3F000000#32 < 1 := by
  simp [Ideal.ofBits, Ideal.ieee, -EReal.coe_mul]
  norm_num
  exact_mod_cast (by norm_num : (1 / 2 : ℝ) < 1)

theorem half_pos : ¬ Ideal.ofBits .f32 0x3F000000#32 < 0 := by
  simp [Ideal.ofBits, Ideal.ieee, -EReal.coe_mul]

/-- A word made of a decision and a second word. -/
theorem word_and (P : Prop) [Decidable P] (c : BitVec 1) : IntOp.andi (BitVec.ofBool (decide P)) c = 1 ↔ P ∧ c = 1 := by
  by_cases hP : P <;> simp only [hP, decide_true, decide_false, true_and, false_and] <;> revert c <;> decide +kernel

open Classical in
/-- One for a chosen block, zero for any other. -/
def kept (q : Fin 4 → Fin 64 → EReal) (kc ov : Fin 255 → Fin 64 → EReal) (t : Fin 4096) (j : Fin 64) : EReal :=
  if isChosen q kc ov t j then 1 else 0

variable (i : grid0.Coords) (u : Fin 128) (x0 : Vec Ideal S1x128x256 .bf16) (x3 : Vec Ideal S1x1x4096x64 .bf16) (x4 : Vec Ideal S1x1x64x4096 .bf16)
  (x9 : Vec Ideal S4096x64 .bf16) (sel : FVec Ideal S64x128 .bf16)
  (q : Fin 4 → Fin 64 → EReal) (kc ov : Fin 255 → Fin 64 → EReal) (ks vs : Fin 4096 → Fin 64 → EReal)
  (hq : ∀ r d, x0 (ix3 (0 : Fin 1) u (feature r d)) = q r d * eighth)
  (hk : ∀ k d, x3 (ix4 (0 : Fin 1) (0 : Fin 1) k d) = ks k d) (hv : ∀ k d, x4 (ix4 (0 : Fin 1) (0 : Fin 1) d k) = vs k d)
  (he : ∀ k j, x9 (ix2 k j) = (if j = blockOf k then 1 else 0 : EReal))
  (hs : ∀ j, sel (ix2 j u) = kept q kc ov (time i u) j)

theorem tile_row (n : Fin (k0_t1_loop i).trips) (k : Fin 1024) (d : Fin 64) :
    View.ld x3 (Rect.unit (k0_off3 i n) S1x1x1024x64.size (k0_off3_inb i n)) (ix4 (0 : Fin 1) (0 : Fin 1) k d)
      = x3 (ix4 (0 : Fin 1) (0 : Fin 1) (tileKey i n k) d) := by
  refine View.ld_unit_apply_of _ _ _ _ _ _ fun a => ?_
  refine Eq.trans ?_ (congrArg (· + _) (congrFun (off3_eq i n) a).symm)
  match a with
  | ⟨0, _⟩ => simp
  | ⟨1, _⟩ => simp
  | ⟨2, _⟩ => rfl
  | ⟨3, _⟩ => simp

theorem tile_expand (n : Fin (k0_t1_loop i).trips) (k : Fin 1024) (j : Fin 64) :
    View.ld x9 (Rect.unit (k0_off4 i n) S1024x64.size (k0_off4_inb i n)) (ix2 k j) = x9 (ix2 (tileKey i n k) j) := by
  refine View.ld_unit_apply_of _ _ _ _ _ _ fun a => ?_
  refine Eq.trans ?_ (congrArg (· + _) (congrFun (off4_eq i n) a).symm)
  match a with
  | ⟨0, _⟩ => rfl
  | ⟨1, _⟩ => simp

theorem tile_col (n : Fin (k0_t1_loop i).trips) (k : Fin 1024) (d : Fin 64) :
    View.ld x4 (Rect.unit (k0_off5 i n) S1x1x64x1024.size (k0_off5_inb i n)) (ix4 (0 : Fin 1) (0 : Fin 1) d k)
      = x4 (ix4 (0 : Fin 1) (0 : Fin 1) d (tileKey i n k)) := by
  refine View.ld_unit_apply_of _ _ _ _ _ _ fun a => ?_
  refine Eq.trans ?_ (congrArg (· + _) (congrFun (off5_eq i n) a).symm)
  match a with
  | ⟨0, _⟩ => simp
  | ⟨1, _⟩ => simp
  | ⟨2, _⟩ => simp
  | ⟨3, _⟩ => rfl

include he hs in
theorem selWord_iff (n : Fin (k0_t1_loop i).trips) (k : Fin 1024) :
    selWord i n sel (View.ld x9 (Rect.unit (k0_off4 i n) S1024x64.size (k0_off4_inb i n))) k u = 1
      ↔ isChosen q kc ov (time i u) (blockOf (tileKey i n k)) ∧ (tileKey i n k).val ≤ (time i u).val := by
  classical
  unfold selWord
  have hn : n.val < 4 := lt_of_lt_of_le n.isLt (trips_le i)
  have hk' := k.isLt
  have ht := (time i u).isLt
  have hsum : (∑ j : Fin 64, (View.ld x9 (Rect.unit (k0_off4 i n) S1024x64.size (k0_off4_inb i n)) (ix2 k j) * sel (ix2 j u) : EReal))
      = kept q kc ov (time i u) (blockOf (tileKey i n k)) := by
    rw [Finset.sum_eq_single (blockOf (tileKey i n k))]
    · rw [tile_expand, he, if_pos rfl, one_mul, hs]
    · intro j _ hj
      rw [tile_expand, he, if_neg hj, zero_mul]
    · intro h
      exact absurd (Finset.mem_univ _) h
  have hhalf : (Ideal.ofBits .f32 0x3F000000#32 < ∑ j : Fin 64, (View.ld x9 (Rect.unit (k0_off4 i n) S1024x64.size (k0_off4_inb i n)) (ix2 k j) * sel (ix2 j u) : EReal))
      ↔ isChosen q kc ov (time i u) (blockOf (tileKey i n k)) := by
    rw [hsum]
    unfold kept
    split
    next h => exact iff_of_true half_lt_one h
    next h => exact iff_of_false half_pos h
  have hword : IntOp.addi (BitVec.ofNat 32 k.val) (Scalar.muli (Scf.iv 0#32 1#32 n.val) 1024#32) = BitVec.ofNat 32 (tileKey i n k).val := by
    rw [tile_word _ hn]
    apply BitVec.eq_of_toNat_eq
    simp [IntOp.addi, tileKey]
    omega
  rw [hword, time_word]
  have hkey := (tileKey i n k).isLt
  have h2 := cmpi_sle_ofNat_eq_one_iff (w := 32) (a := (tileKey i n k).val) (b := (time i u).val) (by omega) (by omega)
  rw [← h2, ← hhalf]
  generalize IntOp.cmpi .sle (BitVec.ofNat 32 (tileKey i n k).val) (BitVec.ofNat 32 (time i u).val) = c
  exact word_and _ c

/-- The selected branch's score of key `k`, over the naturals. -/
abbrev slcX (r : Fin 4) : ℕ → EReal := extend (slcScore q kc ks ov (time i u) r)
/-- The selected branch's values, over the naturals. -/
abbrev slcV (d : Fin 64) : ℕ → EReal := extend fun k => vs k d

include hq hk he hs in
theorem tile_score (n : Fin (k0_t1_loop i).trips) (r : Fin 4) (k : Fin 1024) :
    k0_pay73 i (k0_pay2 x0) sel tileNo (k0_pay69 (first i)) n (View.ld x3 (Rect.unit (k0_off3 i n) S1x1x1024x64.size (k0_off3_inb i n)))
        (View.ld x9 (Rect.unit (k0_off4 i n) S1024x64.size (k0_off4_inb i n))) (ix2 k (col r u))
      = slcX i u q kc ov ks r (1024 * n.val + k.val) := by
  classical
  rw [pay73_at, add_select (selWord_iff i u x9 sel q kc ov he hs n k)]
  unfold slcX extend
  rw [dif_pos (show 1024 * n.val + k.val < 4096 from (tileKey i n k).isLt)]
  show _ = slcScore q kc ks ov (time i u) r (tileKey i n k)
  unfold slcScore
  refine (if_congr Iff.rfl ?_ rfl).trans (by congr)
  rw [← dot_scaled]
  refine Finset.sum_congr rfl fun d _ => ?_
  rw [tile_row, hk, query_at u x0 q hq]

include hq hk hv he hs in
/-- The state after `n` tiles. -/
theorem tiles_at (n : ℕ) (hn : n ≤ (k0_t1_loop i).trips) (r : Fin 4) :
    (tiles i (k0_pay2 x0) sel x3 x4 x9 n).1 (ix2 (0 : Fin 1) (col r u)) = top (slcX i u q kc ov ks r) (1024 * n)
    ∧ (tiles i (k0_pay2 x0) sel x3 x4 x9 n).2.1 (ix2 (0 : Fin 1) (col r u)) = den (slcX i u q kc ov ks r) (top (slcX i u q kc ov ks r) (1024 * n)) (1024 * n)
    ∧ ∀ d, (tiles i (k0_pay2 x0) sel x3 x4 x9 n).2.2 (ix2 d (col r u))
      = num (slcX i u q kc ov ks r) (slcV vs d) (top (slcX i u q kc ov ks r) (1024 * n)) (1024 * n) := by
  induction n with
  | zero =>
    refine ⟨?_, ?_, fun d => ?_⟩
    · exact (pay70_at (col r u)).trans (by simp [top])
    · exact (pay71_at (col r u)).trans (by simp [den])
    · exact (pay72_at d (col r u)).trans (by simp [num])
  | succ n ih =>
    obtain ⟨h1, h2, h3⟩ := ih (by omega)
    have hlt : n < (k0_t1_loop i).trips := hn
    have h4 := trips_le i
    rw [show tiles i (k0_pay2 x0) sel x3 x4 x9 (n + 1) = tile i (k0_pay2 x0) sel x3 x4 x9 ⟨n, hlt⟩ (tiles i (k0_pay2 x0) sel x3 x4 x9 n) from dif_pos hlt]
    generalize tiles i (k0_pay2 x0) sel x3 x4 x9 n = s at h1 h2 h3
    have hx := tile_score i u x0 x3 x9 sel q kc ov ks hq hk he hs ⟨n, hlt⟩ r
    have hm := pay74_at i ⟨n, hlt⟩ (k0_pay2 x0) sel _ _ s.1 (col r u) _ hx
    rw [h1, top_add] at hm
    have hle : top (slcX i u q kc ov ks r) (1024 * n) ≤ top (slcX i u q kc ov ks r) (1024 * n + 1024) := top_mono _ (Nat.le_add_right _ _)
    rw [show 1024 * (n + 1) = 1024 * n + 1024 from rfl]
    unfold tile
    refine ⟨hm, ?_, fun d => ?_⟩
    · refine (pay77_at i ⟨n, hlt⟩ (k0_pay2 x0) sel _ _ s.1 s.2.1 (col r u) _ hm).trans ?_
      rw [h1, h2, ← den_add _ _ _ hle]
      exact congrArg _ (Finset.sum_congr rfl fun k _ => by rw [hx k])
    · refine (pay78_at i ⟨n, hlt⟩ (k0_pay2 x0) sel _ _ s.1 s.2.2 _ (col r u) d _ hm).trans ?_
      rw [h1, h3 d, ← num_add _ _ _ _ hle]
      refine congrArg _ (Finset.sum_congr rfl fun k _ => ?_)
      rw [hx k, tile_col, hv]
      congr 1
      unfold slcV extend
      rw [dif_pos (show 1024 * n + k.val < 4096 from (tileKey i ⟨n, hlt⟩ k).isLt)]
      rfl

variable (qr : ∀ r d, q r d ≠ ⊤ ∧ q r d ≠ ⊥) (kr : ∀ k d, ks k d ≠ ⊤ ∧ ks k d ≠ ⊥) (hov : ∀ n j, 0 ≤ ov n j ∧ ov n j ≤ 1)

include qr kr hov in
/-- A quotient of the sums over enough keys is the average over the keys of the chosen blocks. -/
theorem slc_quotient (r : Fin 4) (d : Fin 64) (N : ℕ) (hN : N ≤ 4096) (ht : (time i u).val < N) :
    Ideal.div (num (slcX i u q kc ov ks r) (slcV vs d) (top (slcX i u q kc ov ks r) N) N) (den (slcX i u q kc ov ks r) (top (slcX i u q kc ov ks r) N) N)
      = average (slcScore q kc ks ov (time i u) r) vs d := by
  classical
  have hφ : Function.Injective (Fin.castLE hN) := Fin.castLE_injective hN
  have hx : ∀ k : Fin N, slcX i u q kc ov ks r k.val = slcScore q kc ks ov (time i u) r (Fin.castLE hN k) := fun k => dif_pos _
  have hvv : ∀ k : Fin N, slcV vs d k.val = vs (Fin.castLE hN k) d := fun k => dif_pos _
  have hout : ∀ k, (∀ j, Fin.castLE hN j ≠ k) → slcScore q kc ks ov (time i u) r k = ⊥ := fun k h => by
    unfold slcScore
    refine if_neg fun e => ?_
    exact h ⟨k.val, lt_of_le_of_lt e.2 ht⟩ (Fin.ext rfl)
  have htop : top (slcX i u q kc ov ks r) N = (Finset.univ : Finset (Fin 4096)).fold max ⊥ (slcScore q kc ks ov (time i u) r) := by
    rw [← max_part (Fin.castLE hN) _ hout]
    have := top_add (slcX i u q kc ov ks r) 0 N
    rw [Nat.zero_add, show top (slcX i u q kc ov ks r) 0 = ⊥ by simp [top], max_eq_right bot_le] at this
    rw [← this]
    refine congrArg (fun f => (Finset.univ : Finset (Fin N)).fold max ⊥ f) (funext fun k => ?_)
    rw [Nat.zero_add, hx]
  unfold num den
  rw [htop, Finset.sum_range, Finset.sum_range]
  simp only [hx, hvv]
  rw [sum_part (Fin.castLE hN) hφ (fun k => vs k d * Ideal.exp (slcScore q kc ks ov (time i u) r k - (Finset.univ : Finset (Fin 4096)).fold max ⊥ (slcScore q kc ks ov (time i u) r)))
      (fun k h => by rw [hout k h, exp_bot_sub, mul_zero]),
    sum_part (Fin.castLE hN) hφ (fun k => Ideal.exp (slcScore q kc ks ov (time i u) r k - (Finset.univ : Finset (Fin 4096)).fold max ⊥ (slcScore q kc ks ov (time i u) r)))
      (fun k h => by rw [hout k h, exp_bot_sub])]
  refine quotient_eq tiny_le _ (fun k => vs k d) (fun k => ?_) (k₀ := 0) ?_
  · unfold slcScore
    split
    · exact (dot_real qr (kr k) r).1
    · exact bot_ne_top
  · unfold slcScore
    rw [if_pos ⟨first_chosen q kc ov (time i u) hov, Nat.zero_le _⟩]
    exact (dot_real qr (kr _) r).2

include hq hk hv he hs qr kr hov in
/-- The selected branch is the average over the keys of the chosen blocks. -/
theorem slcOut_eq (r : Fin 4) (d : Fin 64) :
    Ideal.div ((tiles i (k0_pay2 x0) sel x3 x4 x9 (k0_t1_loop i).trips).2.2 (ix2 d (col r u)))
        ((tiles i (k0_pay2 x0) sel x3 x4 x9 (k0_t1_loop i).trips).2.1 (ix2 (0 : Fin 1) (col r u)))
      = average (slcScore q kc ks ov (time i u) r) vs d := by
  obtain ⟨_, h2, h3⟩ := tiles_at i u x0 x3 x4 x9 sel q kc ov ks vs hq hk hv he hs _ le_rfl r
  rw [h2, h3 d]
  have h4 := trips_le i
  have h5 := trips_eq i
  have hu := u.isLt
  exact slc_quotient i u q kc ov ks vs qr kr hov r d _ (by omega) (by simp only [time]; omega)

end Cert.Nsa
-- ==== Proof.NsaOut.lean ====
module

public import proofs.«01_k».proof.Proof.NsaSelected

/-!
# The block the attention kernel stores

Each entry of the stored block is the gated sum of the three branches at that query, head and feature.
-/

@[expose] public section

set_option maxRecDepth 100000

noncomputable section

namespace Cert.Nsa

open Idealize.ShloMosaic Idealize.ShloMosaic.WordCmp Cert.KernelNsaIdeal Cert.KernelNsaIdeal.Gen

/-- The row of head `r`'s gate for branch `e`. -/
def gateRow (r : Fin 4) (e : Fin 3) : Fin 12 := ⟨r.val * 3 + e.val, by omega⟩

theorem feat0 (d : Fin 64) : (feature 0 d).val = d.val := by simp [feature]
theorem feat1 (d : Fin 64) : (feature 1 d).val = 64 + d.val := by simp [feature]
theorem feat2 (d : Fin 64) : (feature 2 d).val = 128 + d.val := by simp [feature]
theorem feat3 (d : Fin 64) : (feature 3 d).val = 192 + d.val := by simp [feature]

theorem dsub1 (d : ℕ) : 64 + d - 64 = d := by omega
theorem dsub2 (d : ℕ) : 128 + d - 64 - 64 = d := by omega
theorem dsub3 (d : ℕ) : 192 + d - 64 - 64 - 64 = d := by omega

theorem pay85_at (win cmp : FVec Ideal S64x512 .f32) (den : FVec Ideal S1x512 .f32) (num : FVec Ideal S64x512 .f32) (x7 : Vec Ideal S1x1x12x128 .f32)
    (u : Fin 128) (r : Fin 4) (d : Fin 64) :
    k0_pay1 (k0_pay85 win cmp den num x7) (ix3 (0 : Fin 1) u (feature r d))
      = ((x7 (ix4 (0 : Fin 1) (0 : Fin 1) (gateRow r 0) u) * cmp (ix2 d (col r u))
        + x7 (ix4 (0 : Fin 1) (0 : Fin 1) (gateRow r 1) u) * Ideal.div (num (ix2 d (col r u))) (den (ix2 (0 : Fin 1) (col r u))))
        + x7 (ix4 (0 : Fin 1) (0 : Fin 1) (gateRow r 2) u) * win (ix2 d (col r u)) : EReal) := by
  have hd := d.isLt
  have hu := u.isLt
  have e0 : col 0 u = ⟨u.val, by omega⟩ := Fin.ext (col0 u)
  have e1 : col 1 u = ⟨128 + u.val, by omega⟩ := Fin.ext (col1 u)
  have e2 : col 2 u = ⟨256 + u.val, by omega⟩ := Fin.ext (col2 u)
  have e3 : col 3 u = ⟨384 + u.val, by omega⟩ := Fin.ext (col3 u)
  revert r
  refine forall4 ?_ ?_ ?_ ?_
  all_goals
    pointwise [k0_pay1, k0_pay85]
    simp (disch := omega) only [feat0, feat1, feat2, feat3, dif_pos, dif_neg, e0, e1, e2, e3, dsub1, dsub2, dsub3, sub1, sub2, sub3]
    rfl

variable (i : grid0.Coords) (u : Fin 128) (x0 : Vec Ideal S1x128x256 .bf16) (x1 : Vec Ideal S1x1x256x64 .bf16) (x2 : Vec Ideal S1x1x64x256 .bf16)
  (x3 : Vec Ideal S1x1x4096x64 .bf16) (x4 : Vec Ideal S1x1x64x4096 .bf16) (x5 : Vec Ideal S1x1x4096x64 .bf16) (x6 : Vec Ideal S1x1x64x4096 .bf16)
  (x7 : Vec Ideal S1x1x12x128 .f32) (x8 : Vec Ideal S64x256 .bf16) (x9 : Vec Ideal S4096x64 .bf16)
  (q : Fin 4 → Fin 64 → EReal) (kc vc ov : Fin 255 → Fin 64 → EReal) (ks vs kw vw : Fin 4096 → Fin 64 → EReal) (gate : Fin 4 → Fin 3 → EReal)

/-- The stored block is the attention at its queries, given what the loaded blocks hold for query `u`. -/
theorem blockOut_eq
    (h0 : ∀ r d, x0 (ix3 (0 : Fin 1) u (feature r d)) = q r d * eighth)
    (h1 : ∀ (n : Fin 255) d, x1 (ix4 (0 : Fin 1) (0 : Fin 1) (n.castSucc : Fin 256) d) = kc n d)
    (h2 : ∀ (n : Fin 255) d, x2 (ix4 (0 : Fin 1) (0 : Fin 1) d (n.castSucc : Fin 256)) = vc n d)
    (h3 : ∀ k d, x3 (ix4 (0 : Fin 1) (0 : Fin 1) k d) = ks k d) (h4 : ∀ k d, x4 (ix4 (0 : Fin 1) (0 : Fin 1) d k) = vs k d)
    (h5 : ∀ k d, x5 (ix4 (0 : Fin 1) (0 : Fin 1) k d) = kw k d) (h6 : ∀ k d, x6 (ix4 (0 : Fin 1) (0 : Fin 1) d k) = vw k d)
    (h7 : ∀ r e, x7 (ix4 (0 : Fin 1) (0 : Fin 1) (gateRow r e) u) = gate r e)
    (h8 : ∀ (n : Fin 255) j, x8 (ix2 j (n.castSucc : Fin 256)) = ov n j)
    (h9 : ∀ k j, x9 (ix2 k j) = (if j = blockOf k then 1 else 0 : EReal))
    (qr : ∀ r d, q r d ≠ ⊤ ∧ q r d ≠ ⊥) (ksr : ∀ k d, ks k d ≠ ⊤ ∧ ks k d ≠ ⊥) (kwr : ∀ k d, kw k d ≠ ⊤ ∧ kw k d ≠ ⊥)
    (hov : ∀ n j, 0 ≤ ov n j ∧ ov n j ≤ 1) (r : Fin 4) (d : Fin 64) :
    blockOut i x0 x1 x2 x3 x4 x5 x6 x7 x8 x9 (ix3 (0 : Fin 1) u (feature r d))
      = attention q kc vc ks vs kw vw ov gate (time i u) r d := by
  classical
  have hs : ∀ j, chosen i (importance i x0 x1 x8) (ix2 j u) = kept q kc ov (time i u) j := fun j => by
    rw [chosen_iff i (importance i x0 x1 x8) u q kc ov (importance_eq i u x0 x1 x8 q kc ov h0 h1 h8) j]
    rfl
  unfold blockOut finalState attention
  rw [pay85_at, h7, h7, h7, cmpOut_eq i u x0 x1 x2 q kc vc h0 h1 h2, winOut_eq i u x0 x5 x6 q kw vw h0 h5 h6 qr kwr,
    slcOut_eq i u x0 x3 x4 x9 _ q kc ov ks vs h0 h3 h4 h9 hs qr ksr hov]

end Cert.Nsa
-- ==== Proof.NsaRef.lean ====
module

public import proofs.«01_k».proof.Proof.NsaSpec
public import proofs.«01_k».proof.Proof.Gen.ReferenceNsaIdeal.Read
public import Idealize.ShloMosaic.Lib.WordCmp

/-!
# What the reference's stages hold

Each stage of the reference attention at an index, by the formulas of `NsaSpec`.
-/

@[expose] public section

set_option maxRecDepth 100000

noncomputable section

namespace Cert.NsaRef

open Idealize.ShloMosaic Cert.Nsa Cert.ReferenceNsaIdeal Cert.ReferenceNsaIdeal.Gen Cert.ReferenceNsaIdeal.Read

variable (x0 : S4x4096x16x64.Idx → EReal) (x1 x2 : S4x255x4x64.Idx → EReal) (x3 x4 x5 x6 : S4x4096x4x64.Idx → EReal)
  (x7 : S4x4096x48.Idx → EReal)

/-- The query rows of the four heads of one group at one position. -/
def qOf (b : Fin 4) (t : Fin 4096) (g : Fin 4) (r : Fin 4) (d : Fin 64) : EReal := x0 (ix4 b t ⟨g.val * 4 + r.val, by omega⟩ d)
/-- The compressed rows of one group. -/
def cOf (x : S4x255x4x64.Idx → EReal) (b g : Fin 4) (n : Fin 255) (d : Fin 64) : EReal := x (ix4 b n g d)
/-- The rows of one group. -/
def rOf (x : S4x4096x4x64.Idx → EReal) (b g : Fin 4) (k : Fin 4096) (d : Fin 64) : EReal := x (ix4 b k g d)
/-- The overlap of compressed key `n` with block `j`. -/
def ovOf (n : Fin 255) (j : Fin 64) : EReal := val_main_v68 (F := Ideal) (ix2 n j)
/-- The gates of one position and group. -/
def gateOf (b : Fin 4) (t : Fin 4096) (g : Fin 4) (r : Fin 4) (e : Fin 3) : EReal :=
  Ideal.div 1 (1 + Ideal.exp (-(x7 (ix3 b t ⟨g.val * 12 + r.val * 3 + e.val, by omega⟩))))

variable (b : Fin 4) (t : Fin 4096) (g r : Fin 4)

theorem query (d : Fin 64) : val_main_v1 (F := Ideal) x0 (ix5 b t g r d) = qOf x0 b t g r d := by
  show _ = x0 (ix4 b t ⟨g.val * 4 + r.val, by omega⟩ d)
  pointwise [val_main_v1]

/-- Adding up from zero over the compressed keys. -/
theorem sumA (y : S4x4096x4x4x255.Idx → EReal) :
    Host.reduceAdd (F := Ideal) (φ := .f32) y (constant (F := Ideal) S_ .f32 0x00000000#32) reducesTo_S4x4096x4x4x255_S4x4096x4x4_d4 h_S_
      (ix4 b t g r) = ∑ n : Fin 255, y (ix5 b t g r n) := by
  pointwise

/-- The largest over the compressed keys. -/
theorem maxA (y : S4x4096x4x4x255.Idx → EReal) :
    Host.reduce (FloatOps.maximumf (F := Ideal) (φ := .f32)) y (constant (F := Ideal) S_ .f32 0xFF800000#32)
      reducesTo_S4x4096x4x4x255_S4x4096x4x4_d4 h_S_ (ix4 b t g r) = Finset.univ.fold max ⊥ fun n : Fin 255 => y (ix5 b t g r n) := by
  rw [Host.reduce_eq_fold_single _ _ _ _ (by decide)]
  refine congrArg₂ (fun (e : EReal) (f : Fin 255 → EReal) => Finset.univ.fold max e f) bot32 (funext fun n => congrArg y ?_)
  funext a
  match a with
  | ⟨0, _⟩ => rfl
  | ⟨1, _⟩ => rfl
  | ⟨2, _⟩ => rfl
  | ⟨3, _⟩ => rfl
  | ⟨4, _⟩ => rfl

/-- Adding up from zero over the keys. -/
theorem sumB (y : S4x4096x4x4x4096.Idx → EReal) :
    Host.reduceAdd (F := Ideal) (φ := .f32) y (constant (F := Ideal) S_ .f32 0x00000000#32) reducesTo_S4x4096x4x4x4096_S4x4096x4x4_d4 h_S_
      (ix4 b t g r) = ∑ n : Fin 4096, y (ix5 b t g r n) := by
  pointwise

/-- The largest over the keys. -/
theorem maxB (y : S4x4096x4x4x4096.Idx → EReal) :
    Host.reduce (FloatOps.maximumf (F := Ideal) (φ := .f32)) y (constant (F := Ideal) S_ .f32 0xFF800000#32)
      reducesTo_S4x4096x4x4x4096_S4x4096x4x4_d4 h_S_ (ix4 b t g r) = Finset.univ.fold max ⊥ fun n : Fin 4096 => y (ix5 b t g r n) := by
  rw [Host.reduce_eq_fold_single _ _ _ _ (by decide)]
  refine congrArg₂ (fun (e : EReal) (f : Fin 4096 → EReal) => Finset.univ.fold max e f) bot32 (funext fun n => congrArg y ?_)
  funext a
  match a with
  | ⟨0, _⟩ => rfl
  | ⟨1, _⟩ => rfl
  | ⟨2, _⟩ => rfl
  | ⟨3, _⟩ => rfl
  | ⟨4, _⟩ => rfl

/-- Adding up from zero over the gathered keys. -/
theorem sumC (y : S4x4096x4x4x1024.Idx → EReal) :
    Host.reduceAdd (F := Ideal) (φ := .f32) y (constant (F := Ideal) S_ .f32 0x00000000#32) reducesTo_S4x4096x4x4x1024_S4x4096x4x4_d4 h_S_
      (ix4 b t g r) = ∑ n : Fin 1024, y (ix5 b t g r n) := by
  pointwise

/-- The largest over the gathered keys. -/
theorem maxC (y : S4x4096x4x4x1024.Idx → EReal) :
    Host.reduce (FloatOps.maximumf (F := Ideal) (φ := .f32)) y (constant (F := Ideal) S_ .f32 0xFF800000#32)
      reducesTo_S4x4096x4x4x1024_S4x4096x4x4_d4 h_S_ (ix4 b t g r) = Finset.univ.fold max ⊥ fun n : Fin 1024 => y (ix5 b t g r n) := by
  rw [Host.reduce_eq_fold_single _ _ _ _ (by decide)]
  refine congrArg₂ (fun (e : EReal) (f : Fin 1024 → EReal) => Finset.univ.fold max e f) bot32 (funext fun n => congrArg y ?_)
  funext a
  match a with
  | ⟨0, _⟩ => rfl
  | ⟨1, _⟩ => rfl
  | ⟨2, _⟩ => rfl
  | ⟨3, _⟩ => rfl
  | ⟨4, _⟩ => rfl

/-- Replacing an infinite maximum by zero, as the reference writes it. -/
theorem safe_select (M c z : EReal) (hc : c = ⊤) (hz : z = 0) :
    Scalar.select (FloatOps.cmpf (F := Ideal) (φ := .f32) .olt (FloatOps.hostAbsf (F := Ideal) (φ := .f32) M) c) M z = safe M := by
  subst hc hz
  show Scalar.select (BitVec.ofBool (decide (max M (-M) < ⊤))) M 0 = safe M
  exact select_iff (by by_cases h : max M (-M) < ⊤ <;> simp [h]) _ _

/-- The shift of the compressed softmax. -/
theorem v32_at : val_main_v32 (F := Ideal) x0 x1 (ix5 b t g r (0 : Fin 1)) = safe (Finset.univ.fold max ⊥ fun n : Fin 255 => val_main_v26 (F := Ideal) x0 x1 (ix5 b t g r n)) := by
  have e : idx_main_v28 (ix5 b t g r (0 : Fin 1)) = ix4 b t g r := by
    funext a
    match a with
    | ⟨0, _⟩ => rfl
    | ⟨1, _⟩ => rfl
    | ⟨2, _⟩ => rfl
    | ⟨3, _⟩ => rfl
  rw [val_main_v32_apply, val_main_v31_apply, val_main_v29_apply, val_main_v28_apply, e, val_main_v30_apply, val_main_call1_v1_apply, val_main_call1_v0_apply]
  rw [safe_select _ _ _ ((val_main_cst_6_apply _).trans top32) ((val_main_cst_7_apply _).trans zero32)]
  exact congrArg safe (maxA b t g r _)

/-- The exponentials of the compressed softmax. -/
theorem v35_at (n : Fin 255) : val_main_v35 (F := Ideal) x0 x1 (ix5 b t g r n) = Ideal.exp (val_main_v26 (F := Ideal) x0 x1 (ix5 b t g r n) - safe (Finset.univ.fold max ⊥ fun n : Fin 255 => val_main_v26 (F := Ideal) x0 x1 (ix5 b t g r n))) := by
  have e : idx_main_v33 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  rw [val_main_v35_apply, val_main_v34_apply, val_main_v33_apply, e, v32_at]
  rfl

/-- The sum of the exponentials of the compressed softmax. -/
theorem v36_at : val_main_v36 (F := Ideal) x0 x1 (ix4 b t g r) = ∑ n : Fin 255, Ideal.exp (val_main_v26 (F := Ideal) x0 x1 (ix5 b t g r n) - safe (Finset.univ.fold max ⊥ fun n : Fin 255 => val_main_v26 (F := Ideal) x0 x1 (ix5 b t g r n))) := by
  refine (sumA b t g r _).trans (Finset.sum_congr rfl fun n _ => ?_)
  exact v35_at x0 x1 b t g r n

/-- The weights of the compressed softmax. -/
theorem v41_at (n : Fin 255) : val_main_v41 (F := Ideal) x0 x1 (ix5 b t g r n) = weight tiny (fun n : Fin 255 => val_main_v26 (F := Ideal) x0 x1 (ix5 b t g r n)) n := by
  have e : idx_main_v40 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  have e' : idx_main_v37 (ix5 b t g r (0 : Fin 1)) = ix4 b t g r := by
    funext a
    match a with
    | ⟨0, _⟩ => rfl
    | ⟨1, _⟩ => rfl
    | ⟨2, _⟩ => rfl
    | ⟨3, _⟩ => rfl
  rw [val_main_v41_apply, v35_at, val_main_v40_apply, e, val_main_v39_apply, val_main_v37_apply, e', v36_at, val_main_v38_apply, val_main_cst_9_apply]
  rfl

/-- The shift of the selected softmax. -/
theorem v177_at : val_main_v177 (F := Ideal) x0 x1 x3 (ix5 b t g r (0 : Fin 1)) = safe (Finset.univ.fold max ⊥ fun n : Fin 1024 => val_main_v171 (F := Ideal) x0 x1 x3 (ix5 b t g r n)) := by
  have e : idx_main_v173 (ix5 b t g r (0 : Fin 1)) = ix4 b t g r := by
    funext a
    match a with
    | ⟨0, _⟩ => rfl
    | ⟨1, _⟩ => rfl
    | ⟨2, _⟩ => rfl
    | ⟨3, _⟩ => rfl
  rw [val_main_v177_apply, val_main_v176_apply, val_main_v174_apply, val_main_v173_apply, e, val_main_v175_apply, val_main_call7_v1_apply, val_main_call7_v0_apply]
  rw [safe_select _ _ _ ((val_main_cst_39_apply _).trans top32) ((val_main_cst_40_apply _).trans zero32)]
  exact congrArg safe (maxC b t g r _)

/-- The exponentials of the selected softmax. -/
theorem v180_at (n : Fin 1024) : val_main_v180 (F := Ideal) x0 x1 x3 (ix5 b t g r n) = Ideal.exp (val_main_v171 (F := Ideal) x0 x1 x3 (ix5 b t g r n) - safe (Finset.univ.fold max ⊥ fun n : Fin 1024 => val_main_v171 (F := Ideal) x0 x1 x3 (ix5 b t g r n))) := by
  have e : idx_main_v178 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  rw [val_main_v180_apply, val_main_v179_apply, val_main_v178_apply, e, v177_at]
  rfl

/-- The sum of the exponentials of the selected softmax. -/
theorem v181_at : val_main_v181 (F := Ideal) x0 x1 x3 (ix4 b t g r) = ∑ n : Fin 1024, Ideal.exp (val_main_v171 (F := Ideal) x0 x1 x3 (ix5 b t g r n) - safe (Finset.univ.fold max ⊥ fun n : Fin 1024 => val_main_v171 (F := Ideal) x0 x1 x3 (ix5 b t g r n))) := by
  refine (sumC b t g r _).trans (Finset.sum_congr rfl fun n _ => ?_)
  exact v180_at x0 x1 x3 b t g r n

/-- The weights of the selected softmax. -/
theorem v186_at (n : Fin 1024) : val_main_v186 (F := Ideal) x0 x1 x3 (ix5 b t g r n) = weight tiny (fun n : Fin 1024 => val_main_v171 (F := Ideal) x0 x1 x3 (ix5 b t g r n)) n := by
  have e : idx_main_v185 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  have e' : idx_main_v182 (ix5 b t g r (0 : Fin 1)) = ix4 b t g r := by
    funext a
    match a with
    | ⟨0, _⟩ => rfl
    | ⟨1, _⟩ => rfl
    | ⟨2, _⟩ => rfl
    | ⟨3, _⟩ => rfl
  rw [val_main_v186_apply, v180_at, val_main_v185_apply, e, val_main_v184_apply, val_main_v182_apply, e', v181_at, val_main_v183_apply, val_main_cst_42_apply]
  rfl

/-- The shift of the window softmax. -/
theorem v209_at : val_main_v209 (F := Ideal) x0 x5 (ix5 b t g r (0 : Fin 1)) = safe (Finset.univ.fold max ⊥ fun n : Fin 4096 => val_main_v203 (F := Ideal) x0 x5 (ix5 b t g r n)) := by
  have e : idx_main_v205 (ix5 b t g r (0 : Fin 1)) = ix4 b t g r := by
    funext a
    match a with
    | ⟨0, _⟩ => rfl
    | ⟨1, _⟩ => rfl
    | ⟨2, _⟩ => rfl
    | ⟨3, _⟩ => rfl
  rw [val_main_v209_apply, val_main_v208_apply, val_main_v206_apply, val_main_v205_apply, e, val_main_v207_apply, val_main_call9_v1_apply, val_main_call9_v0_apply]
  rw [safe_select _ _ _ ((val_main_cst_48_apply _).trans top32) ((val_main_cst_49_apply _).trans zero32)]
  exact congrArg safe (maxB b t g r _)

/-- The exponentials of the window softmax. -/
theorem v212_at (n : Fin 4096) : val_main_v212 (F := Ideal) x0 x5 (ix5 b t g r n) = Ideal.exp (val_main_v203 (F := Ideal) x0 x5 (ix5 b t g r n) - safe (Finset.univ.fold max ⊥ fun n : Fin 4096 => val_main_v203 (F := Ideal) x0 x5 (ix5 b t g r n))) := by
  have e : idx_main_v210 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  rw [val_main_v212_apply, val_main_v211_apply, val_main_v210_apply, e, v209_at]
  rfl

/-- The sum of the exponentials of the window softmax. -/
theorem v213_at : val_main_v213 (F := Ideal) x0 x5 (ix4 b t g r) = ∑ n : Fin 4096, Ideal.exp (val_main_v203 (F := Ideal) x0 x5 (ix5 b t g r n) - safe (Finset.univ.fold max ⊥ fun n : Fin 4096 => val_main_v203 (F := Ideal) x0 x5 (ix5 b t g r n))) := by
  refine (sumB b t g r _).trans (Finset.sum_congr rfl fun n _ => ?_)
  exact v212_at x0 x5 b t g r n

/-- The weights of the window softmax. -/
theorem v218_at (n : Fin 4096) : val_main_v218 (F := Ideal) x0 x5 (ix5 b t g r n) = weight tiny (fun n : Fin 4096 => val_main_v203 (F := Ideal) x0 x5 (ix5 b t g r n)) n := by
  have e : idx_main_v217 (ix5 b t g r n) = ix5 b t g r (0 : Fin 1) := by
    funext a
    match a with
    | ⟨0, _⟩ => rfl
    | ⟨1, _⟩ => rfl
    | ⟨2, _⟩ => rfl
    | ⟨3, _⟩ => rfl
    | ⟨4, _⟩ => rfl
  have e' : idx_main_v214 (ix5 b t g r (0 : Fin 1)) = ix4 b t g r := by
    funext a
    match a with
    | ⟨0, _⟩ => rfl
    | ⟨1, _⟩ => rfl
    | ⟨2, _⟩ => rfl
    | ⟨3, _⟩ => rfl
  rw [val_main_v218_apply, v212_at, val_main_v217_apply, e, val_main_v216_apply, val_main_v214_apply, e', v213_at, val_main_v215_apply, val_main_cst_51_apply]
  rfl

end Cert.NsaRef
-- ==== Proof.NsaRefMask.lean ====
module

public import proofs.«01_k».proof.Proof.NsaRef

/-!
# The reference's masks, ranking and scores

Which keys each branch of the reference lets count, its ranking of the blocks and its scores.
-/

@[expose] public section

set_option maxRecDepth 100000

noncomputable section

namespace Cert.NsaRef

open Idealize.ShloMosaic Idealize.ShloMosaic.WordCmp Cert.Nsa Cert.ReferenceNsaIdeal Cert.ReferenceNsaIdeal.Gen Cert.ReferenceNsaIdeal.Read

variable (x0 : S4x4096x16x64.Idx → EReal) (x1 x2 : S4x255x4x64.Idx → EReal) (x3 x4 x5 x6 : S4x4096x4x64.Idx → EReal)
  (x7 : S4x4096x48.Idx → EReal)
variable (b : Fin 4) (t : Fin 4096) (g r : Fin 4)

/-- The scores over the compressed keys. -/
theorem v26_at (n : Fin 255) :
    val_main_v26 (F := Ideal) x0 x1 (ix5 b t g r n) = cmpScore (qOf x0 b t g) (cOf x1 b g) t r n := by
  have hq : ∀ d, val_main_v1 (F := Ideal) x0 (ix5 b t g r d) = qOf x0 b t g r d := query x0 b t g r
  unfold cmpScore dot cOf
  simp only [← hq]
  clear hq
  unfold val_main_v26 val_main_v19 val_main_v17 val_main_v16
  generalize val_main_v1 (F := Ideal) x0 = y
  pointwise [val_main_call0_v1, val_main_v25, val_main_v24, val_main_v22, val_main_v20, val_main_v15, val_main_v13,
    val_main_v11, val_main_v9, val_main_v10, val_main_c, val_main_v12, val_main_c_1, val_main_v14, val_main_c_2,
    val_main_v23, val_main_v21, val_main_v0, val_main_call0_v2, val_main_call0_v0, val_main_cst_4, val_main_v18,
    val_main_cst_3]
  have e : IntOp.subi (IntOp.addi (IntOp.muli (BitVec.ofNat 32 n.val) 16#32) 32#32) 1#32 = BitVec.ofNat 32 (n.val * 16 + 31) := by
    apply BitVec.eq_of_toNat_eq
    simp [IntOp.subi, IntOp.addi, IntOp.muli]
    omega
  rw [e]
  exact (select_iff (cmpi_sle_ofNat_eq_one_iff (by omega) (by omega)) _ _).trans (by rw [← bot32]; rfl)

/-- The block of the query. -/
theorem v72_at : val_main_v72 (F := Ideal) (ix1 t) = BitVec.ofNat 32 (t.val / 64) := by
  pointwise [val_main_v72, val_main_call3_v13, val_main_call3_v12, val_main_call3_c_0, val_main_call3_v11,
    val_main_call3_v10, val_main_call3_v9, val_main_call3_c, val_main_call3_v8, val_main_call3_v7, val_main_call3_v6,
    val_main_call3_v5, val_main_call3_v4, val_main_call3_v3, val_main_call3_v2, val_main_call3_v1, val_main_call3_v0,
    val_main_c_17, val_main_v0]
  revert t
  decide +kernel

/-- The importance of a block. -/
theorem v70_at (j : Fin 64) :
    val_main_v70 (F := Ideal) x0 x1 (ix4 b t g j) = importanceAt (qOf x0 b t g) (cOf x1 b g) ovOf t j := by
  have h : ∀ r n, val_main_v41 (F := Ideal) x0 x1 (ix5 b t g r n) = cmpWeight (qOf x0 b t g) (cOf x1 b g) t r n := fun r n =>
    (v41_at x0 x1 b t g r n).trans (congrArg (fun f => weight tiny f n) (funext fun n => v26_at x0 x1 b t g r n))
  unfold importanceAt ovOf
  simp only [← h]
  clear h
  unfold val_main_v70 val_main_v69
  generalize val_main_v41 (F := Ideal) x0 x1 = y
  generalize val_main_v68 (F := Ideal) = z
  pointwise [val_main_cst_16]

/-- The word test of the always chosen blocks: the first, the query's own and the one before it. -/
theorem forced_word (j T : ℕ) (hj : j < 64) (hT : T < 64) :
    IntOp.ori (IntOp.ori (IntOp.cmpi .eq (BitVec.ofNat 32 j) 0#32) (IntOp.cmpi .eq (BitVec.ofNat 32 j) (BitVec.ofNat 32 T)))
      (IntOp.cmpi .eq (BitVec.ofNat 32 j) (IntOp.subi (BitVec.ofNat 32 T) 1#32)) = 1 ↔ j = 0 ∨ j = T ∨ j + 1 = T := by
  simp only [cmpi_eq_eq, ori_ofBool, ofBool_eq_one_iff', Bool.or_eq_true, decide_eq_true_eq]
  simp only [BitVec.toNat_eq, IntOp.subi, BitVec.toNat_sub, BitVec.toNat_ofNat]
  omega

/-- The importance the blocks are ranked by. -/
theorem v100_at (j : Fin 64) :
    val_main_v100 (F := Ideal) x0 x1 (ix4 b t g j) = ranking (qOf x0 b t g) (cOf x1 b g) ovOf t j := by
  unfold ranking
  rw [← v70_at x0 x1 b t g j]
  have hc := v72_at t
  unfold val_main_v100 val_main_v99
  generalize val_main_v70 (F := Ideal) x0 x1 = y
  unfold val_main_call5_v1 val_main_v97 val_main_v89 val_main_v88 val_main_v87 val_main_v85 val_main_v82 val_main_v80 val_main_v79
    val_main_v73
  generalize val_main_v72 (F := Ideal) = z at hc ⊢
  pointwise [val_main_call5_v2, val_main_call5_v0, val_main_cst_22, val_main_call4_v2, val_main_call4_v0, val_main_cst_21,
    val_main_call4_v1, val_main_v98, val_main_v96, val_main_v95, val_main_v94, val_main_v93, val_main_v92, val_main_v91,
    val_main_v90, val_main_c_20, val_main_v86, val_main_v84, val_main_v83, val_main_c_19, val_main_v81, val_main_v78,
    val_main_v77, val_main_v76, val_main_v75, val_main_c_18, val_main_v74, val_main_v71, val_main_v0]
  rw [hc]
  refine (select_iff (forced_word j.val (t.val / 64) j.isLt (by omega)) _ _).trans ?_
  refine if_congr Iff.rfl rfl ?_
  have e : IntOp.muli (BitVec.ofNat 32 j.val) 64#32 = BitVec.ofNat 32 (j.val * 64) := muli_ofNat _ _
  rw [e]
  exact select_iff (cmpi_sle_ofNat_eq_one_iff (by omega) (by omega)) _ _

/-- The second operand of a sort by the first, read along the last axis. -/
theorem sort2_line (y : S4x4096x4x64.Idx → EReal) (w : S4x4096x4x64.Idx → BitVec 32) (j : S4x4096x4x64.Idx)
    (f : Fin 64 → EReal) (hf : ∀ k : Fin 64, f k = y (j.along 3 k)) (v : Fin 64 → BitVec 32) (hv : ∀ k : Fin 64, v k = w (j.along 3 k)) :
    (Host.sort2 S4x4096x4x64 3 (fun l r : EReal × BitVec 32 => FloatOps.cmpfTotal (F := Ideal) (φ := .f32) .gt l.1 r.1) y w).2 j
      = v (sortedFrom (fun i j : Fin 64 => FloatOps.cmpfTotal (F := Ideal) (φ := .f32) .gt (f i) (f j) == 1#1) (j 3)) := by
  obtain rfl : f = fun k => y (j.along 3 k) := funext hf
  obtain rfl : v = fun k => w (j.along 3 k) := funext hv
  unfold Host.sort2
  rw [dif_pos (show 3 < S4x4096x4x64.rank by decide)]
  rfl

/-- Position `k` of the line through an index. -/
theorem along_last (p k : Fin 64) : (ix4 b t g p : S4x4096x4x64.Idx).along 3 k = ix4 b t g k := by
  funext a
  match a with
  | ⟨0, _⟩ => rfl
  | ⟨1, _⟩ => rfl
  | ⟨2, _⟩ => rfl
  | ⟨3, _⟩ => rfl

/-- The indices of the sixteen largest of each line, in the order of the descending sort. -/
theorem topK_at (y : S4x4096x4x64.Idx → EReal) (p : Fin 16) :
    (Host.topK S4x4096x4x16 3 (FloatOps.cmpfTotal (F := Ideal) (φ := .f32) .gt) y sliceFits_S4x4096x4x64_S4x4096x4x16).2 (ix4 b t g p)
      = BitVec.ofNat 32 (sortedFrom (fun i j : Fin 64 =>
        FloatOps.cmpfTotal (F := Ideal) (φ := .f32) .gt (y (ix4 b t g i)) (y (ix4 b t g j)) == 1#1) (p.castLE (by decide))).val := by
  unfold Host.topK
  dsimp only
  refine (extractStridedSlice_apply _ _ _ (ix4 b t g p) (ix4 b t g (p.castLE (by decide : 16 ≤ 64))) (fun a => ?_)).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · exact sort2_line _ _ _ (fun k => y (ix4 b t g k)) (fun k => by rw [along_last]) (fun k => BitVec.ofNat 32 k.val)
      (fun k => by rw [along_last]; rfl)

/-- The block indices the reference picks: the sources of the first sixteen places of the descending sort. -/
theorem indices_at (p : Fin 16) :
    val_main_indices (F := Ideal) x0 x1 (ix4 b t g p) = BitVec.ofNat 32 (sortedFrom (fun i j : Fin 64 =>
      FloatOps.cmpfTotal (F := Ideal) (φ := .f32) .gt (ranking (qOf x0 b t g) (cOf x1 b g) ovOf t i) (ranking (qOf x0 b t g) (cOf x1 b g) ovOf t j) == 1#1)
      (p.castLE (by decide))).val := by
  simp only [← v100_at x0 x1 b t g]
  exact topK_at b t g _ p

/-- The scores of the window branch. -/
theorem v203_at (k : Fin 4096) :
    val_main_v203 (F := Ideal) x0 x5 (ix5 b t g r k) = winScore (qOf x0 b t g) (rOf x5 b g) t r k := by
  have hq : ∀ d, val_main_v1 (F := Ideal) x0 (ix5 b t g r d) = qOf x0 b t g r d := query x0 b t g r
  unfold winScore dot rOf
  simp only [← hq]
  clear hq
  unfold val_main_v203 val_main_v196 val_main_v194 val_main_v193
  generalize val_main_v1 (F := Ideal) x0 = y
  pointwise [val_main_call8_v1, val_main_v202, val_main_v201, val_main_v200, val_main_v199, val_main_c_45, val_main_v198,
    val_main_v197, val_main_c_44, val_main_v192, val_main_v191, val_main_v190, val_main_v189, val_main_v188,
    val_main_v0, val_main_call8_v2, val_main_call8_v0, val_main_cst_46, val_main_v195, val_main_cst_43]
  have hw : IntOp.andi (IntOp.cmpi .sge (IntOp.subi (BitVec.ofNat 32 t.val) (BitVec.ofNat 32 k.val)) 0#32)
      (IntOp.cmpi .slt (IntOp.subi (BitVec.ofNat 32 t.val) (BitVec.ofNat 32 k.val)) 512#32) = 1 ↔ k.val ≤ t.val ∧ t.val < k.val + 512 := by
    have h : IntOp.andi (IntOp.cmpi .sge (IntOp.subi (BitVec.ofNat 32 t.val) (BitVec.ofNat 32 k.val)) 0#32)
      (IntOp.cmpi .slt (IntOp.subi (BitVec.ofNat 32 t.val) (BitVec.ofNat 32 k.val)) 512#32) = _ := andi_sge_zero_slt_ofNat (w := 32) (k := 512) (by decide) _
    rw [h]
    simp only [ofBool_eq_one_iff', decide_eq_true_eq, IntOp.subi, BitVec.toNat_sub, BitVec.toNat_ofNat]
    omega
  refine (select_iff hw _ _).trans ?_
  rw [← bot32]
  rfl

/-- The compressed branch. -/
theorem v43_at (d : Fin 64) : val_main_v43 (F := Ideal) x0 x1 x2 (ix5 b t g r d)
    = average (cmpScore (qOf x0 b t g) (cOf x1 b g) t r) (cOf x2 b g) d := by
  have h : ∀ n, val_main_v41 (F := Ideal) x0 x1 (ix5 b t g r n) = weight tiny (cmpScore (qOf x0 b t g) (cOf x1 b g) t r) n := fun n =>
    (v41_at x0 x1 b t g r n).trans (congrArg (fun f => weight tiny f n) (funext fun n => v26_at x0 x1 b t g r n))
  unfold average cOf
  unfold cOf at h
  simp only [← h]
  clear h
  unfold val_main_v43 val_main_v42
  generalize val_main_v41 (F := Ideal) x0 x1 = y
  pointwise

end Cert.NsaRef
-- ==== Proof.NsaGather.lean ====
module

public import proofs.«01_k».proof.Proof.NsaRefMask

/-!
# The gathered keys of the selected branch

The reference gathers the keys and values of the sixteen blocks it picks and attends over those. An attention over keys
that a one-to-one map picks out is the attention over all keys, the others scored ⊥; so the gathered branch is
`slcScore`'s.
-/

@[expose] public section

set_option maxRecDepth 100000

noncomputable section

namespace Cert.Nsa

open Idealize.ShloMosaic

variable {m n : ℕ} (e : Fin m → Fin n) (x : Fin n → EReal)

/-- The largest score over the picked keys is the largest over all keys. -/
theorem fold_picked (h : ∀ k, k ∉ Set.range e → x k = ⊥) :
    (Finset.univ.fold max ⊥ fun i => x (e i)) = Finset.univ.fold max ⊥ x := by
  show (Finset.univ.sup fun i => x (e i)) = Finset.univ.sup x
  apply le_antisymm
  · exact Finset.sup_le fun i _ => Finset.le_sup (f := x) (Finset.mem_univ (e i))
  · refine Finset.sup_le fun k _ => ?_
    by_cases hk : k ∈ Set.range e
    · obtain ⟨i, rfl⟩ := hk
      exact Finset.le_sup (f := fun i => x (e i)) (Finset.mem_univ i)
    · rw [h k hk]
      exact bot_le

/-- A picked key weighs the same among the picked keys as among all. -/
theorem weight_picked (he : Function.Injective e) (h : ∀ k, k ∉ Set.range e → x k = ⊥) (i : Fin m) :
    weight tiny (fun i => x (e i)) i = weight tiny x (e i) := by
  unfold weight
  rw [fold_picked e x h]
  generalize safe (Finset.univ.fold max ⊥ x) = c
  rw [Fintype.sum_of_injective e he (fun i => Ideal.exp (x (e i) - c)) (fun k => Ideal.exp (x k - c))
    (fun k hk => by rw [h k hk, exp_bot_sub]) (fun _ => rfl)]

/-- A key scored ⊥ has no weight. -/
theorem weight_bot (k : Fin n) (h : x k = ⊥) : weight tiny x k = 0 := by
  unfold weight
  generalize safe (Finset.univ.fold max ⊥ x) = c
  rw [h, exp_bot_sub, div_pos_eq (lt_max_of_lt_right tiny_pos), zero_mul]

/-- The average over the picked keys is the average over all keys. -/
theorem average_picked (he : Function.Injective e) (h : ∀ k, k ∉ Set.range e → x k = ⊥) (v : Fin n → Fin 64 → EReal) (d : Fin 64) :
    average (fun i => x (e i)) (fun i => v (e i)) d = average x v d := by
  unfold average
  refine Fintype.sum_of_injective e he _ _ (fun k hk => ?_) (fun i => ?_)
  · rw [weight_bot x k (h k hk), mul_zero]
  · rw [weight_picked e x he h i]

end Cert.Nsa

namespace Cert.NsaRef

open Idealize.ShloMosaic Idealize.ShloMosaic.WordCmp Cert.Nsa Cert.ReferenceNsaIdeal Cert.ReferenceNsaIdeal.Gen Cert.ReferenceNsaIdeal.Read

variable (x0 : S4x4096x16x64.Idx → EReal) (x1 x2 : S4x255x4x64.Idx → EReal) (x3 x4 x5 x6 : S4x4096x4x64.Idx → EReal)
  (x7 : S4x4096x48.Idx → EReal)
variable (b : Fin 4) (t : Fin 4096) (g r : Fin 4)

/-- The block at place `p` of the descending sort. -/
def picked (p : Fin 16) : Fin 64 :=
  sortedFrom (fun i j : Fin 64 => FloatOps.cmpfTotal (F := Ideal) (φ := .f32) .gt (ranking (qOf x0 b t g) (cOf x1 b g) ovOf t i)
    (ranking (qOf x0 b t g) (cOf x1 b g) ovOf t j) == 1#1) (p.castLE (by decide))

theorem picked_word (p : Fin 16) : val_main_indices (F := Ideal) x0 x1 (ix4 b t g p) = BitVec.ofNat 32 (picked x0 x1 b t g p).val :=
  indices_at x0 x1 b t g p

/-- Key `i` of the gathered ones, among all keys. -/
def gatheredKey (i : Fin 1024) : Fin 4096 :=
  ⟨(picked x0 x1 b t g ⟨i.val / 64, by omega⟩).val * 64 + i.val % 64, by omega⟩

theorem blockOf_gathered (i : Fin 1024) : blockOf (gatheredKey x0 x1 b t g i) = picked x0 x1 b t g ⟨i.val / 64, by omega⟩ :=
  Fin.ext (by simp only [blockOf, gatheredKey]; omega)

/-- No key is gathered twice. -/
theorem gathered_injective : Function.Injective (gatheredKey x0 x1 b t g) := by
  intro i j h
  have hb : picked x0 x1 b t g ⟨i.val / 64, by omega⟩ = picked x0 x1 b t g ⟨j.val / 64, by omega⟩ := by
    rw [← blockOf_gathered, ← blockOf_gathered, h]
  have hp := congrArg Fin.val (Fin.castLE_injective _ (sortedFrom_injective _ hb))
  have hv := congrArg Fin.val h
  simp only [gatheredKey] at hv
  rw [hb] at hv
  simp only at hp
  exact Fin.ext (by omega)

/-- The picked blocks are the chosen ones. -/
theorem chosen_iff_picked (j : Fin 64) : isChosen (qOf x0 b t g) (cOf x1 b g) ovOf t j ↔ ∃ p, picked x0 x1 b t g p = j := by
  unfold isChosen picked
  rw [← among_first (by decide)]

/-- A key outside the picked blocks is scored ⊥. -/
theorem score_outside (k : Fin 4096) (h : k ∉ Set.range (gatheredKey x0 x1 b t g)) :
    slcScore (qOf x0 b t g) (cOf x1 b g) (rOf x3 b g) ovOf t r k = ⊥ := by
  refine if_neg fun hc => h ?_
  obtain ⟨p, hp⟩ := (chosen_iff_picked x0 x1 b t g _).mp hc.1
  refine ⟨⟨p.val * 64 + k.val % 64, by omega⟩, Fin.ext ?_⟩
  have e : (⟨(p.val * 64 + k.val % 64) / 64, by omega⟩ : Fin 16) = p := Fin.ext (by simp only; omega)
  have hk := congrArg Fin.val hp
  simp only [blockOf] at hk
  simp only [gatheredKey]
  rw [e, hk]
  omega

/-- The score of a gathered key: only the query's order counts. -/
theorem score_gathered (i : Fin 1024) :
    slcScore (qOf x0 b t g) (cOf x1 b g) (rOf x3 b g) ovOf t r (gatheredKey x0 x1 b t g i)
      = if (gatheredKey x0 x1 b t g i).val ≤ t.val then dot (qOf x0 b t g) (rOf x3 b g (gatheredKey x0 x1 b t g i)) r else ⊥ := by
  unfold slcScore
  have h : isChosen (qOf x0 b t g) (cOf x1 b g) ovOf t (blockOf (gatheredKey x0 x1 b t g i)) :=
    (chosen_iff_picked x0 x1 b t g _).mpr ⟨_, (blockOf_gathered x0 x1 b t g i).symm⟩
  simp only [h, true_and]

/-- What the gather reads: the row its three indices name. -/
theorem gather_at (x : S4x4x64x64x64.Idx → EReal) (w : IVec S4x4096x4x16x3 32) (p : Fin 16) (k d : Fin 64) (B G : Fin 4) (J : Fin 64)
    (h0 : w (ix5 b t g p (0 : Fin 3)) = BitVec.ofNat 32 B.val) (h1 : w (ix5 b t g p (1 : Fin 3)) = BitVec.ofNat 32 G.val)
    (h2 : w (ix5 b t g p (2 : Fin 3)) = BitVec.ofNat 32 J.val) :
    Host.gather gather_S4x4x64x64x64_S4x4096x4x16x3_S4x4096x4x16x64x64_45_012_n_n_012_4_1116464 x w (ix6 b t g p k d)
      = x (ix5 B G J k d) := by
  have c : ∀ (N : ℕ), N < 64 → (BitVec.ofNat 32 N).toInt.toNat = N := by decide
  have s : ∀ c' : Fin 3, gather_S4x4x64x64x64_S4x4096x4x16x3_S4x4096x4x16x64x64_45_012_n_n_012_4_1116464.siIdx (ix6 b t g p k d) c'
      = ix5 b t g p c' := by
    intro c'
    funext a
    refine Fin.ext ?_
    match a with
    | ⟨0, _⟩ => rfl
    | ⟨1, _⟩ => rfl
    | ⟨2, _⟩ => rfl
    | ⟨3, _⟩ => rfl
    | ⟨4, _⟩ => rfl
  unfold Host.gather
  refine congrArg x (funext fun a => Fin.ext ?_)
  match a with
  | ⟨0, _⟩ =>
    show min (w (gather_S4x4x64x64x64_S4x4096x4x16x3_S4x4096x4x16x64x64_45_012_n_n_012_4_1116464.siIdx (ix6 b t g p k d) (0 : Fin 3))).toInt.toNat 3 + 0 + 0 = B.val
    rw [s, h0, c _ (by omega)]
    omega
  | ⟨1, _⟩ =>
    show min (w (gather_S4x4x64x64x64_S4x4096x4x16x3_S4x4096x4x16x64x64_45_012_n_n_012_4_1116464.siIdx (ix6 b t g p k d) (1 : Fin 3))).toInt.toNat 3 + 0 + 0 = G.val
    rw [s, h1, c _ (by omega)]
    omega
  | ⟨2, _⟩ =>
    show min (w (gather_S4x4x64x64x64_S4x4096x4x16x3_S4x4096x4x16x64x64_45_012_n_n_012_4_1116464.siIdx (ix6 b t g p k d) (2 : Fin 3))).toInt.toNat 63 + 0 + 0 = J.val
    rw [s, h2, c _ (by omega)]
    omega
  | ⟨3, _⟩ =>
    show 0 + 0 + k.val = k.val
    omega
  | ⟨4, _⟩ =>
    show 0 + 0 + d.val = d.val
    omega

/-- A word below the number of rows is not wrapped round. -/
theorem unwrapped4 : ∀ B : Fin 4, Scalar.select (IntOp.cmpi .slt (BitVec.ofNat 32 B.val) 0#32) (IntOp.addi (BitVec.ofNat 32 B.val) 4#32) (BitVec.ofNat 32 B.val)
    = BitVec.ofNat 32 B.val := by decide

theorem unwrapped64 : ∀ J : Fin 64, Scalar.select (IntOp.cmpi .slt (BitVec.ofNat 32 J.val) 0#32) (IntOp.addi (BitVec.ofNat 32 J.val) 64#32) (BitVec.ofNat 32 J.val)
    = BitVec.ofNat 32 J.val := by decide

/-- The three indices of each gathered block of keys. -/
theorem v129_at (p : Fin 16) :
    val_main_v129 (F := Ideal) x0 x1 (ix5 b t g p (0 : Fin 3)) = BitVec.ofNat 32 b.val
      ∧ val_main_v129 (F := Ideal) x0 x1 (ix5 b t g p (1 : Fin 3)) = BitVec.ofNat 32 g.val
      ∧ val_main_v129 (F := Ideal) x0 x1 (ix5 b t g p (2 : Fin 3)) = BitVec.ofNat 32 (picked x0 x1 b t g p).val := by
  have hp := picked_word x0 x1 b t g p
  unfold val_main_v129 val_main_v128 val_main_v123 val_main_v122 val_main_v120
  generalize val_main_indices (F := Ideal) x0 x1 = y at hp ⊢
  refine ⟨?_, ?_, ?_⟩
  · pointwise [val_main_v126, val_main_v124, val_main_v113, val_main_v112, val_main_v111, val_main_c_24, val_main_v110, val_main_v109, val_main_c_23, val_main_v106, val_main_v105]
    exact unwrapped4 b
  · pointwise [val_main_v127, val_main_v125, val_main_v118, val_main_v117, val_main_v116, val_main_c_26, val_main_v115, val_main_v114, val_main_c_25, val_main_v108, val_main_v107]
    exact unwrapped4 g
  · pointwise [val_main_v121, val_main_c_28, val_main_v119, val_main_c_27]
    rw [hp]
    exact unwrapped64 _

/-- The three indices of each gathered block of values. -/
theorem v152_at (p : Fin 16) :
    val_main_v152 (F := Ideal) x0 x1 (ix5 b t g p (0 : Fin 3)) = BitVec.ofNat 32 b.val
      ∧ val_main_v152 (F := Ideal) x0 x1 (ix5 b t g p (1 : Fin 3)) = BitVec.ofNat 32 g.val
      ∧ val_main_v152 (F := Ideal) x0 x1 (ix5 b t g p (2 : Fin 3)) = BitVec.ofNat 32 (picked x0 x1 b t g p).val := by
  have hp := picked_word x0 x1 b t g p
  unfold val_main_v152 val_main_v151 val_main_v146 val_main_v145 val_main_v143
  generalize val_main_indices (F := Ideal) x0 x1 = y at hp ⊢
  refine ⟨?_, ?_, ?_⟩
  · pointwise [val_main_v149, val_main_v147, val_main_v136, val_main_v135, val_main_v134, val_main_c_30, val_main_v133, val_main_v132, val_main_c_29, val_main_v106, val_main_v105]
    exact unwrapped4 b
  · pointwise [val_main_v150, val_main_v148, val_main_v141, val_main_v140, val_main_v139, val_main_c_32, val_main_v138, val_main_v137, val_main_c_31, val_main_v108, val_main_v107]
    exact unwrapped4 g
  · pointwise [val_main_v144, val_main_c_34, val_main_v142, val_main_c_33]
    rw [hp]
    exact unwrapped64 _

/-- The keys laid out by blocks. -/
theorem v102_at (J k d : Fin 64) : val_main_v102 (F := Ideal) x3 (ix5 b g J k d) = x3 (ix4 b ⟨J.val * 64 + k.val, by omega⟩ g d) := by
  pointwise [val_main_v102, val_main_v101]

theorem v104_at (J k d : Fin 64) : val_main_v104 (F := Ideal) x4 (ix5 b g J k d) = x4 (ix4 b ⟨J.val * 64 + k.val, by omega⟩ g d) := by
  pointwise [val_main_v104, val_main_v103]

/-- Rows gathered by blocks, in one line. -/
theorem line_at {α : Type} (y : S4x4096x4x16x64x64.Idx → α) (i : Fin 1024) (d : Fin 64) :
    shapeCast S4x4096x4x1024x64 y shapeCasts_S4x4096x4x16x64x64_S4x4096x4x1024x64 (ix5 b t g i d)
      = y (ix6 b t g (⟨i.val / 64, by omega⟩ : Fin 16) (⟨i.val % 64, by omega⟩ : Fin 64) d) := by
  pointwise

/-- The gathered keys. -/
theorem v131_at (i : Fin 1024) (d : Fin 64) :
    val_main_v131 (F := Ideal) x0 x1 x3 (ix5 b t g i d) = rOf x3 b g (gatheredKey x0 x1 b t g i) d := by
  obtain ⟨h0, h1, h2⟩ := v129_at x0 x1 b t g ⟨i.val / 64, by omega⟩
  exact (line_at b t g _ i d).trans ((gather_at b t g _ _ _ _ _ b g _ h0 h1 h2).trans (v102_at x3 b g _ _ _))

/-- The gathered values. -/
theorem v154_at (i : Fin 1024) (d : Fin 64) :
    val_main_v154 (F := Ideal) x0 x1 x4 (ix5 b t g i d) = rOf x4 b g (gatheredKey x0 x1 b t g i) d := by
  obtain ⟨h0, h1, h2⟩ := v152_at x0 x1 b t g ⟨i.val / 64, by omega⟩
  exact (line_at b t g _ i d).trans ((gather_at b t g _ _ _ _ _ b g _ h0 h1 h2).trans (v104_at x4 b g _ _ _))

/-- The place of each gathered key. -/
theorem v163_at (i : Fin 1024) :
    val_main_v163 (F := Ideal) x0 x1 (ix4 b t g i) = BitVec.ofNat 32 (gatheredKey x0 x1 b t g i).val := by
  have hp := picked_word x0 x1 b t g ⟨i.val / 64, by omega⟩
  unfold val_main_v163 val_main_v162 val_main_v160 val_main_v157 val_main_v155
  generalize val_main_indices (F := Ideal) x0 x1 = y at hp ⊢
  pointwise [val_main_v161, val_main_v159, val_main_v158, val_main_v156, val_main_c_35]
  rw [hp]
  simp only [gatheredKey]
  generalize (picked x0 x1 b t g ⟨i.val / 64, by omega⟩) = J
  apply BitVec.eq_of_toNat_eq
  simp [IntOp.addi, IntOp.muli]

/-- The scores of the selected branch. -/
theorem v171_at (i : Fin 1024) :
    val_main_v171 (F := Ideal) x0 x1 x3 (ix5 b t g r i)
      = slcScore (qOf x0 b t g) (cOf x1 b g) (rOf x3 b g) ovOf t r (gatheredKey x0 x1 b t g i) := by
  have hq : ∀ d, val_main_v1 (F := Ideal) x0 (ix5 b t g r d) = qOf x0 b t g r d := query x0 b t g r
  have hk : ∀ d, val_main_v131 (F := Ideal) x0 x1 x3 (ix5 b t g i d) = rOf x3 b g (gatheredKey x0 x1 b t g i) d := v131_at x0 x1 x3 b t g i
  have hp := v163_at x0 x1 b t g i
  rw [score_gathered]
  unfold dot
  simp only [← hq, ← hk]
  clear hq hk
  unfold val_main_v171 val_main_v166 val_main_v164 val_main_call6_v1 val_main_v170 val_main_v169
  generalize val_main_v1 (F := Ideal) x0 = y
  generalize val_main_v131 (F := Ideal) x0 x1 x3 = y'
  generalize val_main_v163 (F := Ideal) x0 x1 = z at hp ⊢
  pointwise [val_main_v168, val_main_v167, val_main_v0, val_main_call6_v2, val_main_call6_v0, val_main_cst_37, val_main_v165, val_main_cst_36]
  rw [hp]
  refine (select_iff (cmpi_sle_ofNat_eq_one_iff (by omega) (by omega)) _ _).trans ?_
  rw [← bot32]
  simp only [mul_comm]
  rfl

/-- The selected branch. -/
theorem v187_at (d : Fin 64) : val_main_v187 (F := Ideal) x0 x1 x3 x4 (ix5 b t g r d)
    = average (slcScore (qOf x0 b t g) (cOf x1 b g) (rOf x3 b g) ovOf t r) (rOf x4 b g) d := by
  have hw : ∀ i, val_main_v186 (F := Ideal) x0 x1 x3 (ix5 b t g r i)
      = weight tiny (fun i => slcScore (qOf x0 b t g) (cOf x1 b g) (rOf x3 b g) ovOf t r (gatheredKey x0 x1 b t g i)) i := fun i =>
    (v186_at x0 x1 x3 b t g r i).trans (congrArg (fun f => weight tiny f i) (funext fun i => v171_at x0 x1 x3 b t g r i))
  have hv : ∀ i, val_main_v154 (F := Ideal) x0 x1 x4 (ix5 b t g i d) = rOf x4 b g (gatheredKey x0 x1 b t g i) d :=
    fun i => v154_at x0 x1 x4 b t g i d
  rw [← average_picked (gatheredKey x0 x1 b t g) _ (gathered_injective x0 x1 b t g)
    (fun k hk => score_outside x0 x1 x3 b t g r k hk)]
  unfold average
  simp only [← hw, ← hv]
  clear hw hv
  unfold val_main_v187
  generalize val_main_v186 (F := Ideal) x0 x1 x3 = y
  generalize val_main_v154 (F := Ideal) x0 x1 x4 = z
  pointwise
  exact Finset.sum_congr rfl fun _ _ => mul_comm _ _

/-- The reference's result is the attention of the query's rows, keys, values and gates. -/
theorem v232_at (d : Fin 64) :
    val_main_v232 (F := Ideal) x0 x1 x2 x3 x4 x5 x6 x7 (ix3 b t ⟨g.val * 256 + r.val * 64 + d.val, by omega⟩)
      = attention (qOf x0 b t g) (cOf x1 b g) (cOf x2 b g) (rOf x3 b g) (rOf x4 b g) (rOf x5 b g) (rOf x6 b g) ovOf
        (gateOf x7 b t g) t r d := by
  have h1 := v43_at x0 x1 x2 b t g r d
  have h2 := v187_at x0 x1 x3 x4 b t g r d
  have h3 : ∀ k, val_main_v218 (F := Ideal) x0 x5 (ix5 b t g r k) = weight tiny (winScore (qOf x0 b t g) (rOf x5 b g) t r) k := fun k =>
    (v218_at x0 x5 b t g r k).trans (congrArg (fun f => weight tiny f k) (funext fun k => v203_at x0 x5 b t g r k))
  unfold val_main_v232 val_main_v231 val_main_v230 val_main_v227 val_main_v226 val_main_v223 val_main_v220 val_main_v219
  generalize val_main_v43 (F := Ideal) x0 x1 x2 = y43 at h1 ⊢
  generalize val_main_v218 (F := Ideal) x0 x5 = y218 at h3 ⊢
  generalize val_main_v187 (F := Ideal) x0 x1 x3 x4 = y187 at h2 ⊢
  pointwise [val_main_v229, val_main_v228, val_main_v225, val_main_v224, val_main_v222, val_main_v221, val_main_v8,
    val_main_v7, val_main_v6, val_main_cst_0, val_main_v5, val_main_v4, val_main_cst, val_main_v3, val_main_v2]
  simp only [h1, h2, h3]
  rfl

end Cert.NsaRef
-- ==== Proof.NsaHost.lean ====
module

public import proofs.«01_k».proof.Proof.NsaOut
public import proofs.«01_k».proof.Proof.NsaGather

/-!
# The arrays the host prepares for the attention kernel

The scaled queries, the keys and values with the key/value head first, the gates, the table of shared keys and the
table of each key's block: what each holds at an index.
-/

@[expose] public section

set_option maxRecDepth 100000

noncomputable section

namespace Cert.Nsa

open Idealize.ShloMosaic Idealize.ShloMosaic.WordCmp Cert.KernelNsaIdeal Cert.KernelNsaIdeal.Gen

/-- Feature `d` of head `r` of group `g`, among all the features. -/
def allFeature (g r : Fin 4) (d : Fin 64) : Fin 1024 := ⟨g.val * 256 + r.val * 64 + d.val, by omega⟩

/-- Head `r` of group `g`. -/
def headOf (g r : Fin 4) : Fin 16 := ⟨g.val * 4 + r.val, by omega⟩

/-- The queries, scaled and laid out by features. -/
def hostQuery (x : Vec Ideal S4x4096x16x64 .f32) : Vec Ideal S4x4096x1024 .bf16 :=
  shapeCast S4x4096x1024 (truncf (F := Ideal) .bf16
    (mulf x (broadcastInDim S4x4096x16x64 ![] bcast_S_S4x4096x16x64 (constant (F := Ideal) S_ .f32 0x3E000000#32))) bitsLt_bf16_f32)
    shapeCasts_S4x4096x16x64_S4x4096x1024

theorem head_index (g r : Fin 4) (d : Fin 64) : (allFeature g r d).val / 64 = g.val * 4 + r.val := by
  have := d.isLt; simp only [allFeature]; omega

theorem feature_index (g r : Fin 4) (d : Fin 64) : (allFeature g r d).val % 64 = d.val := by
  have := d.isLt; simp only [allFeature]; omega

theorem hostQuery_at (x : Vec Ideal S4x4096x16x64 .f32) (b : Fin 4) (t : Fin 4096) (g r : Fin 4) (d : Fin 64) :
    hostQuery x (ix3 b t (allFeature g r d)) = (x (ix4 b t (headOf g r) d) * eighth : EReal) := by
  pointwise [hostQuery]
  have e1 : (⟨(allFeature g r d).val / 64, by have := (allFeature g r d).isLt; omega⟩ : Fin 16) = headOf g r := Fin.ext (head_index g r d)
  have e2 : (⟨(allFeature g r d).val % 64, by omega⟩ : Fin 64) = d := Fin.ext (feature_index g r d)
  exact congrArg₂ (fun p w => (x (ix4 b t p w) * eighth : EReal)) e1 e2

/-- The compressed keys and values with a row of zeros after them. -/
def padded (x : Vec Ideal S4x255x4x64 .f32) : Vec Ideal S4x256x4x64 .bf16 :=
  pad (s := S4x255x4x64) S4x256x4x64 ![0, 0, 0, 0] ![0, 1, 0, 0] ![0, 0, 0, 0] (truncf (F := Ideal) .bf16 x bitsLt_bf16_f32)
    (sitofp (F := Ideal) .bf16 (constantI S_ 32 0#32)) pads_S4x255x4x64_S4x256x4x64_000_010_000_000 h_S_

/-- The compressed keys, the key/value head first. -/
def hostCmpKeys (x : Vec Ideal S4x255x4x64 .f32) : Vec Ideal S4x4x256x64 .bf16 :=
  transpose S4x4x256x64 [0, 2, 1, 3] (padded x) transposes_S4x256x4x64_S4x4x256x64_0_2_1_3

theorem hostCmpKeys_at (x : Vec Ideal S4x255x4x64 .f32) (b g : Fin 4) (n : Fin 255) (d : Fin 64) :
    hostCmpKeys x (ix4 b g (n.castSucc : Fin 256) d) = (x (ix4 b n g d) : EReal) := by
  have hn : (n.castSucc : Fin 256).val < 255 := n.isLt
  pointwise [hostCmpKeys, padded]
  rw [dif_pos hn]
  rfl

/-- The compressed values, the key/value head first and the keys along the lanes. -/
def hostCmpVals (x : Vec Ideal S4x255x4x64 .f32) : Vec Ideal S4x4x64x256 .bf16 :=
  transpose S4x4x64x256 [0, 2, 3, 1] (padded x) transposes_S4x256x4x64_S4x4x64x256_0_2_3_1

theorem hostCmpVals_at (x : Vec Ideal S4x255x4x64 .f32) (b g : Fin 4) (n : Fin 255) (d : Fin 64) :
    hostCmpVals x (ix4 b g d (n.castSucc : Fin 256)) = (x (ix4 b n g d) : EReal) := by
  have hn : (n.castSucc : Fin 256).val < 255 := n.isLt
  pointwise [hostCmpVals, padded]
  rw [dif_pos hn]
  rfl

/-- Keys, the key/value head first. -/
def hostKeys (x : Vec Ideal S4x4096x4x64 .f32) : Vec Ideal S4x4x4096x64 .bf16 :=
  transpose S4x4x4096x64 [0, 2, 1, 3] (truncf (F := Ideal) .bf16 x bitsLt_bf16_f32) transposes_S4x4096x4x64_S4x4x4096x64_0_2_1_3

theorem hostKeys_at (x : Vec Ideal S4x4096x4x64 .f32) (b g : Fin 4) (k : Fin 4096) (d : Fin 64) :
    hostKeys x (ix4 b g k d) = (x (ix4 b k g d) : EReal) := by
  pointwise [hostKeys]

/-- Values, the key/value head first and the keys along the lanes. -/
def hostVals (x : Vec Ideal S4x4096x4x64 .f32) : Vec Ideal S4x4x64x4096 .bf16 :=
  transpose S4x4x64x4096 [0, 2, 3, 1] (truncf (F := Ideal) .bf16 x bitsLt_bf16_f32) transposes_S4x4096x4x64_S4x4x64x4096_0_2_3_1

theorem hostVals_at (x : Vec Ideal S4x4096x4x64 .f32) (b g : Fin 4) (k : Fin 4096) (d : Fin 64) :
    hostVals x (ix4 b g d k) = (x (ix4 b k g d) : EReal) := by
  pointwise [hostVals]

/-- The gates: the logistic function of the logits, the key/value head first and the queries along the lanes. -/
def hostGate (x : Vec Ideal S4x4096x48 .f32) : Vec Ideal S4x4x12x4096 .f32 :=
  transpose S4x4x12x4096 [0, 2, 3, 1]
    (shapeCast S4x4096x4x12
      (Host.divf (broadcastInDim S4x4096x48 ![] bcast_S_S4x4096x48 (constant (F := Ideal) S_ .f32 0x3F800000#32))
        (addf (broadcastInDim S4x4096x48 ![] bcast_S_S4x4096x48 (constant (F := Ideal) S_ .f32 0x3F800000#32)) (Host.exp (Host.negf x))))
      shapeCasts_S4x4096x48_S4x4096x4x12)
    transposes_S4x4096x4x12_S4x4x12x4096_0_2_3_1

/-- The place of a gate's logit. -/
def gatePlace (g r : Fin 4) (e : Fin 3) : Fin 48 := ⟨g.val * 12 + r.val * 3 + e.val, by omega⟩

theorem hostGate_at (x : Vec Ideal S4x4096x48 .f32) (b g : Fin 4) (t : Fin 4096) (r : Fin 4) (e : Fin 3) :
    hostGate x (ix4 b g (gateRow r e) t) = Ideal.div 1 (1 + Ideal.exp (-(x (ix3 b t (gatePlace g r e)) : EReal))) := by
  have hp : ∀ h, (⟨g.val * 12 + (gateRow r e).val, h⟩ : Fin 48) = gatePlace g r e := fun h => Fin.ext (by simp only [gatePlace, gateRow]; omega)
  pointwise [hostGate]
  rw [hp]

/-- The block of each key, in words. -/
def hostBlock : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

theorem hostBlock_at (k : Fin 4096) : hostBlock (ix1 k) = BitVec.ofNat 32 (k.val / 64) := by
  pointwise [hostBlock]
  revert k
  decide +kernel

/-- The table that spreads blocks over their keys. -/
def hostSpread : Vec Ideal S4096x64 .bf16 :=
  uitofp (F := Ideal) .bf16 (cmpi .eq
    (broadcastInDim S4096x64 ![0, 1] bcast_S4096x1_S4096x64_0_1 (broadcastInDim S4096x1 ![0] bcast_S4096_S4096x1_0 hostBlock))
    (broadcastInDim S4096x64 ![0, 1] bcast_S1x64_S4096x64_0_1 (broadcastInDim S1x64 ![1] bcast_S64_S1x64_1 (iotaInDim S64 32 0))))

theorem hostSpread_at (k : Fin 4096) (j : Fin 64) : hostSpread (ix2 k j) = (if j = blockOf k then 1 else 0 : EReal) := by
  have hb := hostBlock_at k
  unfold hostSpread
  generalize hostBlock = y at hb ⊢
  pointwise
  rw [hb]
  have hk : k.val / 64 < 64 := by omega
  by_cases h : j = blockOf k
  · have e : j.val = k.val / 64 := congrArg Fin.val h
    rw [if_pos h, e, show IntOp.cmpi .eq (BitVec.ofNat 32 (k.val / 64)) (BitVec.ofNat 32 (k.val / 64)) = 1#1 from by simp [IntOp.cmpi]]
    show (((((1#1 : BitVec 1).toNat : ℝ)) : EReal)) = 1
    simp
  · have e : k.val / 64 ≠ j.val := fun h' => h (Fin.ext h'.symm)
    have e' : BitVec.ofNat 32 (k.val / 64) ≠ BitVec.ofNat 32 j.val := fun h' => e (by
      have := congrArg BitVec.toNat h'
      simp only [BitVec.toNat_ofNat] at this
      omega)
    rw [if_neg h, show IntOp.cmpi .eq (BitVec.ofNat 32 (k.val / 64)) (BitVec.ofNat 32 j.val) = 0#1 from by
      show BitVec.ofBool (_ == _) = _; rw [beq_false_of_ne e']; rfl]
    show (((((0#1 : BitVec 1).toNat : ℝ)) : EReal)) = 0
    simp

/-- The word of the keys a compressed key shares with a block. -/
def sharedWord (n j : ℕ) : BitVec 32 :=
  IntOp.maxsi 0#32 (IntOp.subi
    (IntOp.minsi (IntOp.addi (IntOp.muli (BitVec.ofNat 32 n) 16#32) 32#32) (IntOp.addi (IntOp.muli (BitVec.ofNat 32 j) 64#32) 64#32))
    (IntOp.maxsi (IntOp.muli (BitVec.ofNat 32 n) 16#32) (IntOp.muli (BitVec.ofNat 32 j) 64#32)))

theorem sharedWord_le : ∀ (n : Fin 255) (j : Fin 64), 0 ≤ (sharedWord n.val j.val).toInt ∧ (sharedWord n.val j.val).toInt ≤ 32 := by
  decide +kernel

/-- The share of a compressed key that lies in a block. -/
def share (n : Fin 255) (j : Fin 64) : EReal :=
  Ideal.div (((sharedWord n.val j.val).toInt : ℝ) : EReal) (Ideal.ofBits .f32 0x42000000#32)

theorem share_le (n : Fin 255) (j : Fin 64) : 0 ≤ share n j ∧ share n j ≤ 1 := by
  obtain ⟨h0, h1⟩ := sharedWord_le n j
  unfold share
  generalize (sharedWord n.val j.val).toInt = z at h0 h1 ⊢
  have h32 : Ideal.ofBits .f32 0x42000000#32 = ((32 : ℝ) : EReal) := by
    simp [Ideal.ofBits, Ideal.ieee, -EReal.coe_mul]
    norm_num
  have hne : ((32 : ℝ) : EReal) ≠ 0 := by exact_mod_cast (by norm_num : (32 : ℝ) ≠ 0)
  have e : Ideal.div ((z : ℝ) : EReal) ((32 : ℝ) : EReal) = (((z : ℝ) / 32 : ℝ) : EReal) := by
    unfold Ideal.div
    rw [if_neg hne, ← EReal.coe_inv, ← EReal.coe_mul, div_eq_mul_inv]
  have g0 : (0 : ℝ) ≤ (z : ℝ) := by exact_mod_cast h0
  have g1 : (z : ℝ) ≤ 32 := by exact_mod_cast h1
  rw [h32, e]
  constructor
  · exact EReal.coe_nonneg.2 (div_nonneg g0 (by norm_num))
  · have := (div_le_one (by norm_num : (0 : ℝ) < 32)).2 g1
    exact_mod_cast this

/-- The table of shares. -/
def hostShared : IVec S255x64 32 :=
  maxsi (broadcastInDim S255x64 ![] bcast_S_S255x64 (constantI S_ 32 0#32))
    (subi
      (minsi
        (broadcastInDim S255x64 ![0, 1] bcast_S255x1_S255x64_0_1
          (addi (broadcastInDim S255x1 ![0] bcast_S255_S255x1_0 (muli (iotaInDim S255 32 0) (broadcastInDim S255 ![] bcast_S_S255 (constantI S_ 32 16#32))))
            (broadcastInDim S255x1 ![] bcast_S_S255x1 (constantI S_ 32 32#32))))
        (broadcastInDim S255x64 ![0, 1] bcast_S1x64_S255x64_0_1
          (addi (broadcastInDim S1x64 ![1] bcast_S64_S1x64_1 (muli (iotaInDim S64 32 0) (broadcastInDim S64 ![] bcast_S_S64 (constantI S_ 32 64#32))))
            (broadcastInDim S1x64 ![] bcast_S_S1x64 (constantI S_ 32 64#32)))))
      (maxsi
        (broadcastInDim S255x64 ![0, 1] bcast_S255x1_S255x64_0_1
          (broadcastInDim S255x1 ![0] bcast_S255_S255x1_0 (muli (iotaInDim S255 32 0) (broadcastInDim S255 ![] bcast_S_S255 (constantI S_ 32 16#32)))))
        (broadcastInDim S255x64 ![0, 1] bcast_S1x64_S255x64_0_1
          (broadcastInDim S1x64 ![1] bcast_S64_S1x64_1 (muli (iotaInDim S64 32 0) (broadcastInDim S64 ![] bcast_S_S64 (constantI S_ 32 64#32)))))))

theorem hostShared_at (n : Fin 255) (j : Fin 64) : hostShared (ix2 n j) = sharedWord n.val j.val := by
  unfold sharedWord
  pointwise [hostShared]

/-- The table of shares, the blocks first and a column of zeros after the compressed keys. -/
def hostShares : Vec Ideal S64x256 .bf16 :=
  truncf (F := Ideal) .bf16 (pad (s := S64x255) S64x256 ![0, 0] ![0, 1] ![0, 0]
    (transpose S64x255 [1, 0] (Host.divf (sitofp (F := Ideal) .f32 hostShared) (broadcastInDim S255x64 ![] bcast_S_S255x64 (constant (F := Ideal) S_ .f32 0x42000000#32)))
      transposes_S255x64_S64x255_1_0)
    (sitofp (F := Ideal) .f32 (constantI S_ 32 0#32)) pads_S64x255_S64x256_000_010 h_S_ : FVec Ideal S64x256 .f32) bitsLt_bf16_f32

theorem hostShares_at (n : Fin 255) (j : Fin 64) : hostShares (ix2 j (n.castSucc : Fin 256)) = share n j := by
  have hn : (n.castSucc : Fin 256).val < 255 := n.isLt
  have hs := hostShared_at n j
  unfold hostShares share
  generalize hostShared = y at hs ⊢
  pointwise
  rw [dif_pos hn, ← hs]
  rfl

open Cert.ReferenceNsaIdeal.Read in
/-- The reference's table holds the same shares. -/
theorem refShares_at (n : Fin 255) (j : Fin 64) : Cert.NsaRef.ovOf n j = share n j := by
  unfold Cert.NsaRef.ovOf share sharedWord
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_c_10, val_main_c_11, val_main_c_12, val_main_c_13, val_main_c_14, val_main_cst_15, val_main_call2_v0, val_main_call2_v1]
  rfl

end Cert.Nsa

end
-- ==== Proof.NsaEntry.lean ====
module

public import proofs.«01_k».proof.Proof.NsaHost
public import proofs.«01_k».proof.Proof.NsaRun
public import proofs.«01_k».proof.Proof.Gen.KernelNsaIdeal.Value

/-!
# What each grid point of the attention kernel reads

The arrays the region finds, and the block of each that a point reads.
-/

@[expose] public section

set_option maxRecDepth 100000

noncomputable section

namespace Cert.Nsa

open Idealize.ShloMosaic Idealize.ShloMosaic.TcCoe Idealize.SL.Sem Cert.KernelNsaIdeal Cert.KernelNsaIdeal.Gen

variable (m : (ℓ : Loc nD τ sig) → Buf (Elt Ideal) ℓ)

/-! ## The arrays the host prepared -/

theorem query_entry (c : Dev nD) : (V m c main_v36 : S4x4096x1024.Idx → EReal) = hostQuery (m ((c : Thread nD τ).loc main_arg0)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem cmpKeys_entry (c : Dev nD) : (V m c main_v51 : S4x4x256x64.Idx → EReal) = hostCmpKeys (m ((c : Thread nD τ).loc main_arg1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem cmpVals_entry (c : Dev nD) : (V m c main_v54 : S4x4x64x256.Idx → EReal) = hostCmpVals (m ((c : Thread nD τ).loc main_arg2)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem slcKeys_entry (c : Dev nD) : (V m c main_v56 : S4x4x4096x64.Idx → EReal) = hostKeys (m ((c : Thread nD τ).loc main_arg3)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem slcVals_entry (c : Dev nD) : (V m c main_v58 : S4x4x64x4096.Idx → EReal) = hostVals (m ((c : Thread nD τ).loc main_arg4)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem winKeys_entry (c : Dev nD) : (V m c main_v60 : S4x4x4096x64.Idx → EReal) = hostKeys (m ((c : Thread nD τ).loc main_arg5)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem winVals_entry (c : Dev nD) : (V m c main_v62 : S4x4x64x4096.Idx → EReal) = hostVals (m ((c : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem gate_entry (c : Dev nD) : (V m c main_v32 : S4x4x12x4096.Idx → EReal) = hostGate (m ((c : Thread nD τ).loc main_arg7)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem shares_entry (c : Dev nD) : (V m c main_v39 : S64x256.Idx → EReal) = hostShares := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem spread_entry (c : Dev nD) : (V m c main_v48 : S4096x64.Idx → EReal) = hostSpread := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-! ## The blocks the points read -/

/-- The batch row, the key/value head and the tile of queries of a point. -/
def batchOf (t : Fin cfg0.N) : Fin 4 := ⟨((grid0.coords t) 0).val, ((grid0.coords t) 0).isLt⟩
def groupOf (t : Fin cfg0.N) : Fin 4 := ⟨((grid0.coords t) 1).val, ((grid0.coords t) 1).isLt⟩
def tileOf (t : Fin cfg0.N) : Fin 32 := ⟨((grid0.coords t) 2).val, ((grid0.coords t) 2).isLt⟩

theorem index0 : ∀ t : Fin cfg0.N, win0_0.index t (0 : Fin 3) = (batchOf t).val ∧ win0_0.index t (1 : Fin 3) = (tileOf t).val ∧ win0_0.index t (2 : Fin 3) = (groupOf t).val :=
  (by decide +kernel : ∀ t : Fin grid0.N, _)

theorem index1 : ∀ t : Fin cfg0.N, win0_1.index t (0 : Fin 4) = (batchOf t).val ∧ win0_1.index t (1 : Fin 4) = (groupOf t).val ∧ win0_1.index t (2 : Fin 4) = 0 ∧ win0_1.index t (3 : Fin 4) = 0 :=
  (by decide +kernel : ∀ t : Fin grid0.N, _)

theorem index2 : ∀ t : Fin cfg0.N, win0_2.index t (0 : Fin 4) = (batchOf t).val ∧ win0_2.index t (1 : Fin 4) = (groupOf t).val ∧ win0_2.index t (2 : Fin 4) = 0 ∧ win0_2.index t (3 : Fin 4) = 0 :=
  (by decide +kernel : ∀ t : Fin grid0.N, _)

theorem index3 : ∀ t : Fin cfg0.N, win0_3.index t (0 : Fin 4) = (batchOf t).val ∧ win0_3.index t (1 : Fin 4) = (groupOf t).val ∧ win0_3.index t (2 : Fin 4) = 0 ∧ win0_3.index t (3 : Fin 4) = 0 :=
  (by decide +kernel : ∀ t : Fin grid0.N, _)

theorem index4 : ∀ t : Fin cfg0.N, win0_4.index t (0 : Fin 4) = (batchOf t).val ∧ win0_4.index t (1 : Fin 4) = (groupOf t).val ∧ win0_4.index t (2 : Fin 4) = 0 ∧ win0_4.index t (3 : Fin 4) = 0 :=
  (by decide +kernel : ∀ t : Fin grid0.N, _)

theorem index5 : ∀ t : Fin cfg0.N, win0_5.index t (0 : Fin 4) = (batchOf t).val ∧ win0_5.index t (1 : Fin 4) = (groupOf t).val ∧ win0_5.index t (2 : Fin 4) = 0 ∧ win0_5.index t (3 : Fin 4) = 0 :=
  (by decide +kernel : ∀ t : Fin grid0.N, _)

theorem index6 : ∀ t : Fin cfg0.N, win0_6.index t (0 : Fin 4) = (batchOf t).val ∧ win0_6.index t (1 : Fin 4) = (groupOf t).val ∧ win0_6.index t (2 : Fin 4) = 0 ∧ win0_6.index t (3 : Fin 4) = 0 :=
  (by decide +kernel : ∀ t : Fin grid0.N, _)

theorem index7 : ∀ t : Fin cfg0.N, win0_7.index t (0 : Fin 4) = (batchOf t).val ∧ win0_7.index t (1 : Fin 4) = (groupOf t).val ∧ win0_7.index t (2 : Fin 4) = 0 ∧ win0_7.index t (3 : Fin 4) = (tileOf t).val :=
  (by decide +kernel : ∀ t : Fin grid0.N, _)

theorem index8 : ∀ t : Fin cfg0.N, win0_8.index t (0 : Fin 2) = 0 ∧ win0_8.index t (1 : Fin 2) = 0 :=
  (by decide +kernel : ∀ t : Fin grid0.N, _)

theorem index9 : ∀ t : Fin cfg0.N, win0_9.index t (0 : Fin 2) = 0 ∧ win0_9.index t (1 : Fin 2) = 0 :=
  (by decide +kernel : ∀ t : Fin grid0.N, _)

theorem index10 : ∀ t : Fin cfg0.N, win0_10.index t (0 : Fin 3) = (batchOf t).val ∧ win0_10.index t (1 : Fin 3) = (tileOf t).val ∧ win0_10.index t (2 : Fin 3) = (groupOf t).val :=
  (by decide +kernel : ∀ t : Fin grid0.N, _)

/-- The place of a block's feature among all the features. -/
def placeOf (g : Fin 4) (k : Fin 256) : Fin 1024 := ⟨g.val * 256 + k.val, by omega⟩

theorem query_block (c : Dev nD) (t : Fin cfg0.N) (u : Fin 128) (k : Fin 256) :
    (iblk m c 0 t : Vec Ideal S1x128x256 .bf16) (ix3 (0 : Fin 1) u k) = hostQuery (m ((c : Thread nD τ).loc main_arg0)) (ix3 (batchOf t) (time (grid0.coords t) u) (placeOf (groupOf t) k)) := by
  obtain ⟨e0, e1, e2⟩ := index0 t
  unfold iblk
  rw [View.read_apply]
  show (V m c main_v36 : S4x4096x1024.Idx → EReal) _ = _
  rw [query_entry]
  congr 1
  funext a
  apply Fin.ext
  match a with
  | ⟨0, _⟩ => show win0_0.index t 0 * 1 + 1 * 0 = (batchOf t).val; rw [e0]; omega
  | ⟨1, _⟩ => show win0_0.index t 1 * 128 + 1 * u.val = 128 * (tileOf t).val + u.val; rw [e1]; omega
  | ⟨2, _⟩ => show win0_0.index t 2 * 256 + 1 * k.val = (groupOf t).val * 256 + k.val; rw [e2]; omega

theorem cmpKeys_block (c : Dev nD) (t : Fin cfg0.N) (k : Fin 256) (d : Fin 64) :
    (iblk m c 1 t : Vec Ideal S1x1x256x64 .bf16) (ix4 (0 : Fin 1) (0 : Fin 1) k d) = hostCmpKeys (m ((c : Thread nD τ).loc main_arg1)) (ix4 (batchOf t) (groupOf t) k d) := by
  obtain ⟨e0, e1, e2, e3⟩ := index1 t
  unfold iblk
  rw [View.read_apply]
  show (V m c main_v51 : S4x4x256x64.Idx → EReal) _ = _
  rw [cmpKeys_entry]
  congr 1
  funext a
  apply Fin.ext
  match a with
  | ⟨0, _⟩ => show win0_1.index t 0 * 1 + 1 * 0 = (batchOf t).val; rw [e0]; omega
  | ⟨1, _⟩ => show win0_1.index t 1 * 1 + 1 * 0 = (groupOf t).val; rw [e1]; omega
  | ⟨2, _⟩ => show win0_1.index t 2 * 256 + 1 * k.val = k.val; rw [e2]; omega
  | ⟨3, _⟩ => show win0_1.index t 3 * 64 + 1 * d.val = d.val; rw [e3]; omega

theorem cmpVals_block (c : Dev nD) (t : Fin cfg0.N) (k : Fin 64) (d : Fin 256) :
    (iblk m c 2 t : Vec Ideal S1x1x64x256 .bf16) (ix4 (0 : Fin 1) (0 : Fin 1) k d) = hostCmpVals (m ((c : Thread nD τ).loc main_arg2)) (ix4 (batchOf t) (groupOf t) k d) := by
  obtain ⟨e0, e1, e2, e3⟩ := index2 t
  unfold iblk
  rw [View.read_apply]
  show (V m c main_v54 : S4x4x64x256.Idx → EReal) _ = _
  rw [cmpVals_entry]
  congr 1
  funext a
  apply Fin.ext
  match a with
  | ⟨0, _⟩ => show win0_2.index t 0 * 1 + 1 * 0 = (batchOf t).val; rw [e0]; omega
  | ⟨1, _⟩ => show win0_2.index t 1 * 1 + 1 * 0 = (groupOf t).val; rw [e1]; omega
  | ⟨2, _⟩ => show win0_2.index t 2 * 64 + 1 * k.val = k.val; rw [e2]; omega
  | ⟨3, _⟩ => show win0_2.index t 3 * 256 + 1 * d.val = d.val; rw [e3]; omega

theorem slcKeys_block (c : Dev nD) (t : Fin cfg0.N) (k : Fin 4096) (d : Fin 64) :
    (iblk m c 3 t : Vec Ideal S1x1x4096x64 .bf16) (ix4 (0 : Fin 1) (0 : Fin 1) k d) = hostKeys (m ((c : Thread nD τ).loc main_arg3)) (ix4 (batchOf t) (groupOf t) k d) := by
  obtain ⟨e0, e1, e2, e3⟩ := index3 t
  unfold iblk
  rw [View.read_apply]
  show (V m c main_v56 : S4x4x4096x64.Idx → EReal) _ = _
  rw [slcKeys_entry]
  congr 1
  funext a
  apply Fin.ext
  match a with
  | ⟨0, _⟩ => show win0_3.index t 0 * 1 + 1 * 0 = (batchOf t).val; rw [e0]; omega
  | ⟨1, _⟩ => show win0_3.index t 1 * 1 + 1 * 0 = (groupOf t).val; rw [e1]; omega
  | ⟨2, _⟩ => show win0_3.index t 2 * 4096 + 1 * k.val = k.val; rw [e2]; omega
  | ⟨3, _⟩ => show win0_3.index t 3 * 64 + 1 * d.val = d.val; rw [e3]; omega

theorem slcVals_block (c : Dev nD) (t : Fin cfg0.N) (k : Fin 64) (d : Fin 4096) :
    (iblk m c 4 t : Vec Ideal S1x1x64x4096 .bf16) (ix4 (0 : Fin 1) (0 : Fin 1) k d) = hostVals (m ((c : Thread nD τ).loc main_arg4)) (ix4 (batchOf t) (groupOf t) k d) := by
  obtain ⟨e0, e1, e2, e3⟩ := index4 t
  unfold iblk
  rw [View.read_apply]
  show (V m c main_v58 : S4x4x64x4096.Idx → EReal) _ = _
  rw [slcVals_entry]
  congr 1
  funext a
  apply Fin.ext
  match a with
  | ⟨0, _⟩ => show win0_4.index t 0 * 1 + 1 * 0 = (batchOf t).val; rw [e0]; omega
  | ⟨1, _⟩ => show win0_4.index t 1 * 1 + 1 * 0 = (groupOf t).val; rw [e1]; omega
  | ⟨2, _⟩ => show win0_4.index t 2 * 64 + 1 * k.val = k.val; rw [e2]; omega
  | ⟨3, _⟩ => show win0_4.index t 3 * 4096 + 1 * d.val = d.val; rw [e3]; omega

theorem winKeys_block (c : Dev nD) (t : Fin cfg0.N) (k : Fin 4096) (d : Fin 64) :
    (iblk m c 5 t : Vec Ideal S1x1x4096x64 .bf16) (ix4 (0 : Fin 1) (0 : Fin 1) k d) = hostKeys (m ((c : Thread nD τ).loc main_arg5)) (ix4 (batchOf t) (groupOf t) k d) := by
  obtain ⟨e0, e1, e2, e3⟩ := index5 t
  unfold iblk
  rw [View.read_apply]
  show (V m c main_v60 : S4x4x4096x64.Idx → EReal) _ = _
  rw [winKeys_entry]
  congr 1
  funext a
  apply Fin.ext
  match a with
  | ⟨0, _⟩ => show win0_5.index t 0 * 1 + 1 * 0 = (batchOf t).val; rw [e0]; omega
  | ⟨1, _⟩ => show win0_5.index t 1 * 1 + 1 * 0 = (groupOf t).val; rw [e1]; omega
  | ⟨2, _⟩ => show win0_5.index t 2 * 4096 + 1 * k.val = k.val; rw [e2]; omega
  | ⟨3, _⟩ => show win0_5.index t 3 * 64 + 1 * d.val = d.val; rw [e3]; omega

theorem winVals_block (c : Dev nD) (t : Fin cfg0.N) (k : Fin 64) (d : Fin 4096) :
    (iblk m c 6 t : Vec Ideal S1x1x64x4096 .bf16) (ix4 (0 : Fin 1) (0 : Fin 1) k d) = hostVals (m ((c : Thread nD τ).loc main_arg6)) (ix4 (batchOf t) (groupOf t) k d) := by
  obtain ⟨e0, e1, e2, e3⟩ := index6 t
  unfold iblk
  rw [View.read_apply]
  show (V m c main_v62 : S4x4x64x4096.Idx → EReal) _ = _
  rw [winVals_entry]
  congr 1
  funext a
  apply Fin.ext
  match a with
  | ⟨0, _⟩ => show win0_6.index t 0 * 1 + 1 * 0 = (batchOf t).val; rw [e0]; omega
  | ⟨1, _⟩ => show win0_6.index t 1 * 1 + 1 * 0 = (groupOf t).val; rw [e1]; omega
  | ⟨2, _⟩ => show win0_6.index t 2 * 64 + 1 * k.val = k.val; rw [e2]; omega
  | ⟨3, _⟩ => show win0_6.index t 3 * 4096 + 1 * d.val = d.val; rw [e3]; omega

theorem gate_block (c : Dev nD) (t : Fin cfg0.N) (k : Fin 12) (u : Fin 128) :
    (iblk m c 7 t : Vec Ideal S1x1x12x128 .f32) (ix4 (0 : Fin 1) (0 : Fin 1) k u) = hostGate (m ((c : Thread nD τ).loc main_arg7)) (ix4 (batchOf t) (groupOf t) k (time (grid0.coords t) u)) := by
  obtain ⟨e0, e1, e2, e3⟩ := index7 t
  unfold iblk
  rw [View.read_apply]
  show (V m c main_v32 : S4x4x12x4096.Idx → EReal) _ = _
  rw [gate_entry]
  congr 1
  funext a
  apply Fin.ext
  match a with
  | ⟨0, _⟩ => show win0_7.index t 0 * 1 + 1 * 0 = (batchOf t).val; rw [e0]; omega
  | ⟨1, _⟩ => show win0_7.index t 1 * 1 + 1 * 0 = (groupOf t).val; rw [e1]; omega
  | ⟨2, _⟩ => show win0_7.index t 2 * 12 + 1 * k.val = k.val; rw [e2]; omega
  | ⟨3, _⟩ => show win0_7.index t 3 * 128 + 1 * u.val = 128 * (tileOf t).val + u.val; rw [e3]; omega

theorem shares_block (c : Dev nD) (t : Fin cfg0.N) (k : Fin 64) (d : Fin 256) :
    (iblk m c 8 t : Vec Ideal S64x256 .bf16) (ix2 k d) = hostShares (ix2 k d) := by
  obtain ⟨e0, e1⟩ := index8 t
  unfold iblk
  rw [View.read_apply]
  show (V m c main_v39 : S64x256.Idx → EReal) _ = _
  rw [shares_entry]
  congr 1
  funext a
  apply Fin.ext
  match a with
  | ⟨0, _⟩ => show win0_8.index t 0 * 64 + 1 * k.val = k.val; rw [e0]; omega
  | ⟨1, _⟩ => show win0_8.index t 1 * 256 + 1 * d.val = d.val; rw [e1]; omega

theorem spread_block (c : Dev nD) (t : Fin cfg0.N) (k : Fin 4096) (d : Fin 64) :
    (iblk m c 9 t : Vec Ideal S4096x64 .bf16) (ix2 k d) = hostSpread (ix2 k d) := by
  obtain ⟨e0, e1⟩ := index9 t
  unfold iblk
  rw [View.read_apply]
  show (V m c main_v48 : S4096x64.Idx → EReal) _ = _
  rw [spread_entry]
  congr 1
  funext a
  apply Fin.ext
  match a with
  | ⟨0, _⟩ => show win0_9.index t 0 * 4096 + 1 * k.val = k.val; rw [e0]; omega
  | ⟨1, _⟩ => show win0_9.index t 1 * 64 + 1 * d.val = d.val; rw [e1]; omega

end Cert.Nsa

end
-- ==== Proof.NsaValue.lean ====
module

public import proofs.«01_k».proof.Proof.NsaEntry

/-!
# What the attention kernel leaves in its result array

The points' blocks tile the result, and each holds the reference's attention at its rows and features.
-/

@[expose] public section

set_option maxRecDepth 100000

noncomputable section

namespace Cert.Nsa

open Idealize.ShloMosaic Idealize.ShloMosaic.TcCoe Idealize.SL.Sem Cert.KernelNsaIdeal Cert.KernelNsaIdeal.Gen Cert.KernelNsaIdeal.Value
open Cert.NsaRef (qOf cOf rOf ovOf gateOf)

variable (m : (ℓ : Loc nD τ sig) → Buf (Elt Ideal) ℓ)

/-- The kernel's arguments, as arrays of extended reals. -/
abbrev a0 (c : Dev nD) : S4x4096x16x64.Idx → EReal := m ((c : Thread nD τ).loc main_arg0)
abbrev a1 (c : Dev nD) : S4x255x4x64.Idx → EReal := m ((c : Thread nD τ).loc main_arg1)
abbrev a2 (c : Dev nD) : S4x255x4x64.Idx → EReal := m ((c : Thread nD τ).loc main_arg2)
abbrev a3 (c : Dev nD) : S4x4096x4x64.Idx → EReal := m ((c : Thread nD τ).loc main_arg3)
abbrev a4 (c : Dev nD) : S4x4096x4x64.Idx → EReal := m ((c : Thread nD τ).loc main_arg4)
abbrev a5 (c : Dev nD) : S4x4096x4x64.Idx → EReal := m ((c : Thread nD τ).loc main_arg5)
abbrev a6 (c : Dev nD) : S4x4096x4x64.Idx → EReal := m ((c : Thread nD τ).loc main_arg6)
abbrev a7 (c : Dev nD) : S4x4096x48.Idx → EReal := m ((c : Thread nD τ).loc main_arg7)

/-- The queries, the keys of the selected branch and those of the window branch are real numbers. -/
def AllReal : Prop := ∀ c : Dev nD, (∀ i, a0 m c i ≠ ⊤ ∧ a0 m c i ≠ ⊥) ∧ (∀ i, a3 m c i ≠ ⊤ ∧ a3 m c i ≠ ⊥) ∧ (∀ i, a5 m c i ≠ ⊤ ∧ a5 m c i ≠ ⊥)

/-- The whole result. -/
def attended (c : Dev nD) : Buf (Elt Ideal) ((c : Thread nD τ).loc main_v63) :=
  (Cert.ReferenceNsaIdeal.Read.val_main_v232 (F := Ideal) (a0 m c) (a1 m c) (a2 m c) (a3 m c) (a4 m c) (a5 m c) (a6 m c) (a7 m c) : S4x4096x1024.Idx → EReal)

theorem place_feature (g r : Fin 4) (d : Fin 64) : placeOf g (feature r d) = allFeature g r d :=
  Fin.ext (by simp only [placeOf, feature, allFeature]; omega)

/-- The block a point stores. -/
abbrev stored (c : Dev nD) (t : Fin cfg0.N) : Vec Ideal S1x128x256 .f32 :=
  blockOut (grid0.coords t) (iblk m c 0 t) (iblk m c 1 t) (iblk m c 2 t) (iblk m c 3 t) (iblk m c 4 t) (iblk m c 5 t) (iblk m c 6 t) (iblk m c 7 t)
    (iblk m c 8 t) (iblk m c 9 t)

/-- An entry of it. -/
theorem stored_at (hr : AllReal m) (c : Dev nD) (t : Fin cfg0.N) (u : Fin 128) (r : Fin 4) (d : Fin 64) :
    stored m c t (ix3 (0 : Fin 1) u (feature r d))
      = Cert.ReferenceNsaIdeal.Read.val_main_v232 (F := Ideal) (a0 m c) (a1 m c) (a2 m c) (a3 m c) (a4 m c) (a5 m c) (a6 m c) (a7 m c)
        (ix3 (batchOf t) (time (grid0.coords t) u) (allFeature (groupOf t) r d)) := by
  refine Eq.trans ?_ (Cert.NsaRef.v232_at (a0 m c) (a1 m c) (a2 m c) (a3 m c) (a4 m c) (a5 m c) (a6 m c) (a7 m c)
    (batchOf t) (time (grid0.coords t) u) (groupOf t) r d).symm
  obtain ⟨r0, r3, r5⟩ := hr c
  refine blockOut_eq (grid0.coords t) u _ _ _ _ _ _ _ _ _ _ _ _ _ _ _ _ _ _ _ ?_ ?_ ?_ ?_ ?_ ?_ ?_ ?_ ?_ ?_ ?_ ?_ ?_ ?_ r d
  · intro r d
    rw [query_block, place_feature, hostQuery_at]
    rfl
  · intro n d
    rw [cmpKeys_block, hostCmpKeys_at]
    rfl
  · intro n d
    rw [cmpVals_block, hostCmpVals_at]
    rfl
  · intro k d
    rw [slcKeys_block, hostKeys_at]
    rfl
  · intro k d
    rw [slcVals_block, hostVals_at]
    rfl
  · intro k d
    rw [winKeys_block, hostKeys_at]
    rfl
  · intro k d
    rw [winVals_block, hostVals_at]
    rfl
  · intro r e
    rw [gate_block, hostGate_at]
    rfl
  · intro n j
    rw [shares_block, hostShares_at, refShares_at]
  · intro k j
    rw [spread_block, hostSpread_at]
  · exact fun r d => r0 _
  · exact fun k d => r3 _
  · exact fun k d => r5 _
  · intro n j
    rw [refShares_at]
    exact share_le n j

/-- What a point writes back is its block of the whole. -/
theorem attended_block (hr : AllReal m) (c : Dev nD) (t : Fin cfg0.N) :
    (dats m 0 c).flushed 10 t = ((cfg0.win 10).blk t).view.read (Elt Ideal) (attended m c) := by
  rw [flushed10_A, out_eq]
  obtain ⟨e0, e1, e2⟩ := index10 t
  funext y
  obtain ⟨z, u, k, rfl⟩ : ∃ (z : Fin 1) (u : Fin 128) (k : Fin 256), y = ix3 z u k := ⟨y 0, y 1, y 2, eq_ix3 y⟩
  obtain rfl : z = 0 := Subsingleton.elim _ _
  have hk := k.isLt
  obtain ⟨r, d, rfl⟩ : ∃ (r : Fin 4) (d : Fin 64), k = feature r d :=
    ⟨⟨k.val / 64, by omega⟩, ⟨k.val % 64, by omega⟩, Fin.ext (by simp only [feature]; omega)⟩
  rw [View.read_apply]
  show stored m c t (ix3 0 u (feature r d)) = attended m c (((cfg0.win 10).blk t).view.emb (ix3 0 u (feature r d)))
  rw [stored_at m hr]
  unfold attended
  congr 1
  funext a
  apply Fin.ext
  match a with
  | ⟨0, _⟩ => show (batchOf t).val = win0_10.index t 0 * 1 + 1 * 0; rw [e0]; omega
  | ⟨1, _⟩ => show 128 * (tileOf t).val + u.val = win0_10.index t 1 * 128 + 1 * u.val; rw [e1]; omega
  | ⟨2, _⟩ => show (groupOf t).val * 256 + r.val * 64 + d.val = win0_10.index t 2 * 256 + 1 * (r.val * 64 + d.val); rw [e2]; omega

/-- Every point of the grid is met. -/
theorem point_at : ∀ (b g : Fin 4) (i : Fin 32), ∃ t : Fin cfg0.N, batchOf t = b ∧ groupOf t = g ∧ tileOf t = i := by
  intro b g i
  have hb := b.isLt
  have hg := g.isLt
  have hi := i.isLt
  refine ⟨⟨b.val * 128 + g.val * 32 + i.val, lt_of_lt_of_eq (by omega : _ < 512) N_0.symm⟩, ?_⟩
  revert b g i
  decide +kernel

/-- The array after the run: the points' blocks tile it. -/
theorem attended_array (hr : AllReal m) (c : Dev nD) : (dats m 0 c).arrAt 10 cfg0.N = attended m c :=
  (dats m 0 c).arrAt_eq_of_cover 10 _ (fun t _ => attended_block m hr c t) fun i => by
    have h0 : (i 0).val < 4 := (i 0).isLt
    have h1 : (i 1).val < 4096 := (i 1).isLt
    have h2 : (i 2).val < 1024 := (i 2).isLt
    obtain ⟨t, hb, hg, hi⟩ := point_at ⟨(i 0).val, h0⟩ ⟨(i 2).val / 256, by omega⟩ ⟨(i 1).val / 128, by omega⟩
    obtain ⟨e0, e1, e2⟩ := index10 t
    rw [hb] at e0
    rw [hi] at e1
    rw [hg] at e2
    simp only at e0 e1 e2
    refine ⟨t, (by decide +kernel : ∀ t : Fin grid0.N, (cfg0.win 10).flush t = true) _, ?_⟩
    show i ∈ ((View.whole main_v63).slice (win0_10.rect t)).set
    rw [View.set_slice_whole, Rect.mem_set_unit]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 128 ≤ (i 1).val ∧ (i 1).val < win0_10.index t (1 : Fin 3) * 128 + 128; omega
    | ⟨2, _⟩ => show win0_10.index t (2 : Fin 3) * 256 ≤ (i 2).val ∧ (i 2).val < win0_10.index t (2 : Fin 3) * 256 + 256; omega

end Cert.Nsa

end
-- ==== Proof.NsaProof.lean ====
module

public import proofs.«01_k».proof.Proof.NsaValue
public import proofs.«01_k».proof.Defs
public import proofs.«01_k».proof.Proof.Gen.Pre_finite
public import proofs.«01_k».proof.Proof.Gen.ReferenceNsaIdeal.Run
public import Idealize.ShloMosaic.Lib.Quiescent

/-!
The claims of the sparse attention, assembled.
-/

@[expose] public section

set_option maxRecDepth 100000

noncomputable section

namespace Cert.Nsa

open Idealize.ShloMosaic Idealize.ShloMosaic.TcCoe Idealize.SL.Sem

/-- An array whose absolute values are all below ⊤, as the precondition writes it, holds real numbers. -/
theorem real_entries {S : Shape} (hb : Shape.BroadcastsInDim ⟨0, ![]⟩ S (![] : Fin 0 → Fin S.rank)) (x : FVec Ideal S .f32)
    (h : cmpf .olt (Host.absf x) (broadcastInDim S ![] hb (constant (F := Ideal) ⟨0, ![]⟩ .f32 0x7F800000#32)) = fun _ => 1#1) (i : S.Idx) :
    (x i : EReal) ≠ ⊤ ∧ (x i : EReal) ≠ ⊥ := by
  have hi : BitVec.ofBool (decide (max (x i : EReal) (-(x i : EReal)) < Ideal.ofBits .f32 0x7F800000#32)) = 1#1 := congrFun h i
  rw [top32] at hi
  refine real_of_abs_lt ?_
  by_contra hc
  rw [decide_eq_false hc] at hi
  exact absurd hi (by decide)

/-- The precondition says the queries and the two branches' keys are real. -/
theorem all_real (m : (ℓ : Loc Cert.KernelNsaIdeal.nD Cert.KernelNsaIdeal.τ Cert.KernelNsaIdeal.sig) → Buf (Elt Ideal) ℓ)
    (h : Cert.Pre_KernelNsaIdeal_finite m) : AllReal m := fun c =>
  ⟨real_entries _ _ (h c).1, real_entries _ _ (h c).2.1, real_entries _ _ (h c).2.2⟩

/-- The mask constant stands for −∞. -/
theorem preserves : Cert.preserves_KernelNsa_KernelNsaIdeal := IdealRules.named_const.statement _ _ _ _ _ rfl

/-- The reference terminates, its arguments unchanged. -/
theorem reference_frame : Cert.quiescent_ReferenceNsaIdeal := fun m ρ _ =>
  (θ_run _ _ _).mono (fun r h => ⟨fun c => (h c).2, sem_eq_zero_of_no_sems (by decide) r.2⟩) (Cert.ReferenceNsaIdeal.Value.run m ρ)

theorem reference_frame_finite : Cert.quiescent_ReferenceNsaIdeal_pre_finite := fun m ρ _ =>
  (θ_run _ _ _).mono (fun r h => ⟨fun c => (h c).2, sem_eq_zero_of_no_sems (by decide) r.2⟩) (Cert.ReferenceNsaIdeal.Value.run m ρ)

/-- Equal arguments give the reference equal results. -/
theorem same_result {x0 y0 : Cert.ReferenceNsaIdeal.S4x4096x16x64.Idx → EReal} {x1 y1 x2 y2 : Cert.ReferenceNsaIdeal.S4x255x4x64.Idx → EReal}
    {x3 y3 x4 y4 x5 y5 x6 y6 : Cert.ReferenceNsaIdeal.S4x4096x4x64.Idx → EReal} {x7 y7 : Cert.ReferenceNsaIdeal.S4x4096x48.Idx → EReal}
    (h0 : x0 = y0) (h1 : x1 = y1) (h2 : x2 = y2) (h3 : x3 = y3) (h4 : x4 = y4) (h5 : x5 = y5) (h6 : x6 = y6) (h7 : x7 = y7) :
    Cert.ReferenceNsaIdeal.Read.val_main_v232 (F := Ideal) x0 x1 x2 x3 x4 x5 x6 x7
      = Cert.ReferenceNsaIdeal.Read.val_main_v232 (F := Ideal) y0 y1 y2 y3 y4 y5 y6 y7 := by
  rw [h0, h1, h2, h3, h4, h5, h6, h7]

/-- Kernel and reference end with the same array of extended reals. -/
theorem algebraic : Cert.algebraic_KernelNsaIdeal_ReferenceNsaIdeal_pre_finite := by
  intro m ρ m' ρ' hp hag
  have hr := all_real m hp
  refine ⟨fun c => attended m c,
    (θ_run _ _ _).mono (fun r h c => ⟨(h c).1.trans (attended_array m hr c), (h c).2⟩) (Cert.KernelNsaIdeal.Value.run_blocks m ρ),
    (θ_run _ _ _).mono (fun r h c => ⟨(h c).1.trans ?_, (h c).2⟩) (Cert.ReferenceNsaIdeal.Value.run m' ρ')⟩
  obtain ⟨h0, h1, h2, h3, h4, h5, h6, h7⟩ := hag c
  rw [Cert.ReferenceNsaIdeal.Read.val_main_v232_eq]
  exact same_result h0 h1 h2 h3 h4 h5 h6 h7

end Cert.Nsa

end
-- ==== Proof.lean ====
module

public import proofs.«01_k».proof.Defs
public import proofs.«01_k».proof.Proof.InProof
public import proofs.«01_k».proof.Proof.OutProof
public import proofs.«01_k».proof.Proof.NsaProof
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelNsa
public import proofs.«01_k».proof.Proof.Gen.KernelNsa.Frame
public import proofs.«01_k».proof.Proof.Gen.KernelNsaIdeal
public import proofs.«01_k».proof.Proof.Gen.KernelNsaIdeal.Frame
public import proofs.«01_k».proof.Proof.Gen.KernelNsaIdeal.Value
public import proofs.«01_k».proof.Proof.Gen.ReferenceNsaIdeal
public import proofs.«01_k».proof.Proof.Gen.ReferenceNsaIdeal.Run
public import proofs.«01_k».proof.Proof.Gen.ReferenceNsaIdeal.Read
public import proofs.«01_k».proof.Proof.Gen.KernelGdn
public import proofs.«01_k».proof.Proof.Gen.KernelGdn.Frame
public import proofs.«01_k».proof.Proof.Gen.KernelGdnIdeal
public import proofs.«01_k».proof.Proof.Gen.KernelGdnIdeal.Frame
public import proofs.«01_k».proof.Proof.Gen.Pre_finite

@[expose] public section

noncomputable section

namespace Cert.Proof

open Idealize.ShloMosaic Idealize.SL.Sem

/-- Everything claimed: both projections, the sparse attention and the gated delta-net terminate and keep their arguments, as
    printed and over the extended reals, and over the extended reals the first three leave what their references leave. -/
theorem claim : Cert.Claim := ⟨Cert.KernelIn.Gen.facts, Cert.KernelInIdeal.Gen.facts, Cert.ReferenceInIdeal.Gen.facts, Cert.KernelOut.Gen.facts, Cert.KernelOutIdeal.Gen.facts, Cert.ReferenceOutIdeal.Gen.facts,
  Cert.KernelNsa.Gen.facts, Cert.KernelNsaIdeal.Gen.facts, Cert.ReferenceNsaIdeal.Gen.facts,
  Cert.KernelGdn.Gen.facts, Cert.KernelGdnIdeal.Gen.facts, Cert.Pre_finite.Gen.facts,
  fun m ρ _ => Cert.KernelIn.Gen.frame m ρ, fun m ρ _ => Cert.KernelInIdeal.Gen.frame m ρ, Cert.InProj.reference_frame,
  fun m ρ _ => Cert.KernelOut.Gen.frame m ρ, fun m ρ _ => Cert.KernelOutIdeal.Gen.frame m ρ, Cert.OutProj.reference_frame,
  fun m ρ _ => Cert.KernelNsa.Gen.frame m ρ, fun m ρ _ => Cert.KernelNsaIdeal.Gen.frame m ρ, fun m ρ _ => Cert.KernelNsaIdeal.Gen.frame m ρ,
  Cert.Nsa.reference_frame, Cert.Nsa.reference_frame_finite,
  fun m ρ _ => Cert.KernelGdn.Gen.frame m ρ, fun m ρ _ => Cert.KernelGdnIdeal.Gen.frame m ρ,
  trivial, Cert.InProj.algebraic, trivial, Cert.OutProj.algebraic, Cert.Nsa.preserves, Cert.Nsa.algebraic, trivial⟩

end Cert.Proof

end
